-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_5)) (v1 : (c : Dev Cert.Kernel2Ideal.nD) → Buf (Elt Ideal) ((c.tc : Thread Cert.Kernel2Ideal.nD Cert.Kernel2Ideal.τ).loc Cert.Kernel2Ideal.main_v0_0)) (v2 : (c : Dev Cert.Kernel2Ideal.nD) → Buf (Elt Ideal) ((c.tc : Thread Cert.Kernel2Ideal.nD Cert.Kernel2Ideal.τ).loc Cert.Kernel2Ideal.main_v0_7)) (v3 : (c : Dev Cert.Kernel2Ideal.nD) → Buf (Elt Ideal) ((c.tc : Thread Cert.Kernel2Ideal.nD Cert.Kernel2Ideal.τ).loc Cert.Kernel2Ideal.main_v0_6)) (v4 : (c : Dev Cert.Kernel2Ideal.nD) → Buf (Elt Ideal) ((c.tc : Thread Cert.Kernel2Ideal.nD Cert.Kernel2Ideal.τ).loc Cert.Kernel2Ideal.main_v0_1)) (v5 : (c : Dev Cert.Kernel2Ideal.nD) → Buf (Elt Ideal) ((c.tc : Thread Cert.Kernel2Ideal.nD Cert.Kernel2Ideal.τ).loc Cert.Kernel2Ideal.main_v0_2)) (v6 : (c : Dev Cert.Kernel2Ideal.nD) → Buf (Elt Ideal) ((c.tc : Thread Cert.Kernel2Ideal.nD Cert.Kernel2Ideal.τ).loc Cert.Kernel2Ideal.main_v0_3)) (v7 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_5) = v0 c
          ∧ r.2.mem ((c.tc : Thread Cert.Kernel2Ideal.nD Cert.Kernel2Ideal.τ).loc Cert.Kernel2Ideal.main_v0_0) = v1 c
          ∧ r.2.mem ((c.tc : Thread Cert.Kernel2Ideal.nD Cert.Kernel2Ideal.τ).loc Cert.Kernel2Ideal.main_v0_7) = v2 c
          ∧ r.2.mem ((c.tc : Thread Cert.Kernel2Ideal.nD Cert.Kernel2Ideal.τ).loc Cert.Kernel2Ideal.main_v0_6) = v3 c
          ∧ r.2.mem ((c.tc : Thread Cert.Kernel2Ideal.nD Cert.Kernel2Ideal.τ).loc Cert.Kernel2Ideal.main_v0_1) = v4 c
          ∧ r.2.mem ((c.tc : Thread Cert.Kernel2Ideal.nD Cert.Kernel2Ideal.τ).loc Cert.Kernel2Ideal.main_v0_2) = v5 c
          ∧ r.2.mem ((c.tc : Thread Cert.Kernel2Ideal.nD Cert.Kernel2Ideal.τ).loc Cert.Kernel2Ideal.main_v0_3) = v6 c
          ∧ r.2.mem ((c.tc : Thread Cert.Kernel2Ideal.nD Cert.Kernel2Ideal.τ).loc Cert.Kernel2Ideal.main_v0_4) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v93) = v1 c
          ∧ r.2.mem ((c.tc : Thread Cert.Reference2Ideal.nD Cert.Reference2Ideal.τ).loc Cert.Reference2Ideal.main_v76) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_v94) = v4 c
          ∧ r.2.mem ((c.tc : Thread Cert.Reference2Ideal.nD Cert.Reference2Ideal.τ).loc Cert.Reference2Ideal.main_v96) = v5 c
          ∧ r.2.mem ((c.tc : Thread Cert.Reference2Ideal.nD Cert.Reference2Ideal.τ).loc Cert.Reference2Ideal.main_v98) = v6 c
          ∧ r.2.mem ((c.tc : Thread Cert.Reference2Ideal.nD Cert.Reference2Ideal.τ).loc Cert.Reference2Ideal.main_v99) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_2)) (v2 : (c : Dev Cert.Kernel5Ideal.nD) → Buf (Elt Ideal) ((c.tc : Thread Cert.Kernel5Ideal.nD Cert.Kernel5Ideal.τ).loc Cert.Kernel5Ideal.main_v0_4)) (v3 : (c : Dev Cert.Kernel5Ideal.nD) → Buf (Elt Ideal) ((c.tc : Thread Cert.Kernel5Ideal.nD Cert.Kernel5Ideal.τ).loc Cert.Kernel5Ideal.main_v0_5)) (v4 : (c : Dev Cert.Kernel5Ideal.nD) → Buf (Elt Ideal) ((c.tc : Thread Cert.Kernel5Ideal.nD Cert.Kernel5Ideal.τ).loc Cert.Kernel5Ideal.main_v0_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_2) = v1 c
          ∧ r.2.mem ((c.tc : Thread Cert.Kernel5Ideal.nD Cert.Kernel5Ideal.τ).loc Cert.Kernel5Ideal.main_v0_4) = v2 c
          ∧ r.2.mem ((c.tc : Thread Cert.Kernel5Ideal.nD Cert.Kernel5Ideal.τ).loc Cert.Kernel5Ideal.main_v0_5) = v3 c
          ∧ r.2.mem ((c.tc : Thread Cert.Kernel5Ideal.nD Cert.Kernel5Ideal.τ).loc Cert.Kernel5Ideal.main_v0_6) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v91) = v0 c
          ∧ r.2.mem ((c.tc : Thread Cert.Reference5Ideal.nD Cert.Reference5Ideal.τ).loc Cert.Reference5Ideal.main_v92) = v1 c
          ∧ r.2.mem ((c.tc : Thread Cert.Reference5Ideal.nD Cert.Reference5Ideal.τ).loc Cert.Reference5Ideal.main_v2) = v2 c
          ∧ r.2.mem ((c.tc : Thread Cert.Reference5Ideal.nD Cert.Reference5Ideal.τ).loc Cert.Reference5Ideal.main_v74) = v3 c
          ∧ r.2.mem ((c.tc : Thread Cert.Reference5Ideal.nD Cert.Reference5Ideal.τ).loc Cert.Reference5Ideal.main_v55) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_5)) (v4 : (c : Dev Cert.Kernel6Ideal.nD) → Buf (Elt Ideal) ((c.tc : Thread Cert.Kernel6Ideal.nD Cert.Kernel6Ideal.τ).loc Cert.Kernel6Ideal.main_v0_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_5) = v3 c
          ∧ r.2.mem ((c.tc : Thread Cert.Kernel6Ideal.nD Cert.Kernel6Ideal.τ).loc Cert.Kernel6Ideal.main_v0_8) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_v24) = v3 c
          ∧ r.2.mem ((c.tc : Thread Cert.Reference6Ideal.nD Cert.Reference6Ideal.τ).loc Cert.Reference6Ideal.main_v26) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)) (v7 : (c : Dev Cert.Kernel7Ideal.nD) → Buf (Elt Ideal) ((c.tc : Thread Cert.Kernel7Ideal.nD Cert.Kernel7Ideal.τ).loc Cert.Kernel7Ideal.main_v0_7)) (v8 : (c : Dev Cert.Kernel7Ideal.nD) → Buf (Elt Ideal) ((c.tc : Thread Cert.Kernel7Ideal.nD Cert.Kernel7Ideal.τ).loc Cert.Kernel7Ideal.main_v0_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_v0_7) = v7 c
          ∧ r.2.mem ((c.tc : Thread Cert.Kernel7Ideal.nD Cert.Kernel7Ideal.τ).loc Cert.Kernel7Ideal.main_v0_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v4) = v3 c
          ∧ r.2.mem ((c.tc : Thread Cert.Reference7Ideal.nD Cert.Reference7Ideal.τ).loc Cert.Reference7Ideal.main_v28) = v4 c
          ∧ r.2.mem ((c.tc : Thread Cert.Reference7Ideal.nD Cert.Reference7Ideal.τ).loc Cert.Reference7Ideal.main_v52) = v5 c
          ∧ r.2.mem ((c.tc : Thread Cert.Reference7Ideal.nD Cert.Reference7Ideal.τ).loc Cert.Reference7Ideal.main_v10) = v6 c
          ∧ r.2.mem ((c.tc : Thread Cert.Reference7Ideal.nD Cert.Reference7Ideal.τ).loc Cert.Reference7Ideal.main_v34) = v7 c
          ∧ r.2.mem ((c.tc : Thread Cert.Reference7Ideal.nD Cert.Reference7Ideal.τ).loc Cert.Reference7Ideal.main_v58) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)) (v8 : (c : Dev Cert.Kernel11Ideal.nD) → Buf (Elt Ideal) ((c.tc : Thread Cert.Kernel11Ideal.nD Cert.Kernel11Ideal.τ).loc Cert.Kernel11Ideal.main_v0_8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_v0_8) = v8 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v47) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v4) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_v52) = v5 c
          ∧ r.2.mem ((c.tc : Thread Cert.Reference11Ideal.nD Cert.Reference11Ideal.τ).loc Cert.Reference11Ideal.main_v10) = v6 c
          ∧ r.2.mem ((c.tc : Thread Cert.Reference11Ideal.nD Cert.Reference11Ideal.τ).loc Cert.Reference11Ideal.main_v34) = v7 c
          ∧ r.2.mem ((c.tc : Thread Cert.Reference11Ideal.nD Cert.Reference11Ideal.τ).loc Cert.Reference11Ideal.main_v58) = v8 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)) (v8 : (c : Dev Cert.Kernel12Ideal.nD) → Buf (Elt Ideal) ((c.tc : Thread Cert.Kernel12Ideal.nD Cert.Kernel12Ideal.τ).loc Cert.Kernel12Ideal.main_v0_8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_v0_8) = v8 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v71) = v2 c
          ∧ r.2.mem ((c.tc : Thread Cert.Reference12Ideal.nD Cert.Reference12Ideal.τ).loc Cert.Reference12Ideal.main_v4) = v3 c
          ∧ r.2.mem ((c.tc : Thread Cert.Reference12Ideal.nD Cert.Reference12Ideal.τ).loc Cert.Reference12Ideal.main_v28) = v4 c
          ∧ r.2.mem ((c.tc : Thread Cert.Reference12Ideal.nD Cert.Reference12Ideal.τ).loc Cert.Reference12Ideal.main_v52) = v5 c
          ∧ r.2.mem ((c.tc : Thread Cert.Reference12Ideal.nD Cert.Reference12Ideal.τ).loc Cert.Reference12Ideal.main_v10) = v6 c
          ∧ r.2.mem ((c.tc : Thread Cert.Reference12Ideal.nD Cert.Reference12Ideal.τ).loc Cert.Reference12Ideal.main_v34) = v7 c
          ∧ r.2.mem ((c.tc : Thread Cert.Reference12Ideal.nD Cert.Reference12Ideal.τ).loc Cert.Reference12Ideal.main_v58) = v8 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v6)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v65) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Kernel.lean ====
abbrev S8192x512 : Shape := ⟨2, ![8192, 512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S8x512 : Shape := ⟨2, ![8, 512]⟩
abbrev S1024x512 : Shape := ⟨2, ![1024, 512]⟩
abbrev S512 : Shape := ⟨1, ![512]⟩
abbrev S1x64x1x64 : Shape := ⟨4, ![1, 64, 1, 64]⟩
abbrev S64x64 : Shape := ⟨2, ![64, 64]⟩
abbrev S1x64x64 : Shape := ⟨3, ![1, 64, 64]⟩

abbrev nBuf : Space → Nat
  | .hbm => 95
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8x64x64, .f32⟩
  | .hbm, ⟨3, _⟩ => ⟨S1x512, .f32⟩
  | .hbm, ⟨4, _⟩ => ⟨S8x64x64, .f32⟩
  | .hbm, ⟨5, _⟩ => ⟨S1x512, .f32⟩
  | .hbm, ⟨6, _⟩ => ⟨S1x512, .f32⟩
  | .hbm, ⟨7, _⟩ => ⟨S8192x512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x64x1x64, .f32⟩
  | .hbm, ⟨16, _⟩ => ⟨S8x1x8x1, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S512x512, .bf16⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S8x8, .f32⟩
  | .hbm, ⟨29, _⟩ => ⟨S8x64x1x64, .f32⟩
  | .hbm, ⟨30, _⟩ => ⟨S8x1x8x1, .f32⟩
  | .hbm, ⟨31, _⟩ => ⟨S8x64x8x64, .f32⟩
  | .hbm, ⟨32, _⟩ => ⟨S8x64x8x64, .f32⟩
  | .hbm, ⟨33, _⟩ => ⟨S8x64x8x64, .f32⟩
  | .hbm, ⟨34, _⟩ => ⟨S512x512, .f32⟩
  | .hbm, ⟨35, _⟩ => ⟨S512x512, .bf16⟩
  | .hbm, ⟨36, _⟩ => ⟨S8192x512, .f32⟩
  | .hbm, ⟨37, _⟩ => ⟨S512x512, .f32⟩
  | .hbm, ⟨38, _⟩ => ⟨S512x512, .f32⟩
  | .hbm, ⟨39, _⟩ => ⟨S8x512, .f32⟩
  | .hbm, ⟨40, _⟩ => ⟨S8x64x8x64, .f32⟩
  | .hbm, ⟨41, _⟩ => ⟨S1x64x1x64, .f32⟩
  | .hbm, ⟨42, _⟩ => ⟨S64x64, .f32⟩
  | .hbm, ⟨43, _⟩ => ⟨S1x64x1x64, .f32⟩
  | .hbm, ⟨44, _⟩ => ⟨S64x64, .f32⟩
  | .hbm, ⟨45, _⟩ => ⟨S1x64x1x64, .f32⟩
  | .hbm, ⟨46, _⟩ => ⟨S64x64, .f32⟩
  | .hbm, ⟨47, _⟩ => ⟨S1x64x1x64, .f32⟩
  | .hbm, ⟨48, _⟩ => ⟨S64x64, .f32⟩
  | .hbm, ⟨49, _⟩ => ⟨S1x64x1x64, .f32⟩
  | .hbm, ⟨50, _⟩ => ⟨S64x64, .f32⟩
  | .hbm, ⟨51, _⟩ => ⟨S1x64x1x64, .f32⟩
  | .hbm, ⟨52, _⟩ => ⟨S64x64, .f32⟩
  | .hbm, ⟨53, _⟩ => ⟨S1x64x1x64, .f32⟩
  | .hbm, ⟨54, _⟩ => ⟨S64x64, .f32⟩
  | .hbm, ⟨55, _⟩ => ⟨S1x64x1x64, .f32⟩
  | .hbm, ⟨56, _⟩ => ⟨S64x64, .f32⟩
  | .hbm, ⟨57, _⟩ => ⟨S1x64x64, .f32⟩
  | .hbm, ⟨58, _⟩ => ⟨S1x64x64, .f32⟩
  | .hbm, ⟨59, _⟩ => ⟨S1x64x64, .f32⟩
  | .hbm, ⟨60, _⟩ => ⟨S1x64x64, .f32⟩
  | .hbm, ⟨61, _⟩ => ⟨S1x64x64, .f32⟩
  | .hbm, ⟨62, _⟩ => ⟨S1x64x64, .f32⟩
  | .hbm, ⟨63, _⟩ => ⟨S1x64x64, .f32⟩
  | .hbm, ⟨64, _⟩ => ⟨S1x64x64, .f32⟩
  | .hbm, ⟨65, _⟩ => ⟨S8x64x64, .f32⟩
  | .hbm, ⟨66, _⟩ => ⟨S1x512, .f32⟩
  | .hbm, ⟨67, _⟩ => ⟨S8x64x8x64, .f32⟩
  | .hbm, ⟨68, _⟩ => ⟨S1x64x1x64, .f32⟩
  | .hbm, ⟨69, _⟩ => ⟨S64x64, .f32⟩
  | .hbm, ⟨70, _⟩ => ⟨S1x64x1x64, .f32⟩
  | .hbm, ⟨71, _⟩ => ⟨S64x64, .f32⟩
  | .hbm, ⟨72, _⟩ => ⟨S1x64x1x64, .f32⟩
  | .hbm, ⟨73, _⟩ => ⟨S64x64, .f32⟩
  | .hbm, ⟨74, _⟩ => ⟨S1x64x1x64, .f32⟩
  | .hbm, ⟨75, _⟩ => ⟨S64x64, .f32⟩
  | .hbm, ⟨76, _⟩ => ⟨S1x64x1x64, .f32⟩
  | .hbm, ⟨77, _⟩ => ⟨S64x64, .f32⟩
  | .hbm, ⟨78, _⟩ => ⟨S1x64x1x64, .f32⟩
  | .hbm, ⟨79, _⟩ => ⟨S64x64, .f32⟩
  | .hbm, ⟨80, _⟩ => ⟨S1x64x1x64, .f32⟩
  | .hbm, ⟨81, _⟩ => ⟨S64x64, .f32⟩
  | .hbm, ⟨82, _⟩ => ⟨S1x64x1x64, .f32⟩
  | .hbm, ⟨83, _⟩ => ⟨S64x64, .f32⟩
  | .hbm, ⟨84, _⟩ => ⟨S1x64x64, .f32⟩
  | .hbm, ⟨85, _⟩ => ⟨S1x64x64, .f32⟩
  | .hbm, ⟨86, _⟩ => ⟨S1x64x64, .f32⟩
  | .hbm, ⟨87, _⟩ => ⟨S1x64x64, .f32⟩
  | .hbm, ⟨88, _⟩ => ⟨S1x64x64, .f32⟩
  | .hbm, ⟨89, _⟩ => ⟨S1x64x64, .f32⟩
  | .hbm, ⟨90, _⟩ => ⟨S1x64x64, .f32⟩
  | .hbm, ⟨91, _⟩ => ⟨S1x64x64, .f32⟩
  | .hbm, ⟨92, _⟩ => ⟨S8x64x64, .f32⟩
  | .hbm, ⟨93, _⟩ => ⟨S1x512, .f32⟩
  | .hbm, ⟨94, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S1024x512, .f32⟩
  | .local _ .vmem, ⟨7, _⟩ => ⟨S1024x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | .local _ .vmem, ⟨15, _⟩ => ⟨S512x512, .f32⟩
  | .local _ .vmem, ⟨16, _⟩ => ⟨S512x512, .f32⟩
  | .local _ .vmem, ⟨17, _⟩ => ⟨S8x512, .f32⟩
  | .local _ .vmem, ⟨18, _⟩ => ⟨S1024x512, .f32⟩
  | .local _ .vmem, ⟨19, _⟩ => ⟨S1024x512, .f32⟩
  | .local _ .vmem, ⟨20, _⟩ => ⟨S8x512, .f32⟩
  | .local _ .vmem, ⟨21, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_46 : BitVec 32 := 0#32
  let c16_i32 : BitVec 32 := 16#32
  let v101 : BitVec 32 := Scalar.addi c0_i32_46 c16_i32
  let c1_i32_47 : BitVec 32 := 1#32
  ⟨c0_i32_46, v101, c1_i32_47⟩
def k0_mult1 (k0_t1 : Fin k0_t1_loop.trips) : BitVec 32 :=
  let c127_i32 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let c0_i32_96 : BitVec 32 := 0#32
  let v185 : BitVec 32 := Scalar.addi v184 c0_i32_96
  let v186 : BitVec 32 := Scalar.subi c127_i32 v185
  let c8_i32_106 : BitVec 32 := 8#32
  let v201 : BitVec 32 := Scalar.muli v186 c8_i32_106
  v201
def k0_off1 (k0_t1 : Fin k0_t1_loop.trips) (c0_i32_96 : BitVec 32) : Fin 2 → Nat :=
  let c127_i32 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let v185 : BitVec 32 := Scalar.addi v184 c0_i32_96
  let v186 : BitVec 32 := Scalar.subi c127_i32 v185
  let c8_i32_106 : BitVec 32 := 8#32
  let v201 : BitVec 32 := Scalar.muli v186 c8_i32_106
  let v202 : BitVec 32 := v201
  let v203 : Index := Scalar.indexCast v202
  let c0_107 : Index := 0#32
  ![v203.toNat, 0]
def k0_mult2 (k0_t1 : Fin k0_t1_loop.trips) : BitVec 32 :=
  let c127_i32_98 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let c1_i32_97 : BitVec 32 := 1#32
  let v187 : BitVec 32 := Scalar.addi v184 c1_i32_97
  let v188 : BitVec 32 := Scalar.subi c127_i32_98 v187
  let c8_i32_118 : BitVec 32 := 8#32
  let v234 : BitVec 32 := Scalar.muli v188 c8_i32_118
  v234
def k0_mult3 (k0_t1 : Fin k0_t1_loop.trips) : BitVec 32 :=
  let c127_i32_99 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let c2_i32 : BitVec 32 := 2#32
  let v189 : BitVec 32 := Scalar.addi v184 c2_i32
  let v190 : BitVec 32 := Scalar.subi c127_i32_99 v189
  let c8_i32_130 : BitVec 32 := 8#32
  let v267 : BitVec 32 := Scalar.muli v190 c8_i32_130
  v267
def k0_mult4 (k0_t1 : Fin k0_t1_loop.trips) : BitVec 32 :=
  let c127_i32_100 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let c3_i32 : BitVec 32 := 3#32
  let v191 : BitVec 32 := Scalar.addi v184 c3_i32
  let v192 : BitVec 32 := Scalar.subi c127_i32_100 v191
  let c8_i32_142 : BitVec 32 := 8#32
  let v300 : BitVec 32 := Scalar.muli v192 c8_i32_142
  v300
def k0_mult5 (k0_t1 : Fin k0_t1_loop.trips) : BitVec 32 :=
  let c127_i32_101 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let c4_i32 : BitVec 32 := 4#32
  let v193 : BitVec 32 := Scalar.addi v184 c4_i32
  let v194 : BitVec 32 := Scalar.subi c127_i32_101 v193
  let c8_i32_154 : BitVec 32 := 8#32
  let v333 : BitVec 32 := Scalar.muli v194 c8_i32_154
  v333
def k0_mult6 (k0_t1 : Fin k0_t1_loop.trips) : BitVec 32 :=
  let c127_i32_102 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let c5_i32 : BitVec 32 := 5#32
  let v195 : BitVec 32 := Scalar.addi v184 c5_i32
  let v196 : BitVec 32 := Scalar.subi c127_i32_102 v195
  let c8_i32_166 : BitVec 32 := 8#32
  let v366 : BitVec 32 := Scalar.muli v196 c8_i32_166
  v366
def k0_mult7 (k0_t1 : Fin k0_t1_loop.trips) : BitVec 32 :=
  let c127_i32_103 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let c6_i32 : BitVec 32 := 6#32
  let v197 : BitVec 32 := Scalar.addi v184 c6_i32
  let v198 : BitVec 32 := Scalar.subi c127_i32_103 v197
  let c8_i32_178 : BitVec 32 := 8#32
  let v399 : BitVec 32 := Scalar.muli v198 c8_i32_178
  v399
def k0_mult8 (k0_t1 : Fin k0_t1_loop.trips) : BitVec 32 :=
  let c127_i32_105 : BitVec 32 := 127#32
  let c0_i32_46 : BitVec 32 := 0#32
  let c1_i32_47 : BitVec 32 := 1#32
  let arg18 : BitVec 32 := Scf.iv c0_i32_46 c1_i32_47 k0_t1
  let c8_i32 : BitVec 32 := 8#32
  let v184 : BitVec 32 := Scalar.muli arg18 c8_i32
  let c7_i32_104 : BitVec 32 := 7#32
  let v199 : BitVec 32 := Scalar.addi v184 c7_i32_104
  let v200 : BitVec 32 := Scalar.subi c127_i32_105 v199
  let c8_i32_190 : BitVec 32 := 8#32
  let v432 : BitVec 32 := Scalar.muli v200 c8_i32_190
  v432
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x512 : Shape := ⟨2, ![8192, 512]⟩
abbrev S8x64x64 : Shape := ⟨3, ![8, 64, 64]⟩
abbrev S1x512 : Shape := ⟨2, ![1, 512]⟩
abbrev S8192x8x64 : Shape := ⟨3, ![8192, 8, 64]⟩
abbrev S8x64x8192 : Shape := ⟨3, ![8, 64, 8192]⟩
abbrev S_ : Shape := ⟨0, ![]⟩
abbrev S512 : Shape := ⟨1, ![512]⟩
abbrev S8191x512 : Shape := ⟨2, ![8191, 512]⟩
abbrev S8x8192x64 : Shape := ⟨3, ![8, 8192, 64]⟩

abbrev nBuf : Space → Nat
  | .hbm => 244
  | .vmem => 0
  | .smem => 0
  | _ => 0

abbrev hbmTy0_0 (i : Nat) : BufTy := match i % 128 with
  | 0 => ⟨S8192x512, .f32⟩
  | 1 => ⟨S8192x512, .f32⟩
  | 2 => ⟨S8x64x64, .f32⟩
  | 3 => ⟨S1x512, .f32⟩
  | 4 => ⟨S8x64x64, .f32⟩
  | 5 => ⟨S1x512, .f32⟩
  | 6 => ⟨S1x512, .f32⟩
  | 7 => ⟨S8192x512, .f32⟩
  | 8 => ⟨S8192x8x64, .f32⟩
  | 9 => ⟨S8x64x8192, .f32⟩
  | 10 => ⟨S8192x8x64, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8x64x8192, .f32⟩
  | 23 => ⟨S8192x8x64, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S1x512, .f32⟩
  | 36 => ⟨S_, .f32⟩
  | 37 => ⟨S1x512, .f32⟩
  | 38 => ⟨S1x512, .f32⟩
  | 39 => ⟨S1x512, .f32⟩
  | 40 => ⟨S1x512, .f32⟩
  | 41 => ⟨S1x512, .i1⟩
  | 42 => ⟨S1x512, .f32⟩
  | 43 => ⟨S1x512, .f32⟩
  | 44 => ⟨S1x512, .f32⟩
  | 45 => ⟨S1x512, .f32⟩
  | 46 => ⟨S1x512, .f32⟩
  | 47 => ⟨S1x512, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S_, .f32⟩
  | 65 => ⟨S512, .f32⟩
  | 66 => ⟨S_, .f32⟩
  | 67 => ⟨S8192x512, .f32⟩
  | 68 => ⟨S_, .i32⟩
  | 69 => ⟨S8192x512, .f32⟩
  | 70 => ⟨S8192x512, .f32⟩
  | 71 => ⟨S_, .i32⟩
  | 72 => ⟨S512, .f32⟩
  | 73 => ⟨S8192x512, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S1x512, .f32⟩
  | 82 => ⟨S512, .f32⟩
  | 83 => ⟨S_, .i32⟩
  | 84 => ⟨S1x512, .f32⟩
  | 85 => ⟨S512, .f32⟩
  | 86 => ⟨S512, .f32⟩
  | 87 => ⟨S512, .f32⟩
  | 88 => ⟨S1x512, .f32⟩
  | 89 => ⟨S_, .i32⟩
  | 90 => ⟨S8192x512, .f32⟩
  | 91 => ⟨S_, .i32⟩
  | 92 => ⟨S_, .i32⟩
  | 93 => ⟨S_, .f32⟩
  | 94 => ⟨S1x512, .f32⟩
  | 95 => ⟨S8191x512, .f32⟩
  | 96 => ⟨S8192x512, .f32⟩
  | 97 => ⟨S8192x8x64, .f32⟩
  | 98 => ⟨S8x64x8192, .f32⟩
  | 99 => ⟨S8192x8x64, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S_, .f32⟩
  | 106 => ⟨S8192x512, .f32⟩
  | 107 => ⟨S8192x512, .f32⟩
  | 108 => ⟨S_, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S8192x512, .f32⟩
  | 115 => ⟨S8x64x8192, .f32⟩
  | 116 => ⟨S8192x8x64, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S_, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x512, .f32⟩

abbrev hbmTy0_1 (i : Nat) : BufTy := match i % 128 with
  | 0 => ⟨S_, .f32⟩
  | 1 => ⟨S8192x512, .f32⟩
  | 2 => ⟨S8192x512, .f32⟩
  | 3 => ⟨S8192x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S1x512, .f32⟩
  | 10 => ⟨S1x512, .i1⟩
  | 11 => ⟨S1x512, .f32⟩
  | 12 => ⟨S1x512, .f32⟩
  | 13 => ⟨S1x512, .f32⟩
  | 14 => ⟨S1x512, .f32⟩
  | 15 => ⟨S1x512, .f32⟩
  | 16 => ⟨S1x512, .f32⟩
  | 17 => ⟨S1x512, .f32⟩
  | 18 => ⟨S1x512, .f32⟩
  | 19 => ⟨S_, .f32⟩
  | 20 => ⟨S1x512, .f32⟩
  | 21 => ⟨S1x512, .i1⟩
  | 22 => ⟨S_, .f32⟩
  | 23 => ⟨S1x512, .f32⟩
  | 24 => ⟨S1x512, .f32⟩
  | 25 => ⟨S_, .f32⟩
  | 26 => ⟨S1x512, .f32⟩
  | 27 => ⟨S1x512, .i1⟩
  | 28 => ⟨S_, .f32⟩
  | 29 => ⟨S1x512, .f32⟩
  | 30 => ⟨S1x512, .f32⟩
  | 31 => ⟨S1x512, .f32⟩
  | 32 => ⟨S1x512, .f32⟩
  | 33 => ⟨S_, .f32⟩
  | 34 => ⟨S_, .f32⟩
  | 35 => ⟨S_, .i1⟩
  | 36 => ⟨S_, .f32⟩
  | 37 => ⟨S_, .f32⟩
  | 38 => ⟨S_, .f32⟩
  | 39 => ⟨S_, .f32⟩
  | 40 => ⟨S1x512, .f32⟩
  | 41 => ⟨S1x512, .i1⟩
  | 42 => ⟨S_, .f32⟩
  | 43 => ⟨S1x512, .f32⟩
  | 44 => ⟨S1x512, .f32⟩
  | 45 => ⟨S1x512, .f32⟩
  | 46 => ⟨S1x512, .f32⟩
  | 47 => ⟨S1x512, .f32⟩
  | 48 => ⟨S_, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S_, .f32⟩
  | 86 => ⟨S512, .f32⟩
  | 87 => ⟨S1x512, .f32⟩
  | 88 => ⟨S_, .f32⟩
  | 89 => ⟨S1x512, .f32⟩
  | 90 => ⟨S1x512, .f32⟩
  | 91 => ⟨S1x512, .f32⟩
  | 92 => ⟨S1x512, .f32⟩
  | 93 => ⟨S8192x512, .f32⟩
  | 94 => ⟨S_, .f32⟩
  | 95 => ⟨S512, .f32⟩
  | 96 => ⟨S1x512, .f32⟩
  | 97 => ⟨S8192x8x64, .f32⟩
  | 98 => ⟨S8x64x8192, .f32⟩
  | 99 => ⟨S8x8192x64, .f32⟩
  | 100 => ⟨S8192x8x64, .f32⟩
  | 101 => ⟨S8x64x64, .f32⟩
  | 102 => ⟨S8x64x64, .f32⟩
  | 103 => ⟨S8192x512, .f32⟩
  | 104 => ⟨S_, .f32⟩
  | 105 => ⟨S512, .f32⟩
  | 106 => ⟨S1x512, .f32⟩
  | 107 => ⟨S8192x8x64, .f32⟩
  | 108 => ⟨S8x64x8192, .f32⟩
  | 109 => ⟨S8x8192x64, .f32⟩
  | 110 => ⟨S8192x8x64, .f32⟩
  | 111 => ⟨S8192x8x64, .f32⟩
  | 112 => ⟨S8x64x64, .f32⟩
  | 113 => ⟨S8x64x64, .f32⟩
  | 114 => ⟨S8192x512, .f32⟩
  | 115 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_c : Ref sig .tc := ⟨.hbm, 68, rfl⟩
abbrev main_v39_0 : Ref sig .tc := ⟨.hbm, 69, rfl⟩
abbrev main_v39_1 : Ref sig .tc := ⟨.hbm, 70, rfl⟩
abbrev main_v39_2 : Ref sig .tc := ⟨.hbm, 71, rfl⟩
abbrev main_v39_3 : Ref sig .tc := ⟨.hbm, 72, rfl⟩
abbrev main_v39_4 : Ref sig .tc := ⟨.hbm, 73, rfl⟩
abbrev main_while0c_c_26 : Ref sig .tc := ⟨.hbm, 74, rfl⟩
abbrev main_while0c_v131 : Ref sig .tc := ⟨.hbm, 75, rfl⟩
abbrev main_while0b_c_26 : Ref sig .tc := ⟨.hbm, 76, rfl⟩
abbrev main_while0b_v131 : Ref sig .tc := ⟨.hbm, 77, rfl⟩
abbrev main_while0b_c_27 : Ref sig .tc := ⟨.hbm, 78, rfl⟩
abbrev main_while0b_v132 : Ref sig .tc := ⟨.hbm, 79, rfl⟩
abbrev main_while0b_call1_c : Ref sig .tc := ⟨.hbm, 80, rfl⟩
abbrev main_while0b_call1_v0 : Ref sig .tc := ⟨.hbm, 81, rfl⟩
abbrev main_while0b_v133 : Ref sig .tc := ⟨.hbm, 82, rfl⟩
abbrev main_while0b_call2_c : Ref sig .tc := ⟨.hbm, 83, rfl⟩
abbrev main_while0b_call2_v0 : Ref sig .tc := ⟨.hbm, 84, rfl⟩
abbrev main_while0b_v134 : Ref sig .tc := ⟨.hbm, 85, rfl⟩
abbrev main_while0b_v135 : Ref sig .tc := ⟨.hbm, 86, rfl⟩
abbrev main_while0b_v136 : Ref sig .tc := ⟨.hbm, 87, rfl⟩
abbrev main_while0b_call3_v0 : Ref sig .tc := ⟨.hbm, 88, rfl⟩
abbrev main_while0b_call3_c : Ref sig .tc := ⟨.hbm, 89, rfl⟩
abbrev main_while0b_v137 : Ref sig .tc := ⟨.hbm, 90, rfl⟩
abbrev main_while0b_c_28 : Ref sig .tc := ⟨.hbm, 91, rfl⟩
abbrev main_while0b_v138 : Ref sig .tc := ⟨.hbm, 92, rfl⟩
abbrev main_cst_7 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_8 : Ref sig .tc := ⟨.hbm, 105, rfl⟩
abbrev main_v51 : Ref sig .tc := ⟨.hbm, 106, rfl⟩
abbrev main_v52 : Ref sig .tc := ⟨.hbm, 107, rfl⟩
abbrev main_cst_9 : Ref sig .tc := ⟨.hbm, 108, rfl⟩
abbrev main_v53 : Ref sig .tc := ⟨.hbm, 109, rfl⟩
abbrev main_v54 : Ref sig .tc := ⟨.hbm, 110, rfl⟩
abbrev main_cst_10 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_11 : Ref sig .tc := ⟨.hbm, 122, rfl⟩
abbrev main_v65 : Ref sig .tc := ⟨.hbm, 123, rfl⟩
abbrev main_v66 : Ref sig .tc := ⟨.hbm, 124, rfl⟩
abbrev main_cst_12 : Ref sig .tc := ⟨.hbm, 125, rfl⟩
abbrev main_v67 : Ref sig .tc := ⟨.hbm, 126, rfl⟩
abbrev main_v68 : Ref sig .tc := ⟨.hbm, 127, rfl⟩
abbrev main_cst_13 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_call4_cst : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_v73_0 : Ref sig .tc := ⟨.hbm, 146, rfl⟩
abbrev main_call4_cst_0 : Ref sig .tc := ⟨.hbm, 147, rfl⟩
abbrev main_call4_v13 : Ref sig .tc := ⟨.hbm, 148, rfl⟩
abbrev main_call4_v14 : Ref sig .tc := ⟨.hbm, 149, rfl⟩
abbrev main_call4_cst_1 : Ref sig .tc := ⟨.hbm, 150, rfl⟩
abbrev main_call4_v15 : Ref sig .tc := ⟨.hbm, 151, rfl⟩
abbrev main_call4_v16 : Ref sig .tc := ⟨.hbm, 152, rfl⟩
abbrev main_call4_cst_2 : Ref sig .tc := ⟨.hbm, 153, rfl⟩
abbrev main_call4_v17 : Ref sig .tc := ⟨.hbm, 154, rfl⟩
abbrev main_call4_v18 : Ref sig .tc := ⟨.hbm, 155, rfl⟩
abbrev main_call4_cst_3 : Ref sig .tc := ⟨.hbm, 156, rfl⟩
abbrev main_call4_v19 : Ref sig .tc := ⟨.hbm, 157, rfl⟩
abbrev main_call4_v20 : Ref sig .tc := ⟨.hbm, 158, rfl⟩
abbrev main_call4_v21 : Ref sig .tc := ⟨.hbm, 159, rfl⟩
abbrev main_v73_1 : Ref sig .tc := ⟨.hbm, 160, rfl⟩
abbrev main_call4_cst_4 : Ref sig .tc := ⟨.hbm, 161, rfl⟩
abbrev main_call4_cst_5 : Ref sig .tc := ⟨.hbm, 162, rfl⟩
abbrev main_call4_v23 : Ref sig .tc := ⟨.hbm, 163, rfl⟩
abbrev main_call4_cst_6 : Ref sig .tc := ⟨.hbm, 164, rfl⟩
abbrev main_call4_cst_7 : Ref sig .tc := ⟨.hbm, 165, rfl⟩
abbrev main_call4_v24 : Ref sig .tc := ⟨.hbm, 166, rfl⟩
abbrev main_call4_cst_8 : Ref sig .tc := ⟨.hbm, 167, rfl⟩
abbrev main_call4_v25 : Ref sig .tc := ⟨.hbm, 168, rfl⟩
abbrev main_call4_v26 : Ref sig .tc := ⟨.hbm, 169, rfl⟩
abbrev main_call4_cst_9 : Ref sig .tc := ⟨.hbm, 170, rfl⟩
abbrev main_call4_v27 : Ref sig .tc := ⟨.hbm, 171, rfl⟩
abbrev main_call4_v28 : Ref sig .tc := ⟨.hbm, 172, rfl⟩
abbrev main_call4_v29 : Ref sig .tc := ⟨.hbm, 173, rfl⟩
abbrev main_call4_v30 : Ref sig .tc := ⟨.hbm, 174, rfl⟩
abbrev main_call4_v31 : Ref sig .tc := ⟨.hbm, 175, rfl⟩
abbrev main_call4_cst_10 : Ref sig .tc := ⟨.hbm, 176, rfl⟩
abbrev main_call4_v32 : Ref sig .tc := ⟨.hbm, 177, rfl⟩
abbrev main_v73_2 : Ref sig .tc := ⟨.hbm, 178, rfl⟩
abbrev main_cst_14 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_cst_15 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_cst_16 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_cst_17 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_cst_18 : Ref sig .tc := ⟨.hbm, 213, rfl⟩
abbrev main_v104 : Ref sig .tc := ⟨.hbm, 214, rfl⟩
abbrev main_v105 : Ref sig .tc := ⟨.hbm, 215, rfl⟩
abbrev main_cst_19 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_cst_20 : Ref sig .tc := ⟨.hbm, 222, rfl⟩
abbrev main_v111 : Ref sig .tc := ⟨.hbm, 223, rfl⟩
abbrev main_v112 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_cst_21 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8192x1024 : Shape := ⟨2, ![8192, 1024]⟩
abbrev S1x1024 : Shape := ⟨2, ![1, 1024]⟩
abbrev S4x1024x1024 : Shape := ⟨3, ![4, 1024, 1024]⟩
abbrev S8192x4096 : Shape := ⟨2, ![8192, 4096]⟩
abbrev S256x1024 : Shape := ⟨2, ![256, 1024]⟩
abbrev S256x4096 : Shape := ⟨2, ![256, 4096]⟩
abbrev S4x256x1024 : Shape := ⟨3, ![4, 256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x256x1024 : Shape := ⟨3, ![1, 256, 1024]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S4x1024x1024, .bf16⟩
  | .hbm, ⟨5, _⟩ => ⟨S4x1024x1024, .bf16⟩
  | .hbm, ⟨6, _⟩ => ⟨S8192x1024, .f32⟩
  | .hbm, ⟨7, _⟩ => ⟨S8192x1024, .bf16⟩
  | .hbm, ⟨8, _⟩ => ⟨S8192x4096, .bf16⟩
  | .hbm, ⟨9, _⟩ => ⟨S8192x4096, .bf16⟩
  | .hbm, ⟨10, _⟩ => ⟨S8192x1024, .bf16⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S4x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x1024 : Shape := ⟨2, ![8192, 1024]⟩
abbrev S1x1024 : Shape := ⟨2, ![1, 1024]⟩
abbrev S4x1024x1024 : Shape := ⟨3, ![4, 1024, 1024]⟩
abbrev S_ : Shape := ⟨0, ![]⟩
abbrev S8192 : Shape := ⟨1, ![8192]⟩
abbrev S8192x1 : Shape := ⟨2, ![8192, 1]⟩
abbrev S8192x4x1024 : Shape := ⟨3, ![8192, 4, 1024]⟩
abbrev S1024 : Shape := ⟨1, ![1024]⟩
abbrev S8192x4096 : Shape := ⟨2, ![8192, 4096]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S4x1024x1024, .bf16⟩
  | 5 => ⟨S4x1024x1024, .bf16⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x4x1024, .f32⟩
  | 26 => ⟨S_, .f32⟩
  | 27 => ⟨S8192x4x1024, .f32⟩
  | 28 => ⟨S8192x4x1024, .f32⟩
  | 29 => ⟨S_, .f32⟩
  | 30 => ⟨S8192x4x1024, .f32⟩
  | 31 => ⟨S8192x4x1024, .i1⟩
  | 32 => ⟨S_, .f32⟩
  | 33 => ⟨S8192x4x1024, .f32⟩
  | 34 => ⟨S8192x4x1024, .f32⟩
  | 35 => ⟨S_, .f32⟩
  | 36 => ⟨S8192x4x1024, .f32⟩
  | 37 => ⟨S8192x4x1024, .f32⟩
  | 38 => ⟨S8192x1024, .f32⟩
  | 39 => ⟨S8192x1024, .f32⟩
  | 40 => ⟨S8192x1024, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S1024, .f32⟩
  | 66 => ⟨S1x1024, .f32⟩
  | 67 => ⟨S_, .f32⟩
  | 68 => ⟨S1x1024, .f32⟩
  | 69 => ⟨S_, .f32⟩
  | 70 => ⟨S1024, .f32⟩
  | 71 => ⟨S8192x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S8192x1024, .f32⟩
  | 80 => ⟨S_, .f32⟩
  | 81 => ⟨S8192, .f32⟩
  | 82 => ⟨S8192x1, .f32⟩
  | 83 => ⟨S8192x1024, .f32⟩
  | 84 => ⟨S8192x1024, .f32⟩
  | 85 => ⟨S8192x1, .f32⟩
  | 86 => ⟨S_, .f32⟩
  | 87 => ⟨S8192x1, .f32⟩
  | 88 => ⟨S8192x1, .f32⟩
  | 89 => ⟨S_, .f32⟩
  | 90 => ⟨S8192, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x4x1024, .f32⟩
  | 97 => ⟨S8192x4x1024, .f32⟩
  | 98 => ⟨S_, .f32⟩
  | 99 => ⟨S8192x4x1024, .f32⟩
  | 100 => ⟨S8192x4x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .bf16⟩
  | 127 => ⟨S8192x4096, .f32⟩
  | _ => ⟨S8192x1024, .f32⟩

abbrev hbmTy0_1 (i : Nat) : BufTy := match i % 128 with
  | 0 => ⟨S8192x4096, .bf16⟩
  | 1 => ⟨S8192x4096, .f32⟩
  | 2 => ⟨S8192x4096, .bf16⟩
  | 3 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_21 : Ref sig .tc := ⟨.hbm, 115, rfl⟩
abbrev main_v85 : Ref sig .tc := ⟨.hbm, 116, rfl⟩
abbrev main_v86 : Ref sig .tc := ⟨.hbm, 117, rfl⟩
abbrev main_cst_22 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x4096 : Shape := ⟨2, ![8192, 4096]⟩
abbrev S8192x4x1024 : Shape := ⟨3, ![8192, 4, 1024]⟩
abbrev S4x1024x1024 : Shape := ⟨3, ![4, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x4x1024, .bf16⟩
  | .hbm, ⟨3, _⟩ => ⟨S4x1024x1024, .f32⟩
  | .hbm, ⟨4, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x4096 : Shape := ⟨2, ![8192, 4096]⟩
abbrev S8192x1024 : Shape := ⟨2, ![8192, 1024]⟩
abbrev S8192x4x1024 : Shape := ⟨3, ![8192, 4, 1024]⟩
abbrev S4x1024x1024 : Shape := ⟨3, ![4, 1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4x1024, .bf16⟩
  | .hbm, ⟨3, _⟩ => ⟨S4x1024x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S8192x1024 : Shape := ⟨2, ![8192, 1024]⟩
abbrev S4x256x1024 : Shape := ⟨3, ![4, 256, 1024]⟩
abbrev S1x8192x512 : Shape := ⟨3, ![1, 8192, 512]⟩
abbrev S8192x512 : Shape := ⟨2, ![8192, 512]⟩
abbrev S1x512 : Shape := ⟨2, ![1, 512]⟩
abbrev S4x2048x512 : Shape := ⟨3, ![4, 2048, 512]⟩
abbrev S512x1024 : Shape := ⟨2, ![512, 1024]⟩
abbrev S1x512x512 : Shape := ⟨3, ![1, 512, 512]⟩
abbrev S512x512 : Shape := ⟨2, ![512, 512]⟩
abbrev S4x128x512 : Shape := ⟨3, ![4, 128, 512]⟩
abbrev S4x512x128 : Shape := ⟨3, ![4, 512, 128]⟩
abbrev S1x256x1024 : Shape := ⟨3, ![1, 256, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 16
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S4x256x1024, .bf16⟩
  | .hbm, ⟨2, _⟩ => ⟨S8192x1024, .bf16⟩
  | .hbm, ⟨3, _⟩ => ⟨S1x8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S1x8192x512, .f32⟩
  | .hbm, ⟨12, _⟩ => ⟨S4x2048x512, .f32⟩
  | .hbm, ⟨13, _⟩ => ⟨S4x256x1024, .f32⟩
  | .hbm, ⟨14, _⟩ => ⟨S1x512, .f32⟩
  | .hbm, ⟨15, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S4x256x1024, .bf16⟩
  | .local _ .vmem, ⟨3, _⟩ => ⟨S512x1024, .bf16⟩
  | .local _ .vmem, ⟨4, _⟩ => ⟨S512x1024, .bf16⟩
  | .local _ .vmem, ⟨5, _⟩ => ⟨S1x512x512, .f32⟩
  | .local _ .vmem, ⟨6, _⟩ => ⟨S1x512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x512x512, .f32⟩
  | .local _ .vmem, ⟨20, _⟩ => ⟨S1x512x512, .f32⟩
  | .local _ .vmem, ⟨21, _⟩ => ⟨S4x128x512, .f32⟩
  | .local _ .vmem, ⟨22, _⟩ => ⟨S4x128x512, .f32⟩
  | .local _ .vmem, ⟨23, _⟩ => ⟨S4x256x1024, .f32⟩
  | .local _ .vmem, ⟨24, _⟩ => ⟨S1x512, .f32⟩
  | .local _ .vmem, ⟨25, _⟩ => ⟨S1x512, .f32⟩
  | .local _ .vmem, ⟨26, _⟩ => ⟨S4x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference5Ideal.lean ====
abbrev S8192x1024 : Shape := ⟨2, ![8192, 1024]⟩
abbrev S4x256x1024 : Shape := ⟨3, ![4, 256, 1024]⟩
abbrev S1x8192x512 : Shape := ⟨3, ![1, 8192, 512]⟩
abbrev S8192x512 : Shape := ⟨2, ![8192, 512]⟩
abbrev S1x512 : Shape := ⟨2, ![1, 512]⟩
abbrev S8192x4x256 : Shape := ⟨3, ![8192, 4, 256]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 122
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x1024, .bf16⟩
  | .hbm, ⟨2, _⟩ => ⟨S8192x1024, .bf16⟩
  | .hbm, ⟨3, _⟩ => ⟨S1x8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x512, .f32⟩
  | .hbm, ⟨8, _⟩ => ⟨S1x512, .f32⟩
  | .hbm, ⟨9, _⟩ => ⟨S8192x1024, .bf16⟩
  | .hbm, ⟨10, _⟩ => ⟨S8192x4x256, .bf16⟩
  | .hbm, ⟨11, _⟩ => ⟨S4x256x1024, .f32⟩
  | .hbm, ⟨12, _⟩ => ⟨S8192x4x256, .f32⟩
  | .hbm, ⟨13, _⟩ => ⟨S8192x1024, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x512, .f32⟩
  | .hbm, ⟨85, _⟩ => ⟨S8192x512, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S_, .f32⟩
  | .hbm, ⟨99, _⟩ => ⟨S512, .f32⟩
  | .hbm, ⟨100, _⟩ => ⟨S1x512, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S8192x512, .f32⟩
  | .hbm, ⟨108, _⟩ => ⟨S8192x512, .f32⟩
  | .hbm, ⟨109, _⟩ => ⟨S8192x1, .f32⟩
  | .hbm, ⟨110, _⟩ => ⟨S_, .f32⟩
  | .hbm, ⟨111, _⟩ => ⟨S8192x1, .f32⟩
  | .hbm, ⟨112, _⟩ => ⟨S8192x1, .f32⟩
  | .hbm, ⟨113, _⟩ => ⟨S_, .f32⟩
  | .hbm, ⟨114, _⟩ => ⟨S8192, .f32⟩
  | .hbm, ⟨115, _⟩ => ⟨S8192x512, .f32⟩
  | .hbm, ⟨116, _⟩ => ⟨S8192x512, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x512, .f32⟩
  | .hbm, ⟨121, _⟩ => ⟨S1x8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_cst_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel8.lean ====
abbrev S1024x640 : Shape := ⟨2, ![1024, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S4x1024x640 : Shape := ⟨3, ![4, 1024, 640]⟩
abbrev S8192x512 : Shape := ⟨2, ![8192, 512]⟩
abbrev S1x8192x512 : Shape := ⟨3, ![1, 8192, 512]⟩
abbrev S4x2048x512 : Shape := ⟨3, ![4, 2048, 512]⟩
abbrev S16x512x512 : Shape := ⟨3, ![16, 512, 512]⟩
abbrev S512x1024 : Shape := ⟨2, ![512, 1024]⟩
abbrev S512x512 : Shape := ⟨2, ![512, 512]⟩
abbrev S1x512x512 : Shape := ⟨3, ![1, 512, 512]⟩
abbrev S4x128x512 : Shape := ⟨3, ![4, 128, 512]⟩
abbrev S16x32x512 : Shape := ⟨3, ![16, 32, 512]⟩
abbrev S4x512x128 : Shape := ⟨3, ![4, 512, 128]⟩
abbrev S4x4x128x128 : Shape := ⟨4, ![4, 4, 128, 128]⟩
abbrev S1024x2560 : Shape := ⟨2, ![1024, 2560]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩
abbrev S512x2560 : Shape := ⟨2, ![512, 2560]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩
abbrev S1x4x128x128 : Shape := ⟨4, ![1, 4, 128, 128]⟩
abbrev S4x128x128 : Shape := ⟨3, ![4, 128, 128]⟩
abbrev S1x32x128 : Shape := ⟨3, ![1, 32, 128]⟩
abbrev S32x128 : Shape := ⟨2, ![32, 128]⟩
abbrev S32x512 : Shape := ⟨2, ![32, 512]⟩
abbrev S1x32x512 : Shape := ⟨3, ![1, 32, 512]⟩

abbrev nBuf : Space → Nat
  | .hbm => 14
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x640, .bf16⟩
  | .hbm, ⟨3, _⟩ => ⟨S8192x512, .f32⟩
  | .hbm, ⟨4, _⟩ => ⟨S8192x512, .f32⟩
  | .hbm, ⟨5, _⟩ => ⟨S1x8192x512, .bf16⟩
  | .hbm, ⟨6, _⟩ => ⟨S4x2048x512, .bf16⟩
  | .hbm, ⟨7, _⟩ => ⟨S16x512x512, .bf16⟩
  | .hbm, ⟨8, _⟩ => ⟨S1x8192x512, .bf16⟩
  | .hbm, ⟨9, _⟩ => ⟨S4x2048x512, .bf16⟩
  | .hbm, ⟨10, _⟩ => ⟨S16x512x512, .bf16⟩
  | .hbm, ⟨11, _⟩ => ⟨S1x8192x512, .bf16⟩
  | .hbm, ⟨12, _⟩ => ⟨S4x2048x512, .bf16⟩
  | .hbm, ⟨13, _⟩ => ⟨S16x512x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512x512, .bf16⟩
  | .local _ .vmem, ⟨9, _⟩ => ⟨S1x512x512, .bf16⟩
  | .local _ .vmem, ⟨10, _⟩ => ⟨S4x128x512, .bf16⟩
  | .local _ .vmem, ⟨11, _⟩ => ⟨S4x128x512, .bf16⟩
  | .local _ .vmem, ⟨12, _⟩ => ⟨S16x32x512, .bf16⟩
  | .local _ .vmem, ⟨13, _⟩ => ⟨S16x32x512, .bf16⟩
  | .local _ .vmem, ⟨14, _⟩ => ⟨S1x512x512, .bf16⟩
  | .local _ .vmem, ⟨15, _⟩ => ⟨S1x512x512, .bf16⟩
  | .local _ .vmem, ⟨16, _⟩ => ⟨S4x128x512, .bf16⟩
  | .local _ .vmem, ⟨17, _⟩ => ⟨S4x128x512, .bf16⟩
  | .local _ .vmem, ⟨18, _⟩ => ⟨S16x32x512, .bf16⟩
  | .local _ .vmem, ⟨19, _⟩ => ⟨S16x32x512, .bf16⟩
  | .local _ .vmem, ⟨20, _⟩ => ⟨S1x512x512, .bf16⟩
  | .local _ .vmem, ⟨21, _⟩ => ⟨S1x512x512, .bf16⟩
  | .local _ .vmem, ⟨22, _⟩ => ⟨S4x128x512, .bf16⟩
  | .local _ .vmem, ⟨23, _⟩ => ⟨S4x128x512, .bf16⟩
  | .local _ .vmem, ⟨24, _⟩ => ⟨S16x32x512, .bf16⟩
  | .local _ .vmem, ⟨25, _⟩ => ⟨S16x32x512, .bf16⟩
  | .local _ .vmem, ⟨26, _⟩ => ⟨S4x512x128, .f32⟩
  | .local _ .vmem, ⟨27, _⟩ => ⟨S4x4x128x128, .f32⟩
  | .local _ .vmem, ⟨28, _⟩ => ⟨S1024x2560, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev main_v0_9 : Ref sig .tc := ⟨.hbm, 12, rfl⟩
abbrev main_v0_10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x32x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x32x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S8192x1024 : Shape := ⟨2, ![8192, 1024]⟩
abbrev S1x1024 : Shape := ⟨2, ![1, 1024]⟩
abbrev S4x1024x640 : Shape := ⟨3, ![4, 1024, 640]⟩
abbrev S_ : Shape := ⟨0, ![]⟩
abbrev S8192 : Shape := ⟨1, ![8192]⟩
abbrev S8192x1 : Shape := ⟨2, ![8192, 1]⟩
abbrev S1024x4x640 : Shape := ⟨3, ![1024, 4, 640]⟩
abbrev S1024x2560 : Shape := ⟨2, ![1024, 2560]⟩
abbrev S8192x2560 : Shape := ⟨2, ![8192, 2560]⟩
abbrev S8192x512 : Shape := ⟨2, ![8192, 512]⟩
abbrev S1x8192x512 : Shape := ⟨3, ![1, 8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x640, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x4x640, .bf16⟩
  | .hbm, ⟨20, _⟩ => ⟨S1024x2560, .bf16⟩
  | .hbm, ⟨21, _⟩ => ⟨S8192x2560, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .bf16⟩
  | .hbm, ⟨28, _⟩ => ⟨S1x8192x512, .bf16⟩
  | .hbm, ⟨29, _⟩ => ⟨S8192x512, .bf16⟩
  | .hbm, ⟨30, _⟩ => ⟨S1x8192x512, .bf16⟩
  | .hbm, ⟨31, _⟩ => ⟨S8192x512, .bf16⟩
  | .hbm, ⟨32, _⟩ => ⟨S1x8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel7.lean ====
abbrev S1x512 : Shape := ⟨2, ![1, 512]⟩

abbrev nBuf : Space → Nat
  | .hbm => 21
  | .vmem => 21
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel7Ideal.lean ====
abbrev S1x512 : Shape := ⟨2, ![1, 512]⟩

abbrev nBuf : Space → Nat
  | .hbm => 21
  | .vmem => 21
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference7Ideal.lean ====
abbrev S1x512 : Shape := ⟨2, ![1, 512]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S_, .f32⟩
  | .hbm, ⟨43, _⟩ => ⟨S1x512, .f32⟩
  | .hbm, ⟨44, _⟩ => ⟨S1x512, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S_, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S_, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S_, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S_, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S_, .f32⟩
  | .hbm, ⟨76, _⟩ => ⟨S1x512, .f32⟩
  | .hbm, ⟨77, _⟩ => ⟨S1x512, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S_, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S_, .f32⟩
  | .hbm, ⟨97, _⟩ => ⟨S1x512, .f32⟩
  | .hbm, ⟨98, _⟩ => ⟨S1x512, .f32⟩
  | .hbm, ⟨99, _⟩ => ⟨S1x512, .f32⟩
  | .hbm, ⟨100, _⟩ => ⟨S_, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel11.lean ====
abbrev S1x8x64x64 : Shape := ⟨4, ![1, 8, 64, 64]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x8x64x64, .f32⟩
  | .hbm, ⟨1, _⟩ => ⟨S1x8x64x64, .f32⟩
  | .hbm, ⟨2, _⟩ => ⟨S1x1024, .f32⟩
  | .hbm, ⟨3, _⟩ => ⟨S1x8x64x64, .f32⟩
  | .hbm, ⟨4, _⟩ => ⟨S1x8x64x64, .f32⟩
  | .hbm, ⟨5, _⟩ => ⟨S1x1024, .f32⟩
  | .hbm, ⟨6, _⟩ => ⟨S1x8x64x64, .f32⟩
  | .hbm, ⟨7, _⟩ => ⟨S1x8x64x64, .f32⟩
  | .hbm, ⟨8, _⟩ => ⟨S1x1024, .f32⟩
  | .hbm, ⟨9, _⟩ => ⟨S1x8x64x64, .f32⟩
  | .hbm, ⟨10, _⟩ => ⟨S1x8x64x64, .f32⟩
  | .hbm, ⟨11, _⟩ => ⟨S1x1024, .f32⟩
  | .hbm, ⟨12, _⟩ => ⟨S1x8x64x64, .f32⟩
  | .hbm, ⟨13, _⟩ => ⟨S1x8x64x64, .f32⟩
  | .hbm, ⟨14, _⟩ => ⟨S1x1024, .f32⟩
  | .hbm, ⟨15, _⟩ => ⟨S1x8x64x64, .f32⟩
  | .hbm, ⟨16, _⟩ => ⟨S1x8x64x64, .f32⟩
  | .hbm, ⟨17, _⟩ => ⟨S1x1024, .f32⟩
  | .hbm, ⟨18, _⟩ => ⟨S1x8x64x64, .f32⟩
  | .hbm, ⟨19, _⟩ => ⟨S1x8x64x64, .f32⟩
  | .hbm, ⟨20, _⟩ => ⟨S1x1024, .f32⟩
  | .local _ .vmem, ⟨0, _⟩ => ⟨S1x8x64x64, .f32⟩
  | .local _ .vmem, ⟨1, _⟩ => ⟨S1x8x64x64, .f32⟩
  | .local _ .vmem, ⟨2, _⟩ => ⟨S1x1024, .f32⟩
  | .local _ .vmem, ⟨3, _⟩ => ⟨S1x8x64x64, .f32⟩
  | .local _ .vmem, ⟨4, _⟩ => ⟨S1x8x64x64, .f32⟩
  | .local _ .vmem, ⟨5, _⟩ => ⟨S1x1024, .f32⟩
  | .local _ .vmem, ⟨6, _⟩ => ⟨S1x8x64x64, .f32⟩
  | .local _ .vmem, ⟨7, _⟩ => ⟨S1x8x64x64, .f32⟩
  | .local _ .vmem, ⟨8, _⟩ => ⟨S1x1024, .f32⟩
  | .local _ .vmem, ⟨9, _⟩ => ⟨S1x8x64x64, .f32⟩
  | .local _ .vmem, ⟨10, _⟩ => ⟨S1x8x64x64, .f32⟩
  | .local _ .vmem, ⟨11, _⟩ => ⟨S1x1024, .f32⟩
  | .local _ .vmem, ⟨12, _⟩ => ⟨S1x8x64x64, .f32⟩
  | .local _ .vmem, ⟨13, _⟩ => ⟨S1x8x64x64, .f32⟩
  | .local _ .vmem, ⟨14, _⟩ => ⟨S1x1024, .f32⟩
  | .local _ .vmem, ⟨15, _⟩ => ⟨S1x8x64x64, .f32⟩
  | .local _ .vmem, ⟨16, _⟩ => ⟨S1x8x64x64, .f32⟩
  | .local _ .vmem, ⟨17, _⟩ => ⟨S1x1024, .f32⟩
  | .local _ .vmem, ⟨18, _⟩ => ⟨S1x8x64x64, .f32⟩
  | .local _ .vmem, ⟨19, _⟩ => ⟨S1x8x64x64, .f32⟩
  | .local _ .vmem, ⟨20, _⟩ => ⟨S1x1024, .f32⟩
  | _, _ => ⟨S1x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8x64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8x64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8x64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8x64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel11Ideal.lean ====
abbrev S1x8x64x64 : Shape := ⟨4, ![1, 8, 64, 64]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x8x64x64, .f32⟩
  | .hbm, ⟨1, _⟩ => ⟨S1x8x64x64, .f32⟩
  | .hbm, ⟨2, _⟩ => ⟨S1x1024, .f32⟩
  | .hbm, ⟨3, _⟩ => ⟨S1x8x64x64, .f32⟩
  | .hbm, ⟨4, _⟩ => ⟨S1x8x64x64, .f32⟩
  | .hbm, ⟨5, _⟩ => ⟨S1x1024, .f32⟩
  | .hbm, ⟨6, _⟩ => ⟨S1x8x64x64, .f32⟩
  | .hbm, ⟨7, _⟩ => ⟨S1x8x64x64, .f32⟩
  | .hbm, ⟨8, _⟩ => ⟨S1x1024, .f32⟩
  | .hbm, ⟨9, _⟩ => ⟨S1x8x64x64, .f32⟩
  | .hbm, ⟨10, _⟩ => ⟨S1x8x64x64, .f32⟩
  | .hbm, ⟨11, _⟩ => ⟨S1x1024, .f32⟩
  | .hbm, ⟨12, _⟩ => ⟨S1x8x64x64, .f32⟩
  | .hbm, ⟨13, _⟩ => ⟨S1x8x64x64, .f32⟩
  | .hbm, ⟨14, _⟩ => ⟨S1x1024, .f32⟩
  | .hbm, ⟨15, _⟩ => ⟨S1x8x64x64, .f32⟩
  | .hbm, ⟨16, _⟩ => ⟨S1x8x64x64, .f32⟩
  | .hbm, ⟨17, _⟩ => ⟨S1x1024, .f32⟩
  | .hbm, ⟨18, _⟩ => ⟨S1x8x64x64, .f32⟩
  | .hbm, ⟨19, _⟩ => ⟨S1x8x64x64, .f32⟩
  | .hbm, ⟨20, _⟩ => ⟨S1x1024, .f32⟩
  | .local _ .vmem, ⟨0, _⟩ => ⟨S1x8x64x64, .f32⟩
  | .local _ .vmem, ⟨1, _⟩ => ⟨S1x8x64x64, .f32⟩
  | .local _ .vmem, ⟨2, _⟩ => ⟨S1x1024, .f32⟩
  | .local _ .vmem, ⟨3, _⟩ => ⟨S1x8x64x64, .f32⟩
  | .local _ .vmem, ⟨4, _⟩ => ⟨S1x8x64x64, .f32⟩
  | .local _ .vmem, ⟨5, _⟩ => ⟨S1x1024, .f32⟩
  | .local _ .vmem, ⟨6, _⟩ => ⟨S1x8x64x64, .f32⟩
  | .local _ .vmem, ⟨7, _⟩ => ⟨S1x8x64x64, .f32⟩
  | .local _ .vmem, ⟨8, _⟩ => ⟨S1x1024, .f32⟩
  | .local _ .vmem, ⟨9, _⟩ => ⟨S1x8x64x64, .f32⟩
  | .local _ .vmem, ⟨10, _⟩ => ⟨S1x8x64x64, .f32⟩
  | .local _ .vmem, ⟨11, _⟩ => ⟨S1x1024, .f32⟩
  | .local _ .vmem, ⟨12, _⟩ => ⟨S1x8x64x64, .f32⟩
  | .local _ .vmem, ⟨13, _⟩ => ⟨S1x8x64x64, .f32⟩
  | .local _ .vmem, ⟨14, _⟩ => ⟨S1x1024, .f32⟩
  | .local _ .vmem, ⟨15, _⟩ => ⟨S1x8x64x64, .f32⟩
  | .local _ .vmem, ⟨16, _⟩ => ⟨S1x8x64x64, .f32⟩
  | .local _ .vmem, ⟨17, _⟩ => ⟨S1x1024, .f32⟩
  | .local _ .vmem, ⟨18, _⟩ => ⟨S1x8x64x64, .f32⟩
  | .local _ .vmem, ⟨19, _⟩ => ⟨S1x8x64x64, .f32⟩
  | .local _ .vmem, ⟨20, _⟩ => ⟨S1x1024, .f32⟩
  | _, _ => ⟨S1x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8x64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8x64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8x64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8x64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference11Ideal.lean ====
abbrev S1x8x64x64 : Shape := ⟨4, ![1, 8, 64, 64]⟩
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x8x64x64, .f32⟩
  | .hbm, ⟨1, _⟩ => ⟨S1x8x64x64, .f32⟩
  | .hbm, ⟨2, _⟩ => ⟨S1x1024, .f32⟩
  | .hbm, ⟨3, _⟩ => ⟨S1x8x64x64, .f32⟩
  | .hbm, ⟨4, _⟩ => ⟨S1x8x64x64, .f32⟩
  | .hbm, ⟨5, _⟩ => ⟨S1x1024, .f32⟩
  | .hbm, ⟨6, _⟩ => ⟨S1x8x64x64, .f32⟩
  | .hbm, ⟨7, _⟩ => ⟨S1x8x64x64, .f32⟩
  | .hbm, ⟨8, _⟩ => ⟨S1x1024, .f32⟩
  | .hbm, ⟨9, _⟩ => ⟨S1x8x64x64, .f32⟩
  | .hbm, ⟨10, _⟩ => ⟨S1x8x64x64, .f32⟩
  | .hbm, ⟨11, _⟩ => ⟨S1x1024, .f32⟩
  | .hbm, ⟨12, _⟩ => ⟨S_, .f32⟩
  | .hbm, ⟨13, _⟩ => ⟨S1x8x64x64, .f32⟩
  | .hbm, ⟨14, _⟩ => ⟨S1x8x64x64, .f32⟩
  | .hbm, ⟨15, _⟩ => ⟨S_, .f32⟩
  | .hbm, ⟨16, _⟩ => ⟨S1x8x64x64, .f32⟩
  | .hbm, ⟨17, _⟩ => ⟨S1x8x64x64, .f32⟩
  | .hbm, ⟨18, _⟩ => ⟨S1x8x64x64, .f32⟩
  | .hbm, ⟨19, _⟩ => ⟨S_, .f32⟩
  | .hbm, ⟨20, _⟩ => ⟨S1x8x64x64, .f32⟩
  | .hbm, ⟨21, _⟩ => ⟨S1x8x64x64, .f32⟩
  | .hbm, ⟨22, _⟩ => ⟨S1x8x64x64, .f32⟩
  | .hbm, ⟨23, _⟩ => ⟨S_, .f32⟩
  | .hbm, ⟨24, _⟩ => ⟨S1x8x64x64, .f32⟩
  | .hbm, ⟨25, _⟩ => ⟨S1x8x64x64, .f32⟩
  | .hbm, ⟨26, _⟩ => ⟨S1x8x64x64, .f32⟩
  | .hbm, ⟨27, _⟩ => ⟨S_, .f32⟩
  | .hbm, ⟨28, _⟩ => ⟨S1x8x64x64, .f32⟩
  | .hbm, ⟨29, _⟩ => ⟨S1x8x64x64, .f32⟩
  | .hbm, ⟨30, _⟩ => ⟨S_, .f32⟩
  | .hbm, ⟨31, _⟩ => ⟨S1x8x64x64, .f32⟩
  | .hbm, ⟨32, _⟩ => ⟨S1x8x64x64, .f32⟩
  | .hbm, ⟨33, _⟩ => ⟨S1x8x64x64, .f32⟩
  | .hbm, ⟨34, _⟩ => ⟨S_, .f32⟩
  | .hbm, ⟨35, _⟩ => ⟨S1x8x64x64, .f32⟩
  | .hbm, ⟨36, _⟩ => ⟨S1x8x64x64, .f32⟩
  | .hbm, ⟨37, _⟩ => ⟨S1x8x64x64, .f32⟩
  | .hbm, ⟨38, _⟩ => ⟨S_, .f32⟩
  | .hbm, ⟨39, _⟩ => ⟨S1x8x64x64, .f32⟩
  | .hbm, ⟨40, _⟩ => ⟨S1x8x64x64, .f32⟩
  | .hbm, ⟨41, _⟩ => ⟨S1x8x64x64, .f32⟩
  | .hbm, ⟨42, _⟩ => ⟨S_, .f32⟩
  | .hbm, ⟨43, _⟩ => ⟨S1x8x64x64, .f32⟩
  | .hbm, ⟨44, _⟩ => ⟨S1x8x64x64, .f32⟩
  | .hbm, ⟨45, _⟩ => ⟨S_, .f32⟩
  | .hbm, ⟨46, _⟩ => ⟨S1x8x64x64, .f32⟩
  | .hbm, ⟨47, _⟩ => ⟨S1x8x64x64, .f32⟩
  | .hbm, ⟨48, _⟩ => ⟨S_, .f32⟩
  | .hbm, ⟨49, _⟩ => ⟨S1x8x64x64, .f32⟩
  | .hbm, ⟨50, _⟩ => ⟨S1x8x64x64, .f32⟩
  | .hbm, ⟨51, _⟩ => ⟨S1x8x64x64, .f32⟩
  | .hbm, ⟨52, _⟩ => ⟨S_, .f32⟩
  | .hbm, ⟨53, _⟩ => ⟨S1x8x64x64, .f32⟩
  | .hbm, ⟨54, _⟩ => ⟨S1x8x64x64, .f32⟩
  | .hbm, ⟨55, _⟩ => ⟨S1x8x64x64, .f32⟩
  | .hbm, ⟨56, _⟩ => ⟨S_, .f32⟩
  | .hbm, ⟨57, _⟩ => ⟨S1x8x64x64, .f32⟩
  | .hbm, ⟨58, _⟩ => ⟨S1x8x64x64, .f32⟩
  | .hbm, ⟨59, _⟩ => ⟨S1x8x64x64, .f32⟩
  | .hbm, ⟨60, _⟩ => ⟨S_, .f32⟩
  | .hbm, ⟨61, _⟩ => ⟨S1x8x64x64, .f32⟩
  | .hbm, ⟨62, _⟩ => ⟨S1x8x64x64, .f32⟩
  | .hbm, ⟨63, _⟩ => ⟨S_, .f32⟩
  | .hbm, ⟨64, _⟩ => ⟨S1x8x64x64, .f32⟩
  | .hbm, ⟨65, _⟩ => ⟨S1x8x64x64, .f32⟩
  | .hbm, ⟨66, _⟩ => ⟨S1x8x64x64, .f32⟩
  | .hbm, ⟨67, _⟩ => ⟨S_, .f32⟩
  | .hbm, ⟨68, _⟩ => ⟨S1x8x64x64, .f32⟩
  | .hbm, ⟨69, _⟩ => ⟨S1x8x64x64, .f32⟩
  | .hbm, ⟨70, _⟩ => ⟨S1x8x64x64, .f32⟩
  | .hbm, ⟨71, _⟩ => ⟨S_, .f32⟩
  | .hbm, ⟨72, _⟩ => ⟨S1x8x64x64, .f32⟩
  | .hbm, ⟨73, _⟩ => ⟨S1x8x64x64, .f32⟩
  | .hbm, ⟨74, _⟩ => ⟨S1x8x64x64, .f32⟩
  | .hbm, ⟨75, _⟩ => ⟨S_, .f32⟩
  | .hbm, ⟨76, _⟩ => ⟨S1x8x64x64, .f32⟩
  | .hbm, ⟨77, _⟩ => ⟨S1x8x64x64, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel12.lean ====
abbrev S1x4x128 : Shape := ⟨3, ![1, 4, 128]⟩
abbrev S32x8 : Shape := ⟨2, ![32, 8]⟩
abbrev S1024 : Shape := ⟨1, ![1024]⟩

abbrev nBuf : Space → Nat
  | .hbm => 21
  | .vmem => 21
  | .smem => 0
  | _ => 0

abbrev bufTy : (tb : Table) → Fin (tcTables nBuf tb) → BufTy
  | .hbm, ⟨0, _⟩ => ⟨S1x4x128, .f32⟩
  | .hbm, ⟨1, _⟩ => ⟨S32x8, .f32⟩
  | .hbm, ⟨2, _⟩ => ⟨S1024, .f32⟩
  | .hbm, ⟨3, _⟩ => ⟨S1x4x128, .f32⟩
  | .hbm, ⟨4, _⟩ => ⟨S32x8, .f32⟩
  | .hbm, ⟨5, _⟩ => ⟨S1024, .f32⟩
  | .hbm, ⟨6, _⟩ => ⟨S1x4x128, .f32⟩
  | .hbm, ⟨7, _⟩ => ⟨S32x8, .f32⟩
  | .hbm, ⟨8, _⟩ => ⟨S1024, .f32⟩
  | .hbm, ⟨9, _⟩ => ⟨S1x4x128, .f32⟩
  | .hbm, ⟨10, _⟩ => ⟨S32x8, .f32⟩
  | .hbm, ⟨11, _⟩ => ⟨S1024, .f32⟩
  | .hbm, ⟨12, _⟩ => ⟨S1x4x128, .f32⟩
  | .hbm, ⟨13, _⟩ => ⟨S32x8, .f32⟩
  | .hbm, ⟨14, _⟩ => ⟨S1024, .f32⟩
  | .hbm, ⟨15, _⟩ => ⟨S1x4x128, .f32⟩
  | .hbm, ⟨16, _⟩ => ⟨S32x8, .f32⟩
  | .hbm, ⟨17, _⟩ => ⟨S1024, .f32⟩
  | .hbm, ⟨18, _⟩ => ⟨S1x4x128, .f32⟩
  | .hbm, ⟨19, _⟩ => ⟨S32x8, .f32⟩
  | .hbm, ⟨20, _⟩ => ⟨S1024, .f32⟩
  | .local _ .vmem, ⟨0, _⟩ => ⟨S1x4x128, .f32⟩
  | .local _ .vmem, ⟨1, _⟩ => ⟨S32x8, .f32⟩
  | .local _ .vmem, ⟨2, _⟩ => ⟨S1024, .f32⟩
  | .local _ .vmem, ⟨3, _⟩ => ⟨S1x4x128, .f32⟩
  | .local _ .vmem, ⟨4, _⟩ => ⟨S32x8, .f32⟩
  | .local _ .vmem, ⟨5, _⟩ => ⟨S1024, .f32⟩
  | .local _ .vmem, ⟨6, _⟩ => ⟨S1x4x128, .f32⟩
  | .local _ .vmem, ⟨7, _⟩ => ⟨S32x8, .f32⟩
  | .local _ .vmem, ⟨8, _⟩ => ⟨S1024, .f32⟩
  | .local _ .vmem, ⟨9, _⟩ => ⟨S1x4x128, .f32⟩
  | .local _ .vmem, ⟨10, _⟩ => ⟨S32x8, .f32⟩
  | .local _ .vmem, ⟨11, _⟩ => ⟨S1024, .f32⟩
  | .local _ .vmem, ⟨12, _⟩ => ⟨S1x4x128, .f32⟩
  | .local _ .vmem, ⟨13, _⟩ => ⟨S32x8, .f32⟩
  | .local _ .vmem, ⟨14, _⟩ => ⟨S1024, .f32⟩
  | .local _ .vmem, ⟨15, _⟩ => ⟨S1x4x128, .f32⟩
  | .local _ .vmem, ⟨16, _⟩ => ⟨S32x8, .f32⟩
  | .local _ .vmem, ⟨17, _⟩ => ⟨S1024, .f32⟩
  | .local _ .vmem, ⟨18, _⟩ => ⟨S1x4x128, .f32⟩
  | .local _ .vmem, ⟨19, _⟩ => ⟨S32x8, .f32⟩
  | .local _ .vmem, ⟨20, _⟩ => ⟨S1024, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x4x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x4x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference12Ideal.lean ====
abbrev S1x4x128 : Shape := ⟨3, ![1, 4, 128]⟩
abbrev S32x8 : Shape := ⟨2, ![32, 8]⟩
abbrev S1024 : Shape := ⟨1, ![1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x4x128, .f32⟩
  | .hbm, ⟨1, _⟩ => ⟨S32x8, .f32⟩
  | .hbm, ⟨2, _⟩ => ⟨S1024, .f32⟩
  | .hbm, ⟨3, _⟩ => ⟨S1x4x128, .f32⟩
  | .hbm, ⟨4, _⟩ => ⟨S32x8, .f32⟩
  | .hbm, ⟨5, _⟩ => ⟨S1024, .f32⟩
  | .hbm, ⟨6, _⟩ => ⟨S1x4x128, .f32⟩
  | .hbm, ⟨7, _⟩ => ⟨S32x8, .f32⟩
  | .hbm, ⟨8, _⟩ => ⟨S1024, .f32⟩
  | .hbm, ⟨9, _⟩ => ⟨S1x4x128, .f32⟩
  | .hbm, ⟨10, _⟩ => ⟨S32x8, .f32⟩
  | .hbm, ⟨11, _⟩ => ⟨S1024, .f32⟩
  | .hbm, ⟨12, _⟩ => ⟨S_, .f32⟩
  | .hbm, ⟨13, _⟩ => ⟨S1x4x128, .f32⟩
  | .hbm, ⟨14, _⟩ => ⟨S1x4x128, .f32⟩
  | .hbm, ⟨15, _⟩ => ⟨S_, .f32⟩
  | .hbm, ⟨16, _⟩ => ⟨S1x4x128, .f32⟩
  | .hbm, ⟨17, _⟩ => ⟨S1x4x128, .f32⟩
  | .hbm, ⟨18, _⟩ => ⟨S1x4x128, .f32⟩
  | .hbm, ⟨19, _⟩ => ⟨S_, .f32⟩
  | .hbm, ⟨20, _⟩ => ⟨S1x4x128, .f32⟩
  | .hbm, ⟨21, _⟩ => ⟨S1x4x128, .f32⟩
  | .hbm, ⟨22, _⟩ => ⟨S1x4x128, .f32⟩
  | .hbm, ⟨23, _⟩ => ⟨S_, .f32⟩
  | .hbm, ⟨24, _⟩ => ⟨S1x4x128, .f32⟩
  | .hbm, ⟨25, _⟩ => ⟨S1x4x128, .f32⟩
  | .hbm, ⟨26, _⟩ => ⟨S1x4x128, .f32⟩
  | .hbm, ⟨27, _⟩ => ⟨S_, .f32⟩
  | .hbm, ⟨28, _⟩ => ⟨S1x4x128, .f32⟩
  | .hbm, ⟨29, _⟩ => ⟨S1x4x128, .f32⟩
  | .hbm, ⟨30, _⟩ => ⟨S_, .f32⟩
  | .hbm, ⟨31, _⟩ => ⟨S1x4x128, .f32⟩
  | .hbm, ⟨32, _⟩ => ⟨S1x4x128, .f32⟩
  | .hbm, ⟨33, _⟩ => ⟨S1x4x128, .f32⟩
  | .hbm, ⟨34, _⟩ => ⟨S_, .f32⟩
  | .hbm, ⟨35, _⟩ => ⟨S1x4x128, .f32⟩
  | .hbm, ⟨36, _⟩ => ⟨S1x4x128, .f32⟩
  | .hbm, ⟨37, _⟩ => ⟨S1x4x128, .f32⟩
  | .hbm, ⟨38, _⟩ => ⟨S_, .f32⟩
  | .hbm, ⟨39, _⟩ => ⟨S1x4x128, .f32⟩
  | .hbm, ⟨40, _⟩ => ⟨S1x4x128, .f32⟩
  | .hbm, ⟨41, _⟩ => ⟨S1x4x128, .f32⟩
  | .hbm, ⟨42, _⟩ => ⟨S_, .f32⟩
  | .hbm, ⟨43, _⟩ => ⟨S1x4x128, .f32⟩
  | .hbm, ⟨44, _⟩ => ⟨S1x4x128, .f32⟩
  | .hbm, ⟨45, _⟩ => ⟨S_, .f32⟩
  | .hbm, ⟨46, _⟩ => ⟨S32x8, .f32⟩
  | .hbm, ⟨47, _⟩ => ⟨S32x8, .f32⟩
  | .hbm, ⟨48, _⟩ => ⟨S_, .f32⟩
  | .hbm, ⟨49, _⟩ => ⟨S32x8, .f32⟩
  | .hbm, ⟨50, _⟩ => ⟨S32x8, .f32⟩
  | .hbm, ⟨51, _⟩ => ⟨S32x8, .f32⟩
  | .hbm, ⟨52, _⟩ => ⟨S_, .f32⟩
  | .hbm, ⟨53, _⟩ => ⟨S32x8, .f32⟩
  | .hbm, ⟨54, _⟩ => ⟨S32x8, .f32⟩
  | .hbm, ⟨55, _⟩ => ⟨S32x8, .f32⟩
  | .hbm, ⟨56, _⟩ => ⟨S_, .f32⟩
  | .hbm, ⟨57, _⟩ => ⟨S32x8, .f32⟩
  | .hbm, ⟨58, _⟩ => ⟨S32x8, .f32⟩
  | .hbm, ⟨59, _⟩ => ⟨S32x8, .f32⟩
  | .hbm, ⟨60, _⟩ => ⟨S_, .f32⟩
  | .hbm, ⟨61, _⟩ => ⟨S32x8, .f32⟩
  | .hbm, ⟨62, _⟩ => ⟨S32x8, .f32⟩
  | .hbm, ⟨63, _⟩ => ⟨S_, .f32⟩
  | .hbm, ⟨64, _⟩ => ⟨S32x8, .f32⟩
  | .hbm, ⟨65, _⟩ => ⟨S32x8, .f32⟩
  | .hbm, ⟨66, _⟩ => ⟨S32x8, .f32⟩
  | .hbm, ⟨67, _⟩ => ⟨S_, .f32⟩
  | .hbm, ⟨68, _⟩ => ⟨S32x8, .f32⟩
  | .hbm, ⟨69, _⟩ => ⟨S32x8, .f32⟩
  | .hbm, ⟨70, _⟩ => ⟨S32x8, .f32⟩
  | .hbm, ⟨71, _⟩ => ⟨S_, .f32⟩
  | .hbm, ⟨72, _⟩ => ⟨S32x8, .f32⟩
  | .hbm, ⟨73, _⟩ => ⟨S32x8, .f32⟩
  | .hbm, ⟨74, _⟩ => ⟨S32x8, .f32⟩
  | .hbm, ⟨75, _⟩ => ⟨S_, .f32⟩
  | .hbm, ⟨76, _⟩ => ⟨S32x8, .f32⟩
  | .hbm, ⟨77, _⟩ => ⟨S32x8, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S1024, .f32⟩
  | _, _ => ⟨S1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel13.lean ====
abbrev S4x512x640 : Shape := ⟨3, ![4, 512, 640]⟩
abbrev S512x640 : Shape := ⟨2, ![512, 640]⟩
abbrev S4x256x640 : Shape := ⟨3, ![4, 256, 640]⟩
abbrev S256x640 : Shape := ⟨2, ![256, 640]⟩
abbrev S1x256x640 : Shape := ⟨3, ![1, 256, 640]⟩

abbrev nBuf : Space → Nat
  | .hbm => 2
  | .vmem => 4
  | .smem => 0
  | _ => 0

abbrev bufTy : (tb : Table) → Fin (tcTables nBuf tb) → BufTy
  | .hbm, ⟨0, _⟩ => ⟨S4x512x640, .bf16⟩
  | .hbm, ⟨1, _⟩ => ⟨S512x640, .f32⟩
  | .local _ .vmem, ⟨0, _⟩ => ⟨S4x256x640, .bf16⟩
  | .local _ .vmem, ⟨1, _⟩ => ⟨S4x256x640, .bf16⟩
  | .local _ .vmem, ⟨2, _⟩ => ⟨S256x640, .f32⟩
  | .local _ .vmem, ⟨3, _⟩ => ⟨S256x640, .f32⟩
  | _, _ => ⟨S4x512x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S4x512x640 : Shape := ⟨3, ![4, 512, 640]⟩
abbrev S_ : Shape := ⟨0, ![]⟩
abbrev S512x640 : Shape := ⟨2, ![512, 640]⟩

abbrev nBuf : Space → Nat
  | .hbm => 4
  | .vmem => 0
  | .smem => 0
  | _ => 0

abbrev bufTy : (tb : Table) → Fin (tcTables nBuf tb) → BufTy
  | .hbm, ⟨0, _⟩ => ⟨S4x512x640, .bf16⟩
  | .hbm, ⟨1, _⟩ => ⟨S4x512x640, .f32⟩
  | .hbm, ⟨2, _⟩ => ⟨S_, .f32⟩
  | .hbm, ⟨3, _⟩ => ⟨S512x640, .f32⟩
  | _, _ => ⟨S4x512x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference14Ideal.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S_, .f32⟩
  | .hbm, ⟨3, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4x512x1024 : Shape := ⟨3, ![4, 512, 1024]⟩
abbrev S512x1024 : Shape := ⟨2, ![512, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference15Ideal.lean ====
abbrev S4x512x1024 : Shape := ⟨3, ![4, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .f32⟩
  | .hbm, ⟨2, _⟩ => ⟨S_, .f32⟩
  | .hbm, ⟨3, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S8x552x128 : Shape := ⟨3, ![8, 552, 128]⟩
abbrev S552x128 : Shape := ⟨2, ![552, 128]⟩
abbrev S1x552x128 : Shape := ⟨3, ![1, 552, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x552x128, .f32⟩
  | .hbm, ⟨1, _⟩ => ⟨S552x128, .f32⟩
  | .local _ .vmem, ⟨0, _⟩ => ⟨S8x552x128, .f32⟩
  | .local _ .vmem, ⟨1, _⟩ => ⟨S552x128, .f32⟩
  | _, _ => ⟨S8x552x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference16Ideal.lean ====
abbrev S8x552x128 : Shape := ⟨3, ![8, 552, 128]⟩
abbrev S_ : Shape := ⟨0, ![]⟩
abbrev S552x128 : Shape := ⟨2, ![552, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x552x128, .f32⟩
  | .hbm, ⟨1, _⟩ => ⟨S_, .f32⟩
  | .hbm, ⟨2, _⟩ => ⟨S552x128, .f32⟩
  | _, _ => ⟨S8x552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8x128x256 : Shape := ⟨3, ![8, 128, 256]⟩
abbrev S129x32 : Shape := ⟨2, ![129, 32]⟩
abbrev S128x128 : Shape := ⟨2, ![128, 128]⟩
abbrev S_ : Shape := ⟨0, ![]⟩
abbrev S256x32 : Shape := ⟨2, ![256, 32]⟩
abbrev S3x256x32 : Shape := ⟨3, ![3, 256, 32]⟩
abbrev S8x32 : Shape := ⟨2, ![8, 32]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩
abbrev S8x256 : Shape := ⟨2, ![8, 256]⟩
abbrev S1x256x32 : Shape := ⟨3, ![1, 256, 32]⟩

abbrev nBuf : Space → Nat
  | .hbm => 20
  | .vmem => 8
  | .smem => 0
  | _ => 0

abbrev bufTy : (tb : Table) → Fin (tcTables nBuf tb) → BufTy
  | .hbm, ⟨0, _⟩ => ⟨S8x128x256, .f32⟩
  | .hbm, ⟨1, _⟩ => ⟨S8x128x256, .f32⟩
  | .hbm, ⟨2, _⟩ => ⟨S8x128x256, .f32⟩
  | .hbm, ⟨3, _⟩ => ⟨S129x32, .f32⟩
  | .hbm, ⟨4, _⟩ => ⟨S129x32, .f32⟩
  | .hbm, ⟨5, _⟩ => ⟨S129x32, .f32⟩
  | .hbm, ⟨6, _⟩ => ⟨S128x128, .f32⟩
  | .hbm, ⟨7, _⟩ => ⟨S_, .i32⟩
  | .hbm, ⟨8, _⟩ => ⟨S_, .f32⟩
  | .hbm, ⟨9, _⟩ => ⟨S256x32, .f32⟩
  | .hbm, ⟨10, _⟩ => ⟨S3x256x32, .f32⟩
  | .hbm, ⟨11, _⟩ => ⟨S_, .i32⟩
  | .hbm, ⟨12, _⟩ => ⟨S_, .f32⟩
  | .hbm, ⟨13, _⟩ => ⟨S256x32, .f32⟩
  | .hbm, ⟨14, _⟩ => ⟨S3x256x32, .f32⟩
  | .hbm, ⟨15, _⟩ => ⟨S_, .i32⟩
  | .hbm, ⟨16, _⟩ => ⟨S_, .f32⟩
  | .hbm, ⟨17, _⟩ => ⟨S256x32, .f32⟩
  | .hbm, ⟨18, _⟩ => ⟨S3x256x32, .f32⟩
  | .hbm, ⟨19, _⟩ => ⟨S8x32, .f32⟩
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S3x256x32, .f32⟩
  | .local _ .vmem, ⟨4, _⟩ => ⟨S3x256x32, .f32⟩
  | .local _ .vmem, ⟨5, _⟩ => ⟨S3x256x32, .f32⟩
  | .local _ .vmem, ⟨6, _⟩ => ⟨S128x128, .f32⟩
  | .local _ .vmem, ⟨7, _⟩ => ⟨S8x32, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference17Ideal.lean ====
abbrev S8x128x256 : Shape := ⟨3, ![8, 128, 256]⟩
abbrev S129x32 : Shape := ⟨2, ![129, 32]⟩
abbrev S128 : Shape := ⟨1, ![128]⟩
abbrev S128x1 : Shape := ⟨2, ![128, 1]⟩
abbrev S129 : Shape := ⟨1, ![129]⟩
abbrev S1x129 : Shape := ⟨2, ![1, 129]⟩
abbrev S128x129 : Shape := ⟨2, ![128, 129]⟩
abbrev S_ : Shape := ⟨0, ![]⟩
abbrev S128x129x1 : Shape := ⟨3, ![128, 129, 1]⟩
abbrev S128x129x2 : Shape := ⟨3, ![128, 129, 2]⟩
abbrev S8x128x129 : Shape := ⟨3, ![8, 128, 129]⟩
abbrev S8x129 : Shape := ⟨2, ![8, 129]⟩
abbrev S8x32 : Shape := ⟨2, ![8, 32]⟩

abbrev nBuf : Space → Nat
  | .hbm => 87
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S8x128x256, .f32⟩
  | .hbm, ⟨2, _⟩ => ⟨S8x128x256, .f32⟩
  | .hbm, ⟨3, _⟩ => ⟨S129x32, .f32⟩
  | .hbm, ⟨4, _⟩ => ⟨S129x32, .f32⟩
  | .hbm, ⟨5, _⟩ => ⟨S129x32, .f32⟩
  | .hbm, ⟨6, _⟩ => ⟨S128, .i32⟩
  | .hbm, ⟨7, _⟩ => ⟨S128x1, .i32⟩
  | .hbm, ⟨8, _⟩ => ⟨S129, .i32⟩
  | .hbm, ⟨9, _⟩ => ⟨S1x129, .i32⟩
  | .hbm, ⟨10, _⟩ => ⟨S128x129, .i32⟩
  | .hbm, ⟨11, _⟩ => ⟨S128x129, .i32⟩
  | .hbm, ⟨12, _⟩ => ⟨S128x129, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x1, .i32⟩
  | .hbm, ⟨20, _⟩ => ⟨S_, .i32⟩
  | .hbm, ⟨21, _⟩ => ⟨S128x129, .i32⟩
  | .hbm, ⟨22, _⟩ => ⟨S128x129, .i1⟩
  | .hbm, ⟨23, _⟩ => ⟨S_, .i32⟩
  | .hbm, ⟨24, _⟩ => ⟨S128x129, .i32⟩
  | .hbm, ⟨25, _⟩ => ⟨S128x129, .i32⟩
  | .hbm, ⟨26, _⟩ => ⟨S128x129, .i32⟩
  | .hbm, ⟨27, _⟩ => ⟨S128x129, .i32⟩
  | .hbm, ⟨28, _⟩ => ⟨S128x129x1, .i32⟩
  | .hbm, ⟨29, _⟩ => ⟨S128x129x1, .i32⟩
  | .hbm, ⟨30, _⟩ => ⟨S128x129x2, .i32⟩
  | .hbm, ⟨31, _⟩ => ⟨S8x128x129, .f32⟩
  | .hbm, ⟨32, _⟩ => ⟨S_, .f32⟩
  | .hbm, ⟨33, _⟩ => ⟨S8x129, .f32⟩
  | .hbm, ⟨34, _⟩ => ⟨S8x32, .f32⟩
  | .hbm, ⟨35, _⟩ => ⟨S128x129, .i32⟩
  | .hbm, ⟨36, _⟩ => ⟨S128x129, .i32⟩
  | .hbm, ⟨37, _⟩ => ⟨S128x129, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x1, .i32⟩
  | .hbm, ⟨45, _⟩ => ⟨S_, .i32⟩
  | .hbm, ⟨46, _⟩ => ⟨S128x129, .i32⟩
  | .hbm, ⟨47, _⟩ => ⟨S128x129, .i1⟩
  | .hbm, ⟨48, _⟩ => ⟨S_, .i32⟩
  | .hbm, ⟨49, _⟩ => ⟨S128x129, .i32⟩
  | .hbm, ⟨50, _⟩ => ⟨S128x129, .i32⟩
  | .hbm, ⟨51, _⟩ => ⟨S128x129, .i32⟩
  | .hbm, ⟨52, _⟩ => ⟨S128x129, .i32⟩
  | .hbm, ⟨53, _⟩ => ⟨S128x129x1, .i32⟩
  | .hbm, ⟨54, _⟩ => ⟨S128x129x1, .i32⟩
  | .hbm, ⟨55, _⟩ => ⟨S128x129x2, .i32⟩
  | .hbm, ⟨56, _⟩ => ⟨S8x128x129, .f32⟩
  | .hbm, ⟨57, _⟩ => ⟨S_, .f32⟩
  | .hbm, ⟨58, _⟩ => ⟨S8x129, .f32⟩
  | .hbm, ⟨59, _⟩ => ⟨S8x32, .f32⟩
  | .hbm, ⟨60, _⟩ => ⟨S128x129, .i32⟩
  | .hbm, ⟨61, _⟩ => ⟨S128x129, .i32⟩
  | .hbm, ⟨62, _⟩ => ⟨S128x129, .i32⟩
  | .hbm, ⟨63, _⟩ => ⟨S_, .i32⟩
  | .hbm, ⟨64, _⟩ => ⟨S128x1, .i32⟩
  | .hbm, ⟨65, _⟩ => ⟨S128x1, .i1⟩
  | .hbm, ⟨66, _⟩ => ⟨S_, .i32⟩
  | .hbm, ⟨67, _⟩ => ⟨S128x1, .i32⟩
  | .hbm, ⟨68, _⟩ => ⟨S128x1, .i32⟩
  | .hbm, ⟨69, _⟩ => ⟨S128x1, .i32⟩
  | .hbm, ⟨70, _⟩ => ⟨S_, .i32⟩
  | .hbm, ⟨71, _⟩ => ⟨S128x129, .i32⟩
  | .hbm, ⟨72, _⟩ => ⟨S128x129, .i1⟩
  | .hbm, ⟨73, _⟩ => ⟨S_, .i32⟩
  | .hbm, ⟨74, _⟩ => ⟨S128x129, .i32⟩
  | .hbm, ⟨75, _⟩ => ⟨S128x129, .i32⟩
  | .hbm, ⟨76, _⟩ => ⟨S128x129, .i32⟩
  | .hbm, ⟨77, _⟩ => ⟨S128x129, .i32⟩
  | .hbm, ⟨78, _⟩ => ⟨S128x129x1, .i32⟩
  | .hbm, ⟨79, _⟩ => ⟨S128x129x1, .i32⟩
  | .hbm, ⟨80, _⟩ => ⟨S128x129x2, .i32⟩
  | .hbm, ⟨81, _⟩ => ⟨S8x128x129, .f32⟩
  | .hbm, ⟨82, _⟩ => ⟨S_, .f32⟩
  | .hbm, ⟨83, _⟩ => ⟨S8x129, .f32⟩
  | .hbm, ⟨84, _⟩ => ⟨S8x32, .f32⟩
  | .hbm, ⟨85, _⟩ => ⟨S8x32, .f32⟩
  | .hbm, ⟨86, _⟩ => ⟨S8x32, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Proof.Rnn.First.lean ====
/- The body of the recurrence's gradient at the grid's first point, run. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Rnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's one condition: the point is the grid's first. -/
abbrev cond (i : grid0.Coords) : Prop := (Scalar.cmpi .ne (Scalar.extui (Scalar.cmpi .eq (BitVec.ofNat 32 (i 0).val) 0#32)) 0#32) = 1#1

theorem cond_iff : ∀ t : Fin cfg0.N, cond (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [cond, e0]
    word_cmp
   : ∀ t : Fin grid0.N, cond (grid0.coords t) ↔ t.val = 0)

variable (c : Dev nD) (i : grid0.Coords)
  (a1 : Memref sig .tc .vmem S1024x512 .f32) (w1 : a1.IsWhole)
  (a2 : Memref sig .tc .vmem S1024x512 .f32) (w2 : a2.IsWhole)
  (a3 : Memref sig .tc .vmem S8x512 .f32) (w3 : a3.IsWhole)
  (a4 : Memref sig .tc .vmem S1024x512 .f32) (w4 : a4.IsWhole)
  (a5 : Memref sig .tc .vmem S512x512 .bf16) (w5 : a5.IsWhole)
  (a6 : Memref sig .tc .vmem S1x512 .f32) (w6 : a6.IsWhole)
  (a7 : Memref sig .tc .vmem S512x512 .bf16) (w7 : a7.IsWhole)
  (a8 : Memref sig .tc .vmem S1x512 .f32) (w8 : a8.IsWhole)
  (a9 : Memref sig .tc .vmem S1x512 .f32) (w9 : a9.IsWhole)
  (a10 : Memref sig .tc .vmem S1024x512 .f32) (w10 : a10.IsWhole)
  (a11 : Memref sig .tc .vmem S512x512 .f32) (w11 : a11.IsWhole)
  (a12 : Memref sig .tc .vmem S512x512 .f32) (w12 : a12.IsWhole)
  (a13 : Memref sig .tc .vmem S8x512 .f32) (w13 : a13.IsWhole)
  (a14 : Memref sig .tc .vmem S1024x512 .f32) (w14 : a14.IsWhole)
  (a15 : Memref sig .tc .vmem S1024x512 .f32) (w15 : a15.IsWhole)
  (a16 : Memref sig .tc .vmem S8x512 .f32) (w16 : a16.IsWhole)
  (a17 : Memref sig .tc .vmem S8x512 .f32) (w17 : a17.IsWhole)

/-- What is read of the recurrence's buffer after the loop depends on the loop's stores alone: they cover it. -/
theorem scanned_read (𝒱 : Variants) (c' : Dev nD) (bd : Option 𝒱.V) (i' : grid0.Coords) (v0 : BitVec 32) (v4 : Vec F S1024x512 .f32)
    (v32 v56 v69 : FVec F S1024x512 .f32) (v70 : Vec F S1024x512 .f32) (v73 : FVec F S1024x512 .f32) (v75 : IVec S1024x512 1)
    (v77 : FVec F S1x512 .f32) (v99 : IVec S8x512 32) (X4 : BufTy.Contents (Elt F) a4.view.ty) (X14 : BufTy.Contents (Elt F) a14.view.ty)
    (init : Vec F S8x512 .f32) (f : BufTy.Contents (Elt F) a15.view.ty) (r : LoadRect S1024x512) :
    a15.view.readAt (Elt F) r (a15.view.writes (Elt F) f (st_k0_t1 (F := F) 𝒱 c' bd i' a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 v99 X4 X14 init (Scf.trips k0_t1_loop.lb k0_t1_loop.ub k0_t1_loop.st)).2)
      = a15.view.readCov (st_k0_t1 (F := F) 𝒱 c' bd i' a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 v99 X4 X14 init (Scf.trips k0_t1_loop.lb k0_t1_loop.ub k0_t1_loop.st)).2 r :=
  View.readAt_writes_of_cover _ f _ r fun y => View.cover_of_tiledL (st_k0_t1 (F := F) 𝒱 c' bd i' a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 v99 X4 X14 init (Scf.trips k0_t1_loop.lb k0_t1_loop.ub k0_t1_loop.st)).2 S8x512.size (by sl_kernel_rfl) (r.idx y)

set_option backward.proofsInPublic true in
set_option maxHeartbeats 1000000 in
/-- THE BODY AT THE FIRST POINT, from buffers at anything but the nine inputs': the pieces that its stores leave in the four
    outputs and in the two scratch buffers that are carried, with the proof that it runs to them. -/
noncomputable def runA (hc : cond i) (x1 : Vec F S1024x512 .f32) (x2 : Vec F S1024x512 .f32) (x3 : Vec F S8x512 .f32) (x4 : Vec F S1024x512 .f32) (x5 : Vec F S512x512 .bf16) (x6 : Vec F S1x512 .f32) (x7 : Vec F S512x512 .bf16) (x8 : Vec F S1x512 .f32) (x9 : Vec F S1x512 .f32) :
    Σ' (L10 : List (View.Piece (Elt F) S1024x512 .f32)), Σ' (L11 : List (View.Piece (Elt F) S512x512 .f32)), Σ' (L12 : List (View.Piece (Elt F) S512x512 .f32)), Σ' (L13 : List (View.Piece (Elt F) S8x512 .f32)), Σ' (L16 : List (View.Piece (Elt F) S8x512 .f32)), { L17 : List (View.Piece (Elt F) S8x512 .f32) //
      ∀ (E : Set ℕ) (K : PUnit → sProp (MT nD τ sig Unit (Elt F) ℕ (UR sig nD τ) ℕ)),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ d, owns (c : Thread nD τ) a14 fullShare d) ∗ (∃ d, owns (c : Thread nD τ) a15 fullShare d) ∗ (∃ f, a16.view.loc (c : Thread nD τ) ↦[a16.view.set]{fullShare} a16.view.writes (Elt F) f L16) ∗ (∃ f, a17.view.loc (c : Thread nD τ) ↦[a17.view.set]{fullShare} a17.view.writes (Elt F) f L17)) -∗ K ⟨⟩))
          ⊢ wp frame (wpE (defs₀ (F := F)) Variants.none c none) E (cc0_rnn_bwd_fwd i a1 w1 a2 w2 a3 w3 a4 w4 a5 w5 a6 w6 a7 w7 a8 w8 a9 w9 a10 w10 a11 w11 a12 w12 a13 w13 a14 w14 a15 w15 a16 w16 a17 w17) K } := by
  refine ⟨?_, ?_, ?_, ?_, ?_, ?_, fun E K => ?run⟩
  case run =>
    simp only [cc0_rnn_bwd_fwd_eq_skeleton]; unfold cc0_rnn_bwd_fwd_skel
    simp only [k0_part9_eq_skeleton, k0_part10_eq_skeleton, k0_part11_eq_skeleton, k0_part12_eq_skeleton, k0_part13_eq_skeleton]
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := w1.eq_unread h1; obtain rfl := w2.eq_unread h2; obtain rfl := w3.eq_unread h3; obtain rfl := w4.eq_unread h4; obtain rfl := w5.eq_unread h5; obtain rfl := w6.eq_unread h6; obtain rfl := w7.eq_unread h7; obtain rfl := w8.eq_unread h8; obtain rfl := w9.eq_unread h9
    have hread := scanned_read (F := F) a1 w1 a2 w2 a3 w3 a4 w4 a5 w5 a6 w6 a7 w7 a8 w8 a9 w9 a10 w10 a11 w11 a12 w12 a13 w13 a14 w14 a15 w15 a16 w16 a17 w17
    sl_exec (disch := first | sl_exact hc)
    sl_step
    iapply Hk
    isplitl [H1]; · iexists _; isplitr; · ipureintro; exact w1.read_unread _
                    iexact H1
    isplitl [H2]; · iexists _; isplitr; · ipureintro; exact w2.read_unread _
                    iexact H2
    isplitl [H3]; · iexists _; isplitr; · ipureintro; exact w3.read_unread _
                    iexact H3
    isplitl [H4]; · iexists _; isplitr; · ipureintro; exact w4.read_unread _
                    iexact H4
    isplitl [H5]; · iexists _; isplitr; · ipureintro; exact w5.read_unread _
                    iexact H5
    isplitl [H6]; · iexists _; isplitr; · ipureintro; exact w6.read_unread _
                    iexact H6
    isplitl [H7]; · iexists _; isplitr; · ipureintro; exact w7.read_unread _
                    iexact H7
    isplitl [H8]; · iexists _; isplitr; · ipureintro; exact w8.read_unread _
                    iexact H8
    isplitl [H9]; · iexists _; isplitr; · ipureintro; exact w9.read_unread _
                    iexact H9
    isplitl [H10]; · iexists _; iexact H10
    isplitl [H11]; · iexists _; iexact H11
    isplitl [H12]; · iexists _; iexact H12
    isplitl [H13]; · iexists _; iexact H13
    isplitl [H14]; · iexists _, _; isplitr; swap; · iexact H14
                     ipureintro; rfl
    isplitl [H15]; · iexists _, _; isplitr; swap; · iexact H15
                     ipureintro; rfl
    isplitl [H16]; · iexists _; iexact H16
    iexists _; iexact H17

end Cert.KernelIdeal.Rnn

end
-- ==== Proof.Rnn.Tile.lean ====
/- What one tile of the recurrence's gradient computes, as functions of what its point reads: no buffer is named here.

   A point of the grid reads a tile of 1024 rows. It makes the two gates, the decay `a` and its derivative's factors, runs the
   recurrence `g[s] = dh[s] + a[s + 1] · g[s + 1]` from the tile's last row to its first, eight rows at a time, and adds to what
   the points before it left: the two weight gradients and the rows of the bias gradients. -/
module

public import proofs.«01_k».proof.Proof.Gen.KernelIdeal.Skeleton
public import Idealize.ShloMosaic.Lib.ValueIdxCore

@[expose] public section

noncomputable section

namespace Cert.KernelIdeal.Rnn

open Cert.KernelIdeal Cert.KernelIdeal.Gen
open Idealize.ShloMosaic Idealize.SL.Sem
open Idealize.ShloMosaic.ValueIdx (ix2 idx2_lt0 idx2_lt1)

variable {F : FTy → Type} [FloatOps F]

/-! ## Eight rows of the recurrence -/

/-- The row's number, at each place of eight rows. -/
abbrev lane : IVec S8x512 32 := iota .tc S8x512 32 [0] iota_S8x512_d0_w32

/-- One doubling of the products of decays: a row below `k` is multiplied by the row that the rotation by `k` brings to it. -/
def stepA (k : BitVec 32) (a : FVec F S8x512 .f32) : FVec F S8x512 .f32 :=
  select (cmpi .slt lane (broadcast S8x512 k)) (mulf a (dynamicRotate 0 k none a rotates_S8x512_d0)) a

/-- One doubling of the partial sums, with the decays `a` of the same doubling. -/
def stepB (k : BitVec 32) (a b : FVec F S8x512 .f32) : FVec F S8x512 .f32 :=
  select (cmpi .slt lane (broadcast S8x512 k)) (addf (mulf a (dynamicRotate 0 k none b rotates_S8x512_d0)) b) b

/-- The product of the decays from each row to the eighth. -/
def groupA (a : FVec F S8x512 .f32) : FVec F S8x512 .f32 := stepA 4#32 (stepA 6#32 (stepA 7#32 a))

/-- The recurrence of eight rows from nothing. -/
def groupB (a d : FVec F S8x512 .f32) : FVec F S8x512 .f32 :=
  stepB 4#32 (stepA 6#32 (stepA 7#32 a)) (stepB 6#32 (stepA 7#32 a) (stepB 7#32 a d))

/-- The recurrence of eight rows from the carried rows `c`. -/
def group (a d c : FVec F S8x512 .f32) : FVec F S8x512 .f32 := addf (groupB a d) (mulf (groupA a) c)

/-- The first of eight rows, in all eight: what is carried to the group before. -/
def top (h : FVec F S8x512 .f32) : FVec F S8x512 .f32 := k0_pay105 h

/-! ## The tile's recurrence -/

/-- Group `g` of a tile: its rows `8 g` to `8 g + 7`. -/
def rowsAt (X : Vec F S1024x512 .f32) (g : Fin 128) : Vec F S8x512 .f32 := fun y =>
  X (ix2 (n0 := 1024) (n1 := 512) ⟨8 * g.val + (y 0).val, by have h := idx2_lt0 (n0 := 8) (n1 := 512) y; omega⟩ (y 1))

/-- The carried rows before the `n`-th group from the end, from the carry `c` that the tile starts from. -/
def carryAt (sa d : Vec F S1024x512 .f32) (c : Vec F S8x512 .f32) : ℕ → Vec F S8x512 .f32
  | 0 => c
  | n + 1 => top (group (rowsAt sa ⟨127 - n, by omega⟩) (rowsAt d ⟨127 - n, by omega⟩) (carryAt sa d c n))

/-- The group of a row. -/
def grp (y : S1024x512.Idx) : Fin 128 := ⟨(y 0).val / 8, by have h := idx2_lt0 (n0 := 1024) (n1 := 512) y; omega⟩

/-- The recurrence over the tile: each group of eight rows from its carry. -/
def scanned (sa d : Vec F S1024x512 .f32) (c : Vec F S8x512 .f32) : Vec F S1024x512 .f32 := fun y =>
  group (rowsAt sa (grp y)) (rowsAt d (grp y)) (carryAt sa d c (127 - (grp y).val))
    (ix2 (n0 := 8) (n1 := 512) ⟨(y 0).val % 8, Nat.mod_lt _ (by decide)⟩ (y 1))

/-! ## What a point reads, and what it leaves -/

/-- What a point reads: its tile of the branch's input `xc`, of the recurrence's states `h` with the eight rows before the tile
    (`halo`), of the states' cotangent `dh`, and the gates' weights, biases and decay parameter. -/
structure Ins (F : FTy → Type) where
  xc : Vec F S1024x512 .f32
  h : Vec F S1024x512 .f32
  halo : Vec F S8x512 .f32
  dh : Vec F S1024x512 .f32
  wa : Vec F S512x512 .bf16
  ba : Vec F S1x512 .f32
  wx : Vec F S512x512 .bf16
  bx : Vec F S1x512 .f32
  lam : Vec F S1x512 .f32

/-- What a point hands to the next: the sums so far (the two weight gradients; the rows of the bias gradients), the carried rows
    of the recurrence and the first eight rows of the tile's decay. -/
structure Left (F : FTy → Type) where
  dwa : Vec F S512x512 .f32
  dwx : Vec F S512x512 .f32
  dvec : Vec F S8x512 .f32
  carry : Vec F S8x512 .f32
  edge : Vec F S8x512 .f32

/-- What the first point starts from: zeros. -/
def Left.zero : Left F := ⟨k0_pay87, k0_pay88, k0_pay89, k0_pay85, k0_pay86⟩

namespace Ins

variable (I : Ins F)

/-- The recurrence gate. -/
def r : FVec F S1024x512 .f32 := k0_pay91 I.xc I.ba I.wa
/-- The input gate. -/
def g : FVec F S1024x512 .f32 := k0_pay92 I.xc I.bx I.wx
/-- The decay's logarithm per unit of the recurrence gate. -/
def cl : FVec F S1x512 .f32 := k0_pay94 I.lam k0_pay93
/-- The decay. -/
def a : FVec F S1024x512 .f32 := k0_pay96 I.lam I.r k0_pay93
/-- One over the input's scale. -/
def inv : FVec F S1024x512 .f32 := k0_pay98 I.lam I.r k0_pay93
/-- The input's scale. -/
def mult : FVec F S1024x512 .f32 := k0_pay99 I.lam I.r k0_pay93
/-- The decay of the row after each row; the last row's is the next tile's first, the edge's. -/
def next (edge : Vec F S8x512 .f32) : FVec F S1024x512 .f32 := k0_pay103 (k0_pay100 I.lam I.r k0_pay93) k0_pay101 (k0_pay102 edge)
/-- The recurrence over the tile. -/
def G (s : Left F) : Vec F S1024x512 .f32 := scanned (I.next s.edge) I.dh s.carry
/-- The cotangent of the gated input, times the input. -/
def dgx (s : Left F) : FVec F S1024x512 .f32 := k0_pay108 I.xc I.mult (I.G s)
/-- The part of the decay's cotangent that comes through the state before; `v` is the tile's number from the front. -/
def viaState (v : BitVec 32) (s : Left F) : FVec F S1024x512 .f32 := k0_pay109 v I.a I.h I.halo (I.G s)
/-- The part that comes through the input's scale. -/
def viaScale (s : Left F) : FVec F S1024x512 .f32 := k0_pay110 I.xc I.g I.a (I.G s)

end Ins

/-- A row of eight. -/
def row (X : Vec F S8x512 .f32) (k : ℕ) (hk : k < 8) : Vec F S1x512 .f32 := fun y => X (ix2 (n0 := 8) (n1 := 512) ⟨k, hk⟩ (y 1))

/-- The rows of the bias gradients after the point: the two biases' sums, the decay's, and the decay parameter's gradient made
    of the decay's sum so far. The last four rows are left. -/
def vecNext (v : BitVec 32) (I : Ins F) (s : Left F) : Vec F S8x512 .f32 := fun y =>
  if (y 0).val = 0 then k0_pay118 I.r I.cl I.inv (I.viaState v s) (I.viaScale s) (row s.dvec 0 (by decide)) (ix2 (n0 := 1) (n1 := 512) 0 (y 1))
  else if (y 0).val = 1 then k0_pay119 I.g (I.dgx s) (row s.dvec 1 (by decide)) (ix2 (n0 := 1) (n1 := 512) 0 (y 1))
  else if (y 0).val = 2 then k0_pay120 I.r (k0_pay111 I.inv (I.viaState v s) (I.viaScale s)) (row s.dvec 2 (by decide)) (ix2 (n0 := 1) (n1 := 512) 0 (y 1))
  else if (y 0).val = 3 then
    k0_pay121 (k0_pay120 I.r (k0_pay111 I.inv (I.viaState v s) (I.viaScale s)) (row s.dvec 2 (by decide))) I.lam (ix2 (n0 := 1) (n1 := 512) 0 (y 1))
  else s.dvec y

/-- What a point leaves, from what the point before left. -/
def Left.step (v : BitVec 32) (I : Ins F) (s : Left F) : Left F where
  dwa := k0_pay116 (k0_pay90 I.xc) I.r I.cl I.inv (I.viaState v s) (I.viaScale s) s.dwa
  dwx := k0_pay117 (k0_pay90 I.xc) I.g (I.dgx s) s.dwx
  dvec := vecNext v I s
  carry := carryAt (I.next s.edge) I.dh s.carry 128
  edge := k0_pay104 I.a

/-- The cotangent of the branch's input over the tile. -/
def dxcOf (v : BitVec 32) (I : Ins F) (s : Left F) : Vec F S1024x512 .f32 :=
  k0_pay122 I.g (k0_pay107 I.mult (I.G s)) (k0_pay114 I.r I.cl I.inv (I.viaState v s) (I.viaScale s)) (k0_pay115 I.g (I.dgx s)) I.wa I.wx

end Cert.KernelIdeal.Rnn
-- ==== Proof.Rnn.Scan.lean ====
/- The loop over a tile's groups computes the tile's recurrence. -/
module

public import proofs.«01_k».proof.Proof.Rnn.Tile
public import proofs.«01_k».proof.Proof.Gen.KernelIdeal.Loops
public import Idealize.ShloMosaic.Lib.Pipeline.Value
public import Idealize.ShloMosaic.Lib.Tactic
public import Idealize.ShloMosaic.Lib.Ring
public import Idealize.ShloMosaic.Lib.VecWindow

@[expose] public section

set_option maxRecDepth 16384

noncomputable section

namespace Cert.KernelIdeal.Rnn

open Cert.KernelIdeal Cert.KernelIdeal.Gen
open Idealize.ShloMosaic Idealize.ShloMosaic.Tactic Idealize.SL.Sem
open Idealize.ShloMosaic.ValueIdx (ix2 idx2_lt0 idx2_lt1)

variable {F : FTy → Type} [FloatOps F]

/-- The carried rows after `n` of a trip's eight groups, of which `A` and `D` are the decays and the cotangents. -/
def chain (A D : Fin 8 → Vec F S8x512 .f32) (c : Vec F S8x512 .f32) : ℕ → Vec F S8x512 .f32
  | 0 => c
  | n + 1 => top (group (A (Fin.ofNat 8 n)) (D (Fin.ofNat 8 n)) (chain A D c n))

/-- A trip's rectangle `u`: the rows of its group. -/
abbrev tripRect (k : Fin k0_t1_loop.trips) (u : Fin 8) : Rect S1024x512 :=
  Rect.unit (s := S1024x512) (k0_off1 k (BitVec.ofNat 32 u.val)) S8x512.size (k0_off1_inb k u)

/-- The group that trip `k` computes as its `u`-th. -/
def tripGrp (k : Fin k0_t1_loop.trips) (u : Fin 8) : Fin 128 := ⟨127 - (8 * k.val + u.val), by omega⟩

theorem trips_le : ∀ k : Fin k0_t1_loop.trips, k.val < 16 := fun k => Nat.lt_of_lt_of_le k.isLt k0_t1_abs.2.1

/-- The rectangle's index `x` is row `x₀` of its group. -/
theorem tripRect_idx (k : Fin k0_t1_loop.trips) (u : Fin 8) (x : S8x512.Idx) :
    (tripRect k u).idx x = ix2 (n0 := 1024) (n1 := 512) ⟨8 * (tripGrp k u).val + (x 0).val, by
      have h := idx2_lt0 (n0 := 8) (n1 := 512) x; have := (tripGrp k u).isLt; omega⟩ (x 1) := by
  have hk := trips_le k
  have hu := u.isLt
  funext a
  apply Fin.ext
  show k0_off1 k (BitVec.ofNat 32 u.val) a + 1 * (x a).val = _
  rw [k0_off1_eq k u]
  match a with
  | ⟨0, _⟩ => show 1016 - (64 * k.val + 8 * u.val) + 1 * (x 0).val = 8 * (127 - (8 * k.val + u.val)) + (x 0).val
              omega
  | ⟨1, _⟩ => show 0 + 1 * (x 1).val = (x 1).val
              omega

/-- What a load through the rectangle reads is the group's rows. -/
theorem tripRect_ld (X : Vec F S1024x512 .f32) (k : Fin k0_t1_loop.trips) (u : Fin 8) :
    (View.ld X (tripRect k u) : Vec F S8x512 .f32) = rowsAt X (tripGrp k u) :=
  funext fun x => congrArg X (tripRect_idx k u x)

/-- A trip's carries are the tile's. -/
theorem chain_carryAt (sa d : Vec F S1024x512 .f32) (c : Vec F S8x512 .f32) (k : Fin k0_t1_loop.trips) : ∀ n ≤ 8,
    chain (fun u => rowsAt sa (tripGrp k u)) (fun u => rowsAt d (tripGrp k u)) (carryAt sa d c (8 * k.val)) n
      = carryAt sa d c (8 * k.val + n)
  | 0, _ => rfl
  | n + 1, hn => by
    have e : tripGrp k (Fin.ofNat 8 n) = ⟨127 - (8 * k.val + n), by omega⟩ := by
      apply Fin.ext; show 127 - (8 * k.val + n % 8) = 127 - (8 * k.val + n); rw [Nat.mod_eq_of_lt (by omega)]
    show top _ = top _
    dsimp only
    rw [chain_carryAt sa d c k n (by omega), e]
    rfl

variable (𝒱 : Variants) (c : Dev nD) (bd : Option 𝒱.V) (i : grid0.Coords)
  (a1 : Memref sig .tc .vmem S1024x512 .f32) (w1 : a1.IsWhole)
  (a2 : Memref sig .tc .vmem S1024x512 .f32) (w2 : a2.IsWhole)
  (a3 : Memref sig .tc .vmem S8x512 .f32) (w3 : a3.IsWhole)
  (a4 : Memref sig .tc .vmem S1024x512 .f32) (w4 : a4.IsWhole)
  (a5 : Memref sig .tc .vmem S512x512 .bf16) (w5 : a5.IsWhole)
  (a6 : Memref sig .tc .vmem S1x512 .f32) (w6 : a6.IsWhole)
  (a7 : Memref sig .tc .vmem S512x512 .bf16) (w7 : a7.IsWhole)
  (a8 : Memref sig .tc .vmem S1x512 .f32) (w8 : a8.IsWhole)
  (a9 : Memref sig .tc .vmem S1x512 .f32) (w9 : a9.IsWhole)
  (a10 : Memref sig .tc .vmem S1024x512 .f32) (w10 : a10.IsWhole)
  (a11 : Memref sig .tc .vmem S512x512 .f32) (w11 : a11.IsWhole)
  (a12 : Memref sig .tc .vmem S512x512 .f32) (w12 : a12.IsWhole)
  (a13 : Memref sig .tc .vmem S8x512 .f32) (w13 : a13.IsWhole)
  (a14 : Memref sig .tc .vmem S1024x512 .f32) (w14 : a14.IsWhole)
  (a15 : Memref sig .tc .vmem S1024x512 .f32) (w15 : a15.IsWhole)
  (a16 : Memref sig .tc .vmem S8x512 .f32) (w16 : a16.IsWhole)
  (a17 : Memref sig .tc .vmem S8x512 .f32) (w17 : a17.IsWhole)
  (v0 : BitVec 32) (v4 : Vec F S1024x512 .f32) (v32 v56 v69 : FVec F S1024x512 .f32) (v70 : Vec F S1024x512 .f32)
  (v73 : FVec F S1024x512 .f32) (v75 : IVec S1024x512 1) (v77 : FVec F S1x512 .f32)
  (X4 : BufTy.Contents (Elt F) a4.view.ty) (X14 : BufTy.Contents (Elt F) a14.view.ty)

set_option maxHeartbeats 4000000 in
/-- One trip takes the carried rows through its eight groups. -/
theorem trip_carry (k : Fin k0_t1_loop.trips) (acc : Vec F S8x512 .f32) :
    (trip_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 k).1 acc
      = chain (fun u => rowsAt (a14.view.read (Elt F) X14) (tripGrp k u)) (fun u => rowsAt (a4.view.read (Elt F) X4) (tripGrp k u)) acc 8 := by
  simp only [← tripRect_ld]
  unfold trip_k0_t1
  rfl

/-- What the trip stores for its group `u`. -/
abbrev tripPiece (A D : Fin 8 → Vec F S8x512 .f32) (k : Fin k0_t1_loop.trips) (acc : Vec F S8x512 .f32) (u : Fin 8) :
    View.Piece (Elt F) S1024x512 .f32 :=
  ⟨tripRect k u, shapeCast S8x512 (group (A u) (D u) (chain A D acc u.val)) shapeCasts_S8x512_S8x512⟩

set_option maxHeartbeats 4000000 in
/-- One trip stores its eight groups, the last first in the list. -/
theorem trip_pieces (k : Fin k0_t1_loop.trips) (acc : Vec F S8x512 .f32) :
    (trip_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 k).2.1 acc
      = [7, 6, 5, 4, 3, 2, 1, 0].map (tripPiece (fun u => rowsAt (a14.view.read (Elt F) X14) (tripGrp k u))
          (fun u => rowsAt (a4.view.read (Elt F) X4) (tripGrp k u)) k acc) := by
  simp only [← tripRect_ld]
  unfold trip_k0_t1
  rfl

variable (init : Vec F S8x512 .f32)

/-- Before trip `k` the loop carries the carry of group `8 k`, and what it has stored is the tile's recurrence. -/
theorem loop_state : ∀ k ≤ k0_t1_loop.trips,
    (st_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 init k).1 = carryAt (a14.view.read (Elt F) X14) (a4.view.read (Elt F) X4) init (8 * k)
    ∧ ∀ p ∈ (st_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 init k).2, ∀ x : p.1.shape.Idx, p.2 x = scanned (a14.view.read (Elt F) X14) (a4.view.read (Elt F) X4) init (p.1.emb x)
  | 0, _ => ⟨rfl, fun p hp => absurd hp (by simp [st_k0_t1])⟩
  | k + 1, hk => by
    obtain ⟨h1, h2⟩ := loop_state k (by omega)
    rw [st_k0_t1_succ 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 init ⟨k, hk⟩]
    simp only [tripR_k0_t1, tripL_k0_t1]
    rw [trip_carry, trip_pieces, h1]
    refine ⟨chain_carryAt _ _ _ ⟨k, hk⟩ 8 le_rfl, fun p hp x => ?_⟩
    rcases List.mem_append.mp hp with hp | hp
    · obtain ⟨u, -, rfl⟩ := List.mem_map.mp hp
      have hk16 := trips_le ⟨k, hk⟩
      have hx : (x 0).val < 8 := idx2_lt0 (n0 := 8) (n1 := 512) x
      have hu := u.isLt
      dsimp only [tripPiece]
      rw [shapeCast_self, chain_carryAt _ _ _ ⟨k, hk⟩ u.val (by omega)]
      show _ = scanned _ _ _ ((tripRect ⟨k, hk⟩ u).idx x)
      rw [tripRect_idx]
      have hg : (127 : ℕ) - (8 * k + u.val) < 128 := by omega
      have e1 : grp (ix2 (n0 := 1024) (n1 := 512) ⟨8 * (tripGrp ⟨k, hk⟩ u).val + (x 0).val, by
          have := (tripGrp ⟨k, hk⟩ u).isLt; omega⟩ (x 1)) = tripGrp ⟨k, hk⟩ u := by
        apply Fin.ext
        show (8 * (tripGrp ⟨k, hk⟩ u).val + (x 0).val) / 8 = (tripGrp ⟨k, hk⟩ u).val
        omega
      unfold scanned
      rw [e1]
      have e2 : 127 - (tripGrp ⟨k, hk⟩ u).val = 8 * k + u.val := by
        show 127 - (127 - (8 * k + u.val)) = _
        simp only at hk16
        omega
      rw [e2]
      congr 1
      funext b
      apply Fin.ext
      match b with
      | ⟨0, _⟩ => show (x 0).val = (8 * (tripGrp ⟨k, hk⟩ u).val + (x 0).val) % 8
                  omega
      | ⟨1, _⟩ => rfl
    · exact h2 p hp x

variable {sa d : Vec F S1024x512 .f32}

/-- After the loop it carries the tile's last carry. -/
theorem loop_carry (hsa : a14.view.read (Elt F) X14 = sa) (hd : a4.view.read (Elt F) X4 = d) :
    (st_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 init (Scf.trips (0#32) (Scalar.addi 0#32 16#32) 1#32)).1 = carryAt sa d init 128 := by
  subst hsa hd
  rw [show Scf.trips (0#32) (Scalar.addi 0#32 16#32) 1#32 = k0_t1_loop.trips from rfl]
  rw [(loop_state 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 X4 X14 init _ le_rfl).1]
  rfl

/-- What is read of the recurrence's buffer after the loop is the tile's recurrence. -/
theorem loop_read (hsa : a14.view.read (Elt F) X14 = sa) (hd : a4.view.read (Elt F) X4 = d) (r : Rect S1024x512) :
    a15.view.readCov (st_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 init (Scf.trips (0#32) (Scalar.addi 0#32 16#32) 1#32)).2 r.toLoadRect = View.ld (scanned sa d init) r := by
  subst hsa hd
  rw [show Scf.trips (0#32) (Scalar.addi 0#32 16#32) 1#32 = k0_t1_loop.trips from rfl]
  have hcov : ∀ y, ∃ p ∈ (st_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 init k0_t1_loop.trips).2, y ∈ p.1.set :=
    View.cover_of_tiledL (st_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 lane X4 X14 init k0_t1_loop.trips).2 S8x512.size (by sl_kernel_rfl)
  rw [View.readCov_eq_canon_ld _ _ _ hcov]
  exact congrArg (View.ld · r) (funext fun y => View.canon_apply_of_pieces _ _
    (loop_state 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 X4 X14 init _ le_rfl).2 y (hcov y))

variable (x4 : Vec F S1024x512 .f32) (f14 : BufTy.Contents (Elt F) a14.view.ty) (X : Vec F S1024x512 .f32)

/-- The same, with the decays just stored and the cotangents staged. -/
theorem loop_carry' : (st_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 (iota .tc S8x512 32 [0] iota_S8x512_d0_w32) (w4.unread x4) (a14.view.writes (Elt F) f14 [⟨Rect.unit (s := S1024x512) ![0, 0] ![1024, 512] inb_S1024x512_S1024x512_0_0, X⟩]) init (Scf.trips (0#32) (Scalar.addi 0#32 16#32) 1#32)).1 = carryAt X x4 init 128 :=
  loop_carry 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 _ _ init (View.read_writes_full _ _ _ _ _) (w4.read_unread _)

theorem loop_read' : a15.view.readCov (st_k0_t1 (F := F) 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 (iota .tc S8x512 32 [0] iota_S8x512_d0_w32) (w4.unread x4) (a14.view.writes (Elt F) f14 [⟨Rect.unit (s := S1024x512) ![0, 0] ![1024, 512] inb_S1024x512_S1024x512_0_0, X⟩]) init (Scf.trips (0#32) (Scalar.addi 0#32 16#32) 1#32)).2 (Rect.unit (s := S1024x512) ![0, 0] ![1024, 512] inb_S1024x512_S1024x512_0_0).toLoadRect = scanned X x4 init :=
  (loop_read 𝒱 c bd i a1 w1 a2 w2 a3 w3 a4 w4 a5 w5 a6 w6 a7 w7 a8 w8 a9 w9 a10 w10 a11 w11 a12 w12 a13 w13 a14 w14 a15 w15 a16 w16 a17 w17 v0 v4 v32 v56 v69 v70 v73 v75 v77 _ _ init (View.read_writes_full _ _ _ _ _) (w4.read_unread _) _).trans
    (View.ld_unit_zero (S := S1024x512) (by decide) _ _)

end Cert.KernelIdeal.Rnn
-- ==== Proof.Rnn.Rows.lean ====
/- Stores and loads of single rows of eight. -/
module

public import proofs.«01_k».proof.Proof.Rnn.Tile
public import Idealize.ShloMosaic.Lib.Pipeline.Value
public import Idealize.ShloMosaic.Lib.WritesUnit
public import Idealize.ShloMosaic.Lib.VecWindow

@[expose] public section

set_option maxRecDepth 16384

noncomputable section

namespace Cert.KernelIdeal.Rnn

open Cert.KernelIdeal Cert.KernelIdeal.Gen
open Idealize.ShloMosaic Idealize.ShloMosaic.Tactic Idealize.SL.Sem
open Idealize.ShloMosaic.ValueIdx (ix2 idx2_lt0 idx2_lt1)

variable {F : FTy → Type} [FloatOps F]

/-- The tile's number from the front, at a point. -/
def tileNo (i : grid0.Coords) : BitVec 32 := Scalar.subi 7#32 (BitVec.ofNat 32 (i 0).val)

theorem hz : (![0, 0] : Fin 2 → Nat) = fun _ => 0 := by decide

variable {sp : Space} (v : View sig .tc sp S8x512 .f32)

/-- A load of a row is the row. -/
theorem ld_row (X : Vec F S8x512 .f32) (k : ℕ) (hk : k < 8) (inb : ∀ a, (![k, 0] : Fin 2 → ℕ) a + (![1, 512] : Fin 2 → ℕ) a ≤ S8x512.size a) :
    View.ld X (Rect.unit (s := S8x512) ![k, 0] ![1, 512] inb) = row X k hk := by
  funext y
  refine congrArg X (funext fun a => Fin.ext ?_)
  have h0 := idx2_lt0 (n0 := 1) (n1 := 512) y
  match a with
  | ⟨0, _⟩ => show k + 1 * (y 0).val = k
              omega
  | ⟨1, _⟩ => show 0 + 1 * (y 1).val = (y 1).val
              omega

/-- Four stored rows: each is what was stored in it, and the others are left. -/
theorem read_rows (f : BufTy.Contents (Elt F) v.ty) (L : List (View.Piece (Elt F) S8x512 .f32)) (p0 p1 p2 p3 : Vec F S1x512 .f32) :
    v.read (Elt F) (v.writes (Elt F) f (⟨Rect.unit (s := S8x512) ![3, 0] ![1, 512] inb_S8x512_S1x512_3_0, p3⟩ :: ⟨Rect.unit (s := S8x512) ![2, 0] ![1, 512] inb_S8x512_S1x512_2_0, p2⟩ :: ⟨Rect.unit (s := S8x512) ![1, 0] ![1, 512] inb_S8x512_S1x512_1_0, p1⟩ :: ⟨Rect.unit (s := S8x512) ![0, 0] ![1, 512] inb_S8x512_S1x512_0_0, p0⟩ :: L))
      = fun y : S8x512.Idx => if (y 0).val = 0 then p0 (ix2 (n0 := 1) (n1 := 512) 0 (y 1))
        else if (y 0).val = 1 then p1 (ix2 (n0 := 1) (n1 := 512) 0 (y 1))
        else if (y 0).val = 2 then p2 (ix2 (n0 := 1) (n1 := 512) 0 (y 1))
        else if (y 0).val = 3 then p3 (ix2 (n0 := 1) (n1 := 512) 0 (y 1))
        else v.read (Elt F) (v.writes (Elt F) f L) y := by
  funext y
  have miss : ∀ (k : ℕ) (inb) (w : Vec F S1x512 .f32) (M : List (View.Piece (Elt F) S8x512 .f32)), (y 0).val ≠ k →
      v.read (Elt F) (v.writes (Elt F) f (⟨Rect.unit (s := S8x512) ![k, 0] ![1, 512] inb, w⟩ :: M)) y = v.read (Elt F) (v.writes (Elt F) f M) y := by
    intro k inb w M h
    exact View.read_writes_cons_rows_of_not_mem v f inb w M y (o := k) (W := 1) rfl rfl (by omega)
  have hit : ∀ (k : ℕ) (inb) (w : Vec F S1x512 .f32) (M : List (View.Piece (Elt F) S8x512 .f32)), (y 0).val = k →
      v.read (Elt F) (v.writes (Elt F) f (⟨Rect.unit (s := S8x512) ![k, 0] ![1, 512] inb, w⟩ :: M)) y = w (ix2 (n0 := 1) (n1 := 512) 0 (y 1)) := by
    intro k inb w M h
    exact View.read_writes_cons_rows_of_mem v f inb w M y (ix2 (n0 := 1) (n1 := 512) 0 (y 1)) (o := k) rfl h rfl
  by_cases h0 : (y 0).val = 0
  · rw [if_pos h0, miss 3 _ _ _ (by omega), miss 2 _ _ _ (by omega), miss 1 _ _ _ (by omega), hit 0 _ _ _ h0]
  rw [if_neg h0]
  by_cases h1 : (y 0).val = 1
  · rw [if_pos h1, miss 3 _ _ _ (by omega), miss 2 _ _ _ (by omega), hit 1 _ _ _ h1]
  rw [if_neg h1]
  by_cases h2 : (y 0).val = 2
  · rw [if_pos h2, miss 3 _ _ _ (by omega), hit 2 _ _ _ h2]
  rw [if_neg h2]
  by_cases h3 : (y 0).val = 3
  · rw [if_pos h3, hit 3 _ _ _ h3]
  rw [if_neg h3, miss 3 _ _ _ h3, miss 2 _ _ _ h2, miss 1 _ _ _ h1, miss 0 _ _ _ h0]

/-- The third row, read back, is what was stored in it. -/
theorem readCov_row2 (L : List (View.Piece (Elt F) S8x512 .f32)) (p2 : (Rect.unit (s := S8x512) ![2, 0] ![1, 512] inb_S8x512_S1x512_2_0).shape.Idx → Elt F .f32) :
    v.readCov (Val := Elt F) (⟨Rect.unit (s := S8x512) ![2, 0] ![1, 512] inb_S8x512_S1x512_2_0, p2⟩ :: L) (Rect.unit (s := S8x512) ![2, 0] ![1, 512] inb_S8x512_S1x512_2_0).toLoadRect = p2 :=
  View.readCov_cons_toLoadRect (Val := Elt F) v (Rect.unit (s := S8x512) ![2, 0] ![1, 512] inb_S8x512_S1x512_2_0) p2 L

/-- A row of a buffer just filled is the filling's. -/
theorem readCov_fill (Z : Vec F S8x512 .f32) (k : ℕ) (hk : k < 8) (inb : ∀ a, (![k, 0] : Fin 2 → ℕ) a + (![1, 512] : Fin 2 → ℕ) a ≤ S8x512.size a) :
    v.readCov (Val := Elt F) [⟨Rect.unit (s := S8x512) ![0, 0] ![8, 512] inb_S8x512_S8x512_0_0, Z⟩] (Rect.unit (s := S8x512) ![k, 0] ![1, 512] inb).toLoadRect = row Z k hk := by
  rw [View.readCov_eq_canon']
  rw [show View.canon (Val := Elt F) [⟨Rect.unit (s := S8x512) ![0, 0] ![8, 512] inb_S8x512_S8x512_0_0, Z⟩] = Z from
    View.canon_cons_unit_zero (Val := Elt F) (S := S8x512) (by decide) _ Z []]
  exact ld_row Z k hk inb

/-- The row after one just stored is what it was before. -/
theorem readCov_past (L : List (View.Piece (Elt F) S8x512 .f32)) (j k : ℕ) (hjk : j ≠ k)
    (inb : ∀ a, (![k, 0] : Fin 2 → ℕ) a + (![1, 512] : Fin 2 → ℕ) a ≤ S8x512.size a)
    (inb' : ∀ a, (![j, 0] : Fin 2 → ℕ) a + (![1, 512] : Fin 2 → ℕ) a ≤ S8x512.size a)
    (p : (Rect.unit (s := S8x512) ![j, 0] ![1, 512] inb').shape.Idx → Elt F .f32) :
    v.readCov (Val := Elt F) (⟨Rect.unit (s := S8x512) ![j, 0] ![1, 512] inb', p⟩ :: L) (Rect.unit (s := S8x512) ![k, 0] ![1, 512] inb).toLoadRect
      = v.readCov (Val := Elt F) L (Rect.unit (s := S8x512) ![k, 0] ![1, 512] inb).toLoadRect := by
  refine View.readCov_cons_of_disjoint v _ L _ ?_
  refine Finset.disjoint_left.mpr fun y h1 h2 => hjk ?_
  have e1 := (Rect.mem_set_unit (inb := inb')).mp h1 0
  have e2 := (Rect.mem_set_unit (inb := inb)).mp h2 0
  have : j ≤ (y 0).val ∧ (y 0).val < j + 1 := e1
  have : k ≤ (y 0).val ∧ (y 0).val < k + 1 := e2
  omega

/-- A buffer just filled, read whole. -/
theorem readCov_whole8 (Z : Vec F S8x512 .f32) :
    v.readCov (Val := Elt F) [⟨Rect.unit (s := S8x512) ![0, 0] ![8, 512] inb_S8x512_S8x512_0_0, Z⟩] (Rect.unit (s := S8x512) ![0, 0] ![8, 512] inb_S8x512_S8x512_0_0).toLoadRect = Z :=
  View.readCov_full v inb_S8x512_S8x512_0_0 inb_S8x512_S8x512_0_0 Z []

theorem readCov_whole512 (v : View sig .tc sp S512x512 .f32) (Z : Vec F S512x512 .f32) :
    v.readCov (Val := Elt F) [⟨Rect.unit (s := S512x512) ![0, 0] ![512, 512] inb_S512x512_S512x512_0_0, Z⟩] (Rect.unit (s := S512x512) ![0, 0] ![512, 512] inb_S512x512_S512x512_0_0).toLoadRect = Z :=
  View.readCov_full v inb_S512x512_S512x512_0_0 inb_S512x512_S512x512_0_0 Z []

end Cert.KernelIdeal.Rnn
-- ==== Proof.Rnn.FirstValue.lean ====
/- What the body leaves at the first point. -/
module

public import proofs.«01_k».proof.Proof.Rnn.First
public import proofs.«01_k».proof.Proof.Rnn.Scan
public import Idealize.ShloMosaic.Lib.VecWindow
public import proofs.«01_k».proof.Proof.Rnn.Rows

@[expose] public section

set_option maxRecDepth 16384

noncomputable section

namespace Cert.KernelIdeal.Rnn

open Cert.KernelIdeal Cert.KernelIdeal.Gen
open Idealize.ShloMosaic Idealize.ShloMosaic.Tactic Idealize.SL.Sem
open Idealize.ShloMosaic.ValueIdx (ix2 idx2_lt0 idx2_lt1)

variable {F : FTy → Type} [FloatOps F]

variable (c : Dev nD) (i : grid0.Coords)
  (a1 : Memref sig .tc .vmem S1024x512 .f32) (w1 : a1.IsWhole)
  (a2 : Memref sig .tc .vmem S1024x512 .f32) (w2 : a2.IsWhole)
  (a3 : Memref sig .tc .vmem S8x512 .f32) (w3 : a3.IsWhole)
  (a4 : Memref sig .tc .vmem S1024x512 .f32) (w4 : a4.IsWhole)
  (a5 : Memref sig .tc .vmem S512x512 .bf16) (w5 : a5.IsWhole)
  (a6 : Memref sig .tc .vmem S1x512 .f32) (w6 : a6.IsWhole)
  (a7 : Memref sig .tc .vmem S512x512 .bf16) (w7 : a7.IsWhole)
  (a8 : Memref sig .tc .vmem S1x512 .f32) (w8 : a8.IsWhole)
  (a9 : Memref sig .tc .vmem S1x512 .f32) (w9 : a9.IsWhole)
  (a10 : Memref sig .tc .vmem S1024x512 .f32) (w10 : a10.IsWhole)
  (a11 : Memref sig .tc .vmem S512x512 .f32) (w11 : a11.IsWhole)
  (a12 : Memref sig .tc .vmem S512x512 .f32) (w12 : a12.IsWhole)
  (a13 : Memref sig .tc .vmem S8x512 .f32) (w13 : a13.IsWhole)
  (a14 : Memref sig .tc .vmem S1024x512 .f32) (w14 : a14.IsWhole)
  (a15 : Memref sig .tc .vmem S1024x512 .f32) (w15 : a15.IsWhole)
  (a16 : Memref sig .tc .vmem S8x512 .f32) (w16 : a16.IsWhole)
  (a17 : Memref sig .tc .vmem S8x512 .f32) (w17 : a17.IsWhole)
  (hc : cond i) (x1 x2 : Vec F S1024x512 .f32) (x3 : Vec F S8x512 .f32) (x4 : Vec F S1024x512 .f32) (x5 : Vec F S512x512 .bf16) (x6 : Vec F S1x512 .f32) (x7 : Vec F S512x512 .bf16) (x8 x9 : Vec F S1x512 .f32)

set_option maxHeartbeats 2000000 in
/-- What the body's stores at the first point leave: in the outputs and in the carried buffers, whatever was under them. -/
theorem leftA (f10 : BufTy.Contents (Elt F) a10.view.ty) (f11 : BufTy.Contents (Elt F) a11.view.ty) (f12 : BufTy.Contents (Elt F) a12.view.ty)
    (f16 : BufTy.Contents (Elt F) a16.view.ty) (f17 : BufTy.Contents (Elt F) a17.view.ty) :
    a10.view.read (Elt F) (a10.view.writes (Elt F) f10 (runA (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9).1) = dxcOf (tileNo i) ⟨x1, x2, x3, x4, x5, x6, x7, x8, x9⟩ Left.zero
    ∧ a11.view.read (Elt F) (a11.view.writes (Elt F) f11 (runA (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9).2.1) = (Left.step (tileNo i) ⟨x1, x2, x3, x4, x5, x6, x7, x8, x9⟩ Left.zero).dwa
    ∧ a12.view.read (Elt F) (a12.view.writes (Elt F) f12 (runA (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9).2.2.1) = (Left.step (tileNo i) ⟨x1, x2, x3, x4, x5, x6, x7, x8, x9⟩ Left.zero).dwx
    ∧ a16.view.read (Elt F) (a16.view.writes (Elt F) f16 (runA (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9).2.2.2.2.1) = (Left.step (tileNo i) ⟨x1, x2, x3, x4, x5, x6, x7, x8, x9⟩ Left.zero).carry
    ∧ a17.view.read (Elt F) (a17.view.writes (Elt F) f17 (runA (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9).2.2.2.2.2.1) = (Left.step (tileNo i) ⟨x1, x2, x3, x4, x5, x6, x7, x8, x9⟩ Left.zero).edge := by
  refine ⟨?_, ?_, ?_, ?_, ?_⟩
  · unfold runA
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    simp only [readCov_whole8, readCov_whole512]
    rw [loop_read']
    rfl
  · unfold runA
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    simp only [readCov_whole8, readCov_whole512]
    rw [loop_read']
    rfl
  · unfold runA
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    simp only [readCov_whole8, readCov_whole512]
    rw [loop_read']
    rfl
  · unfold runA
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    simp only [readCov_whole8, readCov_whole512]
    unfold k0_pay106
    dsimp only
    rw [loop_carry', shapeCast_self]
    rfl
  · unfold runA
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    rfl

set_option maxHeartbeats 2000000 in
/-- And in the rows of the bias gradients. -/
theorem vecA (f13 : BufTy.Contents (Elt F) a13.view.ty) :
    a13.view.read (Elt F) (a13.view.writes (Elt F) f13 (runA (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9).2.2.2.1) = (Left.step (tileNo i) ⟨x1, x2, x3, x4, x5, x6, x7, x8, x9⟩ Left.zero).dvec := by
  unfold runA
  dsimp only
  sl_unfold_words
  simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
  simp only [readCov_whole8]
  rw [loop_read', read_rows, readCov_row2]
  simp only [readCov_past _ _ 0 1 (by decide), readCov_past _ _ 0 2 (by decide), readCov_past _ _ 1 2 (by decide), readCov_fill _ _ 0 (by decide), readCov_fill _ _ 1 (by decide), readCov_fill _ _ 2 (by decide)]
  funext y
  rw [View.read_writes_full]
  rfl

end Cert.KernelIdeal.Rnn
-- ==== Proof.Rnn.Later.lean ====
/- The body of the recurrence's gradient at a later point, run. -/
module

public import proofs.«01_k».proof.Proof.Rnn.First

@[expose] public section

set_option maxRecDepth 16384

noncomputable section

namespace Cert.KernelIdeal.Rnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (a1 : Memref sig .tc .vmem S1024x512 .f32) (w1 : a1.IsWhole)
  (a2 : Memref sig .tc .vmem S1024x512 .f32) (w2 : a2.IsWhole)
  (a3 : Memref sig .tc .vmem S8x512 .f32) (w3 : a3.IsWhole)
  (a4 : Memref sig .tc .vmem S1024x512 .f32) (w4 : a4.IsWhole)
  (a5 : Memref sig .tc .vmem S512x512 .bf16) (w5 : a5.IsWhole)
  (a6 : Memref sig .tc .vmem S1x512 .f32) (w6 : a6.IsWhole)
  (a7 : Memref sig .tc .vmem S512x512 .bf16) (w7 : a7.IsWhole)
  (a8 : Memref sig .tc .vmem S1x512 .f32) (w8 : a8.IsWhole)
  (a9 : Memref sig .tc .vmem S1x512 .f32) (w9 : a9.IsWhole)
  (a10 : Memref sig .tc .vmem S1024x512 .f32) (w10 : a10.IsWhole)
  (a11 : Memref sig .tc .vmem S512x512 .f32) (w11 : a11.IsWhole)
  (a12 : Memref sig .tc .vmem S512x512 .f32) (w12 : a12.IsWhole)
  (a13 : Memref sig .tc .vmem S8x512 .f32) (w13 : a13.IsWhole)
  (a14 : Memref sig .tc .vmem S1024x512 .f32) (w14 : a14.IsWhole)
  (a15 : Memref sig .tc .vmem S1024x512 .f32) (w15 : a15.IsWhole)
  (a16 : Memref sig .tc .vmem S8x512 .f32) (w16 : a16.IsWhole)
  (a17 : Memref sig .tc .vmem S8x512 .f32) (w17 : a17.IsWhole)

set_option backward.proofsInPublic true in
set_option maxHeartbeats 1000000 in
/-- THE BODY AT A LATER POINT, where the three accumulated outputs and the carried scratch hold what the point before left:
    the pieces that its stores leave, with the proof that it runs to them. -/
noncomputable def runB (hc : ¬cond i) (x1 : Vec F S1024x512 .f32) (x2 : Vec F S1024x512 .f32) (x3 : Vec F S8x512 .f32) (x4 : Vec F S1024x512 .f32) (x5 : Vec F S512x512 .bf16) (x6 : Vec F S1x512 .f32) (x7 : Vec F S512x512 .bf16) (x8 : Vec F S1x512 .f32) (x9 : Vec F S1x512 .f32) (x11 x12 : Vec F S512x512 .f32) (x13 x16 x17 : Vec F S8x512 .f32) :
    Σ' (L10 : List (View.Piece (Elt F) S1024x512 .f32)), Σ' (L11 : List (View.Piece (Elt F) S512x512 .f32)), Σ' (L12 : List (View.Piece (Elt F) S512x512 .f32)), Σ' (L13 : List (View.Piece (Elt F) S8x512 .f32)), Σ' (L16 : List (View.Piece (Elt F) S8x512 .f32)), { L17 : List (View.Piece (Elt F) S8x512 .f32) //
      ∀ (E : Set ℕ) (K : PUnit → sProp (MT nD τ sig Unit (Elt F) ℕ (UR sig nD τ) ℕ)),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ owns (c : Thread nD τ) a11 fullShare x11 ∗ owns (c : Thread nD τ) a12 fullShare x12 ∗ owns (c : Thread nD τ) a13 fullShare x13 ∗ (∃ d, owns (c : Thread nD τ) a14 fullShare d) ∗ (∃ d, owns (c : Thread nD τ) a15 fullShare d) ∗ owns (c : Thread nD τ) a16 fullShare x16 ∗ owns (c : Thread nD τ) a17 fullShare x17
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (a13.view.loc (c : Thread nD τ) ↦[a13.view.set]{fullShare} a13.view.writes (Elt F) (w13.unread x13) L13) ∗ (∃ d, owns (c : Thread nD τ) a14 fullShare d) ∗ (∃ d, owns (c : Thread nD τ) a15 fullShare d) ∗ (∃ f, a16.view.loc (c : Thread nD τ) ↦[a16.view.set]{fullShare} a16.view.writes (Elt F) f L16) ∗ (∃ f, a17.view.loc (c : Thread nD τ) ↦[a17.view.set]{fullShare} a17.view.writes (Elt F) f L17)) -∗ K ⟨⟩))
          ⊢ wp frame (wpE (defs₀ (F := F)) Variants.none c none) E (cc0_rnn_bwd_fwd i a1 w1 a2 w2 a3 w3 a4 w4 a5 w5 a6 w6 a7 w7 a8 w8 a9 w9 a10 w10 a11 w11 a12 w12 a13 w13 a14 w14 a15 w15 a16 w16 a17 w17) K } := by
  refine ⟨?_, ?_, ?_, ?_, ?_, ?_, fun E K => ?run⟩
  case run =>
    simp only [cc0_rnn_bwd_fwd_eq_skeleton]; unfold cc0_rnn_bwd_fwd_skel
    simp only [k0_part9_eq_skeleton, k0_part10_eq_skeleton, k0_part11_eq_skeleton, k0_part12_eq_skeleton, k0_part13_eq_skeleton]
    unfold owns
    iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%f11, %h11, H11⟩, ⟨%f12, %h12, H12⟩, ⟨%f13, %h13, H13⟩, ⟨%d14, %f14, -, H14⟩, ⟨%d15, %f15, -, H15⟩, ⟨%f16, %h16, H16⟩, ⟨%f17, %h17, H17⟩, Hk⟩
    obtain rfl := w1.eq_unread h1; obtain rfl := w2.eq_unread h2; obtain rfl := w3.eq_unread h3; obtain rfl := w4.eq_unread h4; obtain rfl := w5.eq_unread h5; obtain rfl := w6.eq_unread h6; obtain rfl := w7.eq_unread h7; obtain rfl := w8.eq_unread h8; obtain rfl := w9.eq_unread h9; obtain rfl := w11.eq_unread h11; obtain rfl := w12.eq_unread h12; obtain rfl := w13.eq_unread h13; obtain rfl := w16.eq_unread h16; obtain rfl := w17.eq_unread h17
    have hread := scanned_read (F := F) a1 w1 a2 w2 a3 w3 a4 w4 a5 w5 a6 w6 a7 w7 a8 w8 a9 w9 a10 w10 a11 w11 a12 w12 a13 w13 a14 w14 a15 w15 a16 w16 a17 w17
    sl_exec (disch := first | sl_exact hc)
    sl_step
    iapply Hk
    isplitl [H1]; · iexists _; isplitr; · ipureintro; exact w1.read_unread _
                    iexact H1
    isplitl [H2]; · iexists _; isplitr; · ipureintro; exact w2.read_unread _
                    iexact H2
    isplitl [H3]; · iexists _; isplitr; · ipureintro; exact w3.read_unread _
                    iexact H3
    isplitl [H4]; · iexists _; isplitr; · ipureintro; exact w4.read_unread _
                    iexact H4
    isplitl [H5]; · iexists _; isplitr; · ipureintro; exact w5.read_unread _
                    iexact H5
    isplitl [H6]; · iexists _; isplitr; · ipureintro; exact w6.read_unread _
                    iexact H6
    isplitl [H7]; · iexists _; isplitr; · ipureintro; exact w7.read_unread _
                    iexact H7
    isplitl [H8]; · iexists _; isplitr; · ipureintro; exact w8.read_unread _
                    iexact H8
    isplitl [H9]; · iexists _; isplitr; · ipureintro; exact w9.read_unread _
                    iexact H9
    isplitl [H10]; · iexists _; iexact H10
    isplitl [H11]; · iexists _; iexact H11
    isplitl [H12]; · iexists _; iexact H12
    isplitl [H13]; · iexact H13
    isplitl [H14]; · iexists _, _; isplitr; swap; · iexact H14
                     ipureintro; rfl
    isplitl [H15]; · iexists _, _; isplitr; swap; · iexact H15
                     ipureintro; rfl
    isplitl [H16]; · iexists _; iexact H16
    iexists _; iexact H17

end Cert.KernelIdeal.Rnn

end
-- ==== Proof.Rnn.LaterValue.lean ====
/- What the body leaves at a later point. -/
module

public import proofs.«01_k».proof.Proof.Rnn.Later
public import proofs.«01_k».proof.Proof.Rnn.Scan
public import Idealize.ShloMosaic.Lib.VecWindow
public import proofs.«01_k».proof.Proof.Rnn.Rows

@[expose] public section

set_option maxRecDepth 16384

noncomputable section

namespace Cert.KernelIdeal.Rnn

open Cert.KernelIdeal Cert.KernelIdeal.Gen
open Idealize.ShloMosaic Idealize.ShloMosaic.Tactic Idealize.SL.Sem
open Idealize.ShloMosaic.ValueIdx (ix2 idx2_lt0 idx2_lt1)

variable {F : FTy → Type} [FloatOps F]

variable (c : Dev nD) (i : grid0.Coords)
  (a1 : Memref sig .tc .vmem S1024x512 .f32) (w1 : a1.IsWhole)
  (a2 : Memref sig .tc .vmem S1024x512 .f32) (w2 : a2.IsWhole)
  (a3 : Memref sig .tc .vmem S8x512 .f32) (w3 : a3.IsWhole)
  (a4 : Memref sig .tc .vmem S1024x512 .f32) (w4 : a4.IsWhole)
  (a5 : Memref sig .tc .vmem S512x512 .bf16) (w5 : a5.IsWhole)
  (a6 : Memref sig .tc .vmem S1x512 .f32) (w6 : a6.IsWhole)
  (a7 : Memref sig .tc .vmem S512x512 .bf16) (w7 : a7.IsWhole)
  (a8 : Memref sig .tc .vmem S1x512 .f32) (w8 : a8.IsWhole)
  (a9 : Memref sig .tc .vmem S1x512 .f32) (w9 : a9.IsWhole)
  (a10 : Memref sig .tc .vmem S1024x512 .f32) (w10 : a10.IsWhole)
  (a11 : Memref sig .tc .vmem S512x512 .f32) (w11 : a11.IsWhole)
  (a12 : Memref sig .tc .vmem S512x512 .f32) (w12 : a12.IsWhole)
  (a13 : Memref sig .tc .vmem S8x512 .f32) (w13 : a13.IsWhole)
  (a14 : Memref sig .tc .vmem S1024x512 .f32) (w14 : a14.IsWhole)
  (a15 : Memref sig .tc .vmem S1024x512 .f32) (w15 : a15.IsWhole)
  (a16 : Memref sig .tc .vmem S8x512 .f32) (w16 : a16.IsWhole)
  (a17 : Memref sig .tc .vmem S8x512 .f32) (w17 : a17.IsWhole)
  (hc : ¬cond i) (x1 x2 : Vec F S1024x512 .f32) (x3 : Vec F S8x512 .f32) (x4 : Vec F S1024x512 .f32) (x5 : Vec F S512x512 .bf16) (x6 : Vec F S1x512 .f32) (x7 : Vec F S512x512 .bf16) (x8 x9 : Vec F S1x512 .f32)
  (x11 x12 : Vec F S512x512 .f32) (x13 x16 x17 : Vec F S8x512 .f32)

set_option maxHeartbeats 2000000 in
/-- What the body's stores at a later point leave: in the outputs and in the carried buffers, whatever was under them. -/
theorem leftB (f10 : BufTy.Contents (Elt F) a10.view.ty) (f11 : BufTy.Contents (Elt F) a11.view.ty) (f12 : BufTy.Contents (Elt F) a12.view.ty)
    (f16 : BufTy.Contents (Elt F) a16.view.ty) (f17 : BufTy.Contents (Elt F) a17.view.ty) :
    a10.view.read (Elt F) (a10.view.writes (Elt F) f10 (runB (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9 x11 x12 x13 x16 x17).1) = dxcOf (tileNo i) ⟨x1, x2, x3, x4, x5, x6, x7, x8, x9⟩ ⟨x11, x12, x13, x16, x17⟩
    ∧ a11.view.read (Elt F) (a11.view.writes (Elt F) f11 (runB (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9 x11 x12 x13 x16 x17).2.1) = (Left.step (tileNo i) ⟨x1, x2, x3, x4, x5, x6, x7, x8, x9⟩ ⟨x11, x12, x13, x16, x17⟩).dwa
    ∧ a12.view.read (Elt F) (a12.view.writes (Elt F) f12 (runB (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9 x11 x12 x13 x16 x17).2.2.1) = (Left.step (tileNo i) ⟨x1, x2, x3, x4, x5, x6, x7, x8, x9⟩ ⟨x11, x12, x13, x16, x17⟩).dwx
    ∧ a16.view.read (Elt F) (a16.view.writes (Elt F) f16 (runB (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9 x11 x12 x13 x16 x17).2.2.2.2.1) = (Left.step (tileNo i) ⟨x1, x2, x3, x4, x5, x6, x7, x8, x9⟩ ⟨x11, x12, x13, x16, x17⟩).carry
    ∧ a17.view.read (Elt F) (a17.view.writes (Elt F) f17 (runB (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9 x11 x12 x13 x16 x17).2.2.2.2.2.1) = (Left.step (tileNo i) ⟨x1, x2, x3, x4, x5, x6, x7, x8, x9⟩ ⟨x11, x12, x13, x16, x17⟩).edge := by
  refine ⟨?_, ?_, ?_, ?_, ?_⟩
  · unfold runB
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    rw [loop_read']
    rfl
  · unfold runB
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    rw [loop_read']
    rfl
  · unfold runB
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    rw [loop_read']
    rfl
  · unfold runB
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    unfold k0_pay106
    dsimp only
    rw [loop_carry', shapeCast_self]
    rfl
  · unfold runB
    dsimp only
    sl_unfold_words
    rw [View.read_writes_full]
    simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
    rfl

set_option maxHeartbeats 2000000 in
/-- And in the rows of the bias gradients, over what they held. -/
theorem vecB :
    a13.view.read (Elt F) (a13.view.writes (Elt F) (w13.unread x13) (runB (F := F) c i a1 w1 a2 w2 a3 w3 a4 w4 a5 w5 a6 w6 a7 w7 a8 w8 a9 w9 a10 w10 a11 w11 a12 w12 a13 w13 a14 w14 a15 w15 a16 w16 a17 w17 hc x1 x2 x3 x4 x5 x6 x7 x8 x9 x11 x12 x13 x16 x17).2.2.2.1) = (Left.step (tileNo i) ⟨x1, x2, x3, x4, x5, x6, x7, x8, x9⟩ ⟨x11, x12, x13, x16, x17⟩).dvec := by
  unfold runB
  dsimp only
  sl_unfold_words
  simp only [View.readAt_eq_ld, w1.read_unread, w2.read_unread, w3.read_unread, w4.read_unread, w5.read_unread, w6.read_unread, w7.read_unread, w8.read_unread, w9.read_unread, w10.read_unread, w11.read_unread, w12.read_unread, w13.read_unread, w14.read_unread, w15.read_unread, w16.read_unread, w17.read_unread, View.ld_unit_zero (S := S1024x512) hz, View.ld_unit_zero (S := S512x512) hz, View.ld_unit_zero (S := S1x512) hz, View.ld_unit_zero (S := S8x512) hz]
  rw [loop_read']
  rw [read_rows, readCov_row2, ld_row x13 0 (by decide), ld_row x13 1 (by decide), ld_row x13 2 (by decide)]
  simp only [View.writes_nil, w13.read_unread]
  rfl

end Cert.KernelIdeal.Rnn
-- ==== Proof.Rnn.Frame.lean ====
/- The run of the recurrence's gradient over its grid: what every point leaves, and with it the frame. -/
module

public import proofs.«01_k».proof.Proof.Rnn.FirstValue
public import proofs.«01_k».proof.Proof.Rnn.LaterValue
public import Idealize.ShloMosaic.Lib.Claim

@[expose] public section

set_option maxRecDepth 16384

noncomputable section

namespace Cert.KernelIdeal.Rnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x512 .f32 := win0_12.stage (cfg0.slots t 12)
abbrev hs0_12 (t : Fin cfg0.N) : (ms0_12 t).IsWhole := hstage0_12 ((cfg0.slots t 12).cast nbuf0_12)
abbrev scM0_0 : Memref sig .tc .vmem S1024x512 .f32 := Memref.whole cc0_scratch0
abbrev scM0_1 : Memref sig .tc .vmem S1024x512 .f32 := Memref.whole cc0_scratch1
abbrev scM0_2 : Memref sig .tc .vmem S8x512 .f32 := Memref.whole cc0_scratch2
abbrev scM0_3 : Memref sig .tc .vmem S8x512 .f32 := Memref.whole cc0_scratch3

/-- What the launch hands over beside the arrays: the scratch buffers and the register. -/
theorem PhiA0_eq (c : Dev nD) :
    (Pipeline.ΦA (Val := Elt F) spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The blocks that a point finds in its inputs. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- What the first `n` points leave. -/
def leftAt (c : Dev nD) : ℕ → Left F
  | 0 => Left.zero
  | n + 1 => if h : n < cfg0.N then Left.step (tileNo (grid0.coords ⟨n, h⟩)) (insAt m c ⟨n, h⟩) (leftAt c n) else leftAt c n

theorem leftAt_succ (c : Dev nD) (t : Fin cfg0.N) :
    leftAt m c (t.val + 1) = Left.step (tileNo (grid0.coords t)) (insAt m c t) (leftAt m c t.val) :=
  dif_pos t.isLt

/-- The invariant before point `n`: the carried rows and the edge are what the points before left. -/
def PhiS (c : Dev nD) : ℕ → sProp 𝕄
  | 0 => Pipeline.ΦA spec0 c
  | n + 1 => iprop(iprop((∃ d, owns (c : Thread nD τ) scM0_0 fullShare d) ∗ (∃ d, owns (c : Thread nD τ) scM0_1 fullShare d) ∗ owns (c : Thread nD τ) scM0_2 fullShare ((leftAt m c (n + 1)).carry) ∗ owns (c : Thread nD τ) scM0_3 fullShare ((leftAt m c (n + 1)).edge)) ∗ (∃ r, prngReg c r))

theorem PhiS_succ (c : Dev nD) (n : ℕ) :
    PhiS m c (n + 1) = iprop(iprop((∃ d, owns (c : Thread nD τ) scM0_0 fullShare d) ∗ (∃ d, owns (c : Thread nD τ) scM0_1 fullShare d) ∗ owns (c : Thread nD τ) scM0_2 fullShare ((leftAt m c (n + 1)).carry) ∗ owns (c : Thread nD τ) scM0_3 fullShare ((leftAt m c (n + 1)).edge)) ∗ (∃ r, prngReg c r)) := rfl

theorem PhiS_pos (c : Dev nD) (n : ℕ) (hz : n ≠ 0) :
    PhiS m c n = iprop(iprop((∃ d, owns (c : Thread nD τ) scM0_0 fullShare d) ∗ (∃ d, owns (c : Thread nD τ) scM0_1 fullShare d) ∗ owns (c : Thread nD τ) scM0_2 fullShare ((leftAt m c n).carry) ∗ owns (c : Thread nD τ) scM0_3 fullShare ((leftAt m c n).edge)) ∗ (∃ r, prngReg c r)) := by
  cases n with
  | zero => exact absurd rfl hz
  | succ n => rfl

/-- The proof data of the pipeline: its inputs keep their blocks, its outputs hold what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxcOf (tileNo (grid0.coords t)) (insAt m c t) (leftAt m c t.val)
    | ⟨10, _⟩ => (leftAt m c (t.val + 1)).dwa
    | ⟨11, _⟩ => (leftAt m c (t.val + 1)).dwx
    | ⟨12, _⟩ => (leftAt m c (t.val + 1)).dvec
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dxcOf (tileNo (grid0.coords t)) (insAt m c t) (leftAt m c t.val) := by dsimp only [dats]
theorem after0_10 (c : Dev nD) (t : Fin cfg0.N) : (dats m 0 c).after 10 t = (leftAt m c (t.val + 1)).dwa := by dsimp only [dats]
theorem after0_11 (c : Dev nD) (t : Fin cfg0.N) : (dats m 0 c).after 11 t = (leftAt m c (t.val + 1)).dwx := by dsimp only [dats]
theorem after0_12 (c : Dev nD) (t : Fin cfg0.N) : (dats m 0 c).after 12 t = (leftAt m c (t.val + 1)).dvec := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- After the first point the output's buffer holds what the points before left. -/
theorem before0_10_B (c : Dev nD) (t : Fin cfg0.N) (h0 : t.val ≠ 0) (d) :
    (dats m 0 c).before 10 t d = (leftAt m c t.val).dwa := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]
  rw [Nat.sub_add_cancel (by omega)]

/-- After the first point the output's buffer holds what the points before left. -/
theorem before0_11_B (c : Dev nD) (t : Fin cfg0.N) (h0 : t.val ≠ 0) (d) :
    (dats m 0 c).before 11 t d = (leftAt m c t.val).dwx := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]
  rw [Nat.sub_add_cancel (by omega)]

/-- After the first point the output's buffer holds what the points before left. -/
theorem before0_12_B (c : Dev nD) (t : Fin cfg0.N) (h0 : t.val ≠ 0) (d) :
    (dats m 0 c).before 12 t d = (leftAt m c t.val).dvec := by
  have hN : t.val < 8 := lt_of_lt_of_eq t.isLt (show cfg0.N = 8 from N_0)
  rw [Dat.before_out_kept _ 12 rfl t (by omega) (Bool.eq_false_iff.mpr fun h => by have := (flush0_12 _).mp h; dsimp only at this; omega)
    (fun _ => rfl) (fun _ _ => rfl)]
  dsimp only [dats]
  rw [Nat.sub_add_cancel (by omega)]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 12800000 in
/-- The body at any point, from what the points before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) from rfl, PhiS_succ, leftAt_succ, PhiS_castSucc m c t]
  by_cases hz : t.val = 0
  · rw [show PhiS m c t.val = Pipeline.ΦA spec0 c by rw [hz]; rfl, PhiA0_eq, show leftAt m c t.val = Left.zero by rw [hz]; rfl]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((cond_iff t).mpr hz) (iblk m c 0 t) (iblk m c 1 t) (iblk m c 2 t) (iblk m c 3 t) (iblk m c 4 t) (iblk m c 5 t) (iblk m c 6 t) (iblk m c 7 t) (iblk m c 8 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, ⟨%e9, H9⟩, ⟨%e10, H10⟩, ⟨%e11, H11⟩, ⟨%e12, H12⟩, HS0, HS1, ⟨%es2, HS2⟩, ⟨%es3, HS3⟩⟩
    have hl := leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((cond_iff t).mpr hz) (iblk m c 0 t) (iblk m c 1 t) (iblk m c 2 t) (iblk m c 3 t) (iblk m c 4 t) (iblk m c 5 t) (iblk m c 6 t) (iblk m c 7 t) (iblk m c 8 t) e9 e10 e11 es2 es3
    have hv := vecA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((cond_iff t).mpr hz) (iblk m c 0 t) (iblk m c 1 t) (iblk m c 2 t) (iblk m c 3 t) (iblk m c 4 t) (iblk m c 5 t) (iblk m c 6 t) (iblk m c 7 t) (iblk m c 8 t) e12
    isplitl [HS0 HS1 HS2 HS3 Hg]
    · isplitl [HS0 HS1 HS2 HS3]
      · isplitl [HS0]
        · iexact HS0
        isplitl [HS1]
        · iexact HS1
        isplitl [HS2]
        · unfold owns; iexists _; isplitr
          swap; · iexact HS2
          ipureintro; exact hl.2.2.2.1
        unfold owns; iexists _; isplitr
        swap; · iexact HS3
        ipureintro; exact hl.2.2.2.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact hl.1
    isplitl [H10]
    · unfold owns; iexists _; isplitr
      swap; · iexact H10
      ipureintro; exact hl.2.1
    isplitl [H11]
    · unfold owns; iexists _; isplitr
      swap; · iexact H11
      ipureintro; exact hl.2.2.1
    unfold owns; iexists _; isplitr
    swap; · iexact H12
    ipureintro; exact hv
  · rw [PhiS_pos m c _ hz]
    simp only [before0_10_B m c t hz, before0_11_B m c t hz, before0_12_B m c t hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => hz ((cond_iff t).mp h)) (iblk m c 0 t) (iblk m c 1 t) (iblk m c 2 t) (iblk m c 3 t) (iblk m c 4 t) (iblk m c 5 t) (iblk m c 6 t) (iblk m c 7 t) (iblk m c 8 t) (leftAt m c t.val).dwa (leftAt m c t.val).dwx (leftAt m c t.val).dvec (leftAt m c t.val).carry (leftAt m c t.val).edge).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iintro ⟨H0, H1, H2, H3, H4, H5, H6, H7, H8, ⟨%e9, H9⟩, ⟨%e10, H10⟩, ⟨%e11, H11⟩, H12, HS0, HS1, ⟨%es2, HS2⟩, ⟨%es3, HS3⟩⟩
    have hl := leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => hz ((cond_iff t).mp h)) (iblk m c 0 t) (iblk m c 1 t) (iblk m c 2 t) (iblk m c 3 t) (iblk m c 4 t) (iblk m c 5 t) (iblk m c 6 t) (iblk m c 7 t) (iblk m c 8 t) (leftAt m c t.val).dwa (leftAt m c t.val).dwx (leftAt m c t.val).dvec (leftAt m c t.val).carry (leftAt m c t.val).edge e9 e10 e11 es2 es3
    have hv := vecB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => hz ((cond_iff t).mp h)) (iblk m c 0 t) (iblk m c 1 t) (iblk m c 2 t) (iblk m c 3 t) (iblk m c 4 t) (iblk m c 5 t) (iblk m c 6 t) (iblk m c 7 t) (iblk m c 8 t) (leftAt m c t.val).dwa (leftAt m c t.val).dwx (leftAt m c t.val).dvec (leftAt m c t.val).carry (leftAt m c t.val).edge
    isplitl [HS0 HS1 HS2 HS3 Hg]
    · isplitl [HS0 HS1 HS2 HS3]
      · isplitl [HS0]
        · iexact HS0
        isplitl [HS1]
        · iexact HS1
        isplitl [HS2]
        · unfold owns; iexists _; isplitr
          swap; · iexact HS2
          ipureintro; exact hl.2.2.2.1
        unfold owns; iexists _; isplitr
        swap; · iexact HS3
        ipureintro; exact hl.2.2.2.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact hl.1
    isplitl [H10]
    · unfold owns; iexists _; isplitr
      swap; · iexact H10
      ipureintro; exact hl.2.1
    isplitl [H11]
    · unfold owns; iexists _; isplitr
      swap; · iexact H11
      ipureintro; exact hl.2.2.1
    unfold owns; iexists _; isplitr
    swap; · iexact H12
    ipureintro; exact hv

/-- The table's body at a point is the body. -/
theorem defs₀_row (t : Fin cfg0.N) :
    defs₀ (F := F) .tc cfg0.body (cfg0.bodyArgs t (cfg0.slots t)) = bodyAt0 t := by
  unfold defs₀; rw [Defs.onTc_tc]

/-- The body's part of the pipeline's run, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl]
  exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
set_option maxHeartbeats 800000 in
/-- Every run ends with the pipeline's arrays at what its points leave, the other buffers as the lines around the region leave them, and every count at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counts. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every run ends, with the arguments unchanged and every semaphore's count at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Rnn

end
-- ==== Proof.Mlp.Row.lean ====
/- One row of the MLP block, forward and backward, over the extended reals: what the kernel computes of a row, and the reference's way of writing the backward pass of the normalisation. -/
module

public import Idealize.ShloMosaic.Lib.Pointwise

@[expose] public section

noncomputable section

open Idealize.ShloMosaic

namespace Cert.Mlp

/-- 1024, as the float word that both programs hold. -/
abbrev width : EReal := Ideal.ofBits .f32 1149239296#32

/-- The small number that keeps the root away from zero, as its float word. -/
abbrev eps : EReal := Ideal.ofBits .f32 897988541#32

/-- Mean square of a row, plus `eps`. -/
def var (x : Fin 1024 → EReal) : EReal := Ideal.div (∑ k, x k * x k) width + eps

/-- Its inverse root. -/
def rstd (x : Fin 1024 → EReal) : EReal := Ideal.rsqrt (var x)

/-- The row divided by its root mean square. -/
def hat (x : Fin 1024 → EReal) (k : Fin 1024) : EReal := x k * rstd x

/-- The backward pass of the division, as the kernel writes it: from the gradient `d` of the normalised row to that of the row. -/
def back (x d : Fin 1024 → EReal) (k : Fin 1024) : EReal :=
  rstd x * (d k - hat x k * Ideal.div (∑ l, d l * hat x l) width)

/-- What the reference adds to it twice: the gradient that comes through the mean square, divided by the element. -/
def through (x d : Fin 1024 → EReal) : EReal :=
  Ideal.div ((∑ k, x k * d k) * (Ideal.ofBits .f32 3204448256#32 * Ideal.div (rstd x) (var x))) width

theorem width_eq : width = ((1024 : ℝ) : EReal) := by
  simp [Ideal.ofBits, Ideal.ieee, -EReal.coe_mul]; norm_num

theorem half_eq : Ideal.ofBits .f32 3204448256#32 = ((-(1/2) : ℝ) : EReal) := by
  simp [Ideal.ofBits, Ideal.ieee, -EReal.coe_mul, -EReal.coe_neg]; norm_num

theorem two_eq : Ideal.ofBits .f32 1073741824#32 = ((2 : ℝ) : EReal) := by
  simp [Ideal.ofBits, Ideal.ieee, -EReal.coe_mul]; norm_num

theorem mean_eq : Ideal.ofBits .f32 0x3A800000#32 = ((1/1024 : ℝ) : EReal) := by
  simp [Ideal.ofBits, Ideal.ieee, -EReal.coe_mul]; norm_num

theorem halfMean_eq : Ideal.ofBits .f32 973078528#32 = ((1/2048 : ℝ) : EReal) := by
  simp [Ideal.ofBits, Ideal.ieee, -EReal.coe_mul]; norm_num

theorem eps_pos : ∃ e : ℝ, 0 < e ∧ eps = (e : EReal) := by
  refine ⟨((8388608 + 407485 : ℝ)) * 2 ^ (-43 : ℤ), by positivity, ?_⟩
  simp [Ideal.ofBits, Ideal.ieee, -EReal.coe_mul]; norm_num

theorem self_nonneg (a : EReal) : 0 ≤ a * a := by
  induction a with
  | bot => simp
  | top => simp
  | coe r => exact_mod_cast mul_self_nonneg r

/-- A nonnegative real factor goes into a sum. -/
theorem mul_sum_real {n : ℕ} (r : ℝ) (h : 0 ≤ r) (f : Fin n → EReal) : (r : EReal) * ∑ k, f k = ∑ k, (r : EReal) * f k := by
  induction n with
  | zero => simp
  | succ n ih => rw [Fin.sum_univ_succ, Fin.sum_univ_succ, EReal.left_distrib_of_nonneg_of_ne_top (by exact_mod_cast h) (EReal.coe_ne_top _), ih]

/-- Twice a real multiple of an extended real. -/
theorem twice (a : ℝ) (T : EReal) : (a : EReal) * T + (a : EReal) * T = ((a + a : ℝ) : EReal) * T := by
  induction T with
  | coe t => norm_cast; ring
  | top =>
    rcases lt_trichotomy a 0 with h | h | h
    · rw [EReal.coe_mul_top_of_neg h, EReal.coe_mul_top_of_neg (by linarith)]; simp
    · subst h; simp
    · rw [EReal.coe_mul_top_of_pos h, EReal.coe_mul_top_of_pos (by linarith)]; simp
  | bot =>
    rcases lt_trichotomy a 0 with h | h | h
    · rw [EReal.coe_mul_bot_of_neg h, EReal.coe_mul_bot_of_neg (by linarith)]; simp
    · subst h; simp
    · rw [EReal.coe_mul_bot_of_pos h, EReal.coe_mul_bot_of_pos (by linarith)]; simp

/-- The mean square plus `eps` is positive; where it is finite, so is every element of the row. -/
theorem var_cases (x : Fin 1024 → EReal) : var x = ⊤ ∨ ∃ v : ℝ, 0 < v ∧ var x = (v : EReal) ∧ ∀ k, ∃ r : ℝ, x k = (r : EReal) := by
  obtain ⟨e, he, hE⟩ := eps_pos
  have hs : 0 ≤ ∑ k, x k * x k := Finset.sum_nonneg fun k _ => self_nonneg _
  have hv : var x = (∑ k, x k * x k) * ((1/1024 : ℝ) : EReal) + (e : EReal) := by
    rw [var, hE, width_eq, Ideal.div_coe (by norm_num)]
  generalize hS : ∑ k, x k * x k = S at hs hv
  induction S with
  | bot => exact absurd hs (by simp)
  | top => left; rw [hv, EReal.top_mul_coe_of_pos (by norm_num)]; simp
  | coe s =>
    right
    have hs' : 0 ≤ s := by exact_mod_cast hs
    refine ⟨s * (1/1024) + e, by positivity, by rw [hv]; norm_cast, fun k => ?_⟩
    have hk : x k * x k ≤ (s : EReal) := hS ▸ Finset.single_le_sum (f := fun k => x k * x k) (fun k _ => self_nonneg _) (Finset.mem_univ k)
    generalize x k = a at hk
    induction a with
    | bot => simp at hk
    | top => simp at hk
    | coe r => exact ⟨r, rfl⟩

/-- The reference's backward pass of the division is the kernel's. -/
theorem back_eq (x d : Fin 1024 → EReal) (k : Fin 1024) :
    d k * rstd x + x k * through x d + through x d * x k = back x d k := by
  rcases var_cases x with h | ⟨v, hv, hV, hx⟩
  · have hr : rstd x = 0 := by rw [rstd, h]; rfl
    simp [back, through, hr, h, Ideal.div, width_eq]
  · obtain ⟨a, ha⟩ := hx k
    have hq : 0 < (Real.sqrt v)⁻¹ := by positivity
    have hr : rstd x = (((Real.sqrt v)⁻¹ : ℝ) : EReal) := by
      rw [rstd, hV, Ideal.rsqrt_coe, if_neg (by linarith), if_neg hv.ne']
    have hqq : (Real.sqrt v)⁻¹ * (Real.sqrt v)⁻¹ = 1 / v := by
      rw [← mul_inv, Real.mul_self_sqrt hv.le, one_div]
    generalize (Real.sqrt v)⁻¹ = q at hq hr hqq
    have hT : ∑ l, d l * hat x l = (q : EReal) * ∑ l, x l * d l := by
      rw [mul_sum_real q hq.le]
      refine Finset.sum_congr rfl fun l _ => ?_
      rw [hat, hr]; ac_rfl
    have hthr : through x d = ((-(1/2) * (q * (1/v)) * (1/1024) : ℝ) : EReal) * ∑ l, x l * d l := by
      rw [through, hr, hV, half_eq, width_eq, Ideal.div_coe hv.ne', Ideal.div_coe (by norm_num)]
      push_cast; ac_rfl
    have hback : back x d k = (q : EReal) * d k + ((-(q * (a * q) * (q * (1/1024))) : ℝ) : EReal) * ∑ l, x l * d l := by
      rw [back, hT, hat, hr, ha, width_eq, Ideal.div_coe (by norm_num), sub_eq_add_neg,
        EReal.left_distrib_of_nonneg_of_ne_top (by exact_mod_cast hq.le) (EReal.coe_ne_top _)]
      congr 1
      rw [EReal.coe_neg, mul_neg, EReal.neg_mul]
      push_cast; congr 1; ac_rfl
    rw [hback, hthr, ha, hr, add_assoc, mul_comm (d k)]
    congr 1
    generalize ∑ l, x l * d l = T
    rw [mul_comm _ (a : EReal), ← mul_assoc, ← EReal.coe_mul, twice]
    congr 2
    rw [← hqq]; ring

/-- What one row of the block is computed from: its row of `x1` and of the target, the two norms' gains and the two stacks of weights. -/
structure Row where
  x : Fin 1024 → EReal
  t : Fin 1024 → EReal
  gm : Fin 1024 → EReal
  gf : Fin 1024 → EReal
  wu : Fin 4 → Fin 1024 → Fin 1024 → EReal
  wd : Fin 4 → Fin 1024 → Fin 1024 → EReal

namespace Row
variable (R : Row)

/-- The normalised row. -/
def h (d : Fin 1024) : EReal := hat R.x d * R.gm d
/-- The hidden activations before their square. -/
def relu (j : Fin 4) (f : Fin 1024) : EReal := max (∑ d, R.h d * R.wu j d f) 0
/-- The hidden activations. -/
def act (j : Fin 4) (f : Fin 1024) : EReal := R.relu j f * R.relu j f
/-- The block's output. -/
def x2 (d : Fin 1024) : EReal := R.x d + ∑ j, ∑ f, R.act j f * R.wd j f d
/-- The error of the prediction. -/
def err (d : Fin 1024) : EReal := hat R.x2 d * R.gf d - R.t d
/-- The gradient of the prediction. -/
def dy (d : Fin 1024) : EReal := R.err d * Ideal.ofBits .f32 0x3A800000#32
/-- The gradient of the block's output. -/
def dx2 (d : Fin 1024) : EReal := back R.x2 (fun k => R.dy k * R.gf k) d
/-- The gradient before the squared activation. -/
def du (j : Fin 4) (f : Fin 1024) : EReal :=
  (∑ d, R.dx2 d * R.wd j f d) * (Ideal.ofBits .f32 1073741824#32 * R.relu j f)
/-- The gradient of the normalised row. -/
def dh (d : Fin 1024) : EReal := ∑ j, ∑ f, R.du j f * R.wu j d f
/-- The gradient of the block's input. -/
def dx1 (d : Fin 1024) : EReal := R.dx2 d + back R.x (fun k => R.dh k * R.gm k) d

end Row

end Cert.Mlp

end
-- ==== Proof.Mlp.Tile.lean ====
/- The MLP call's tile: the values of one grid point by name, and each of them row by row. -/
module

public import proofs.«01_k».proof.Proof.Gen.Kernel2Ideal.Value
public import proofs.«01_k».proof.Proof.Mlp.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel2Ideal.Mlp
open Cert.Kernel2Ideal Cert.Kernel2Ideal.Gen Cert.Mlp

/-- The first shard of a stack of weights. -/
def part0 (w : Vec Ideal S4x1024x1024 .bf16) : Vec Ideal S1x1024x1024 .bf16 :=
  View.ld (Val := Elt Ideal) (e' := .bf16) w (Rect.unit (s := S4x1024x1024) ![0, 0, 0] ![1, 1024, 1024] inb_S4x1024x1024_S1x1024x1024_0_0_0)

/-- The second shard of a stack of weights. -/
def part1 (w : Vec Ideal S4x1024x1024 .bf16) : Vec Ideal S1x1024x1024 .bf16 :=
  View.ld (Val := Elt Ideal) (e' := .bf16) w (Rect.unit (s := S4x1024x1024) ![1, 0, 0] ![1, 1024, 1024] inb_S4x1024x1024_S1x1024x1024_1_0_0)

/-- The third shard of a stack of weights. -/
def part2 (w : Vec Ideal S4x1024x1024 .bf16) : Vec Ideal S1x1024x1024 .bf16 :=
  View.ld (Val := Elt Ideal) (e' := .bf16) w (Rect.unit (s := S4x1024x1024) ![2, 0, 0] ![1, 1024, 1024] inb_S4x1024x1024_S1x1024x1024_2_0_0)

/-- The fourth shard of a stack of weights. -/
def part3 (w : Vec Ideal S4x1024x1024 .bf16) : Vec Ideal S1x1024x1024 .bf16 :=
  View.ld (Val := Elt Ideal) (e' := .bf16) w (Rect.unit (s := S4x1024x1024) ![3, 0, 0] ![1, 1024, 1024] inb_S4x1024x1024_S1x1024x1024_3_0_0)

/-- The inverse root of the tile's rows. -/
def RSTD1 (x t : FVec Ideal S256x1024 .f32) (gm gf : FVec Ideal S1x1024 .f32) (wu wd : Vec Ideal S4x1024x1024 .bf16) : FVec Ideal S256x1 .f32 := k0_pay6 x

/-- The tile's rows over their root mean square. -/
def HAT1 (x t : FVec Ideal S256x1024 .f32) (gm gf : FVec Ideal S1x1024 .f32) (wu wd : Vec Ideal S4x1024x1024 .bf16) : FVec Ideal S256x1024 .f32 := k0_pay7 x

/-- The normalised rows. -/
def H (x t : FVec Ideal S256x1024 .f32) (gm gf : FVec Ideal S1x1024 .f32) (wu wd : Vec Ideal S4x1024x1024 .bf16) : FVec Ideal S256x1024 .bf16 := k0_pay8 x gm

/-- The first shard's hidden activations before the square. -/
def RELU0 (x t : FVec Ideal S256x1024 .f32) (gm gf : FVec Ideal S1x1024 .f32) (wu wd : Vec Ideal S4x1024x1024 .bf16) : FVec Ideal S1x256x1024 .f32 := k0_pay10 x gm (part0 wu)

/-- The second shard's. -/
def RELU1 (x t : FVec Ideal S256x1024 .f32) (gm gf : FVec Ideal S1x1024 .f32) (wu wd : Vec Ideal S4x1024x1024 .bf16) : FVec Ideal S1x256x1024 .f32 := k0_pay13 (H x t gm gf wu wd) (part1 wu)

/-- The third shard's. -/
def RELU2 (x t : FVec Ideal S256x1024 .f32) (gm gf : FVec Ideal S1x1024 .f32) (wu wd : Vec Ideal S4x1024x1024 .bf16) : FVec Ideal S1x256x1024 .f32 := k0_pay17 (H x t gm gf wu wd) (part2 wu)

/-- The fourth shard's. -/
def RELU3 (x t : FVec Ideal S256x1024 .f32) (gm gf : FVec Ideal S1x1024 .f32) (wu wd : Vec Ideal S4x1024x1024 .bf16) : FVec Ideal S1x256x1024 .f32 := k0_pay20 (H x t gm gf wu wd) (part3 wu)

/-- The first shard's hidden activations. -/
def A0 (x t : FVec Ideal S256x1024 .f32) (gm gf : FVec Ideal S1x1024 .f32) (wu wd : Vec Ideal S4x1024x1024 .bf16) : FVec Ideal S256x1024 .bf16 := k0_pay11 x gm (part0 wu)

/-- The second shard's. -/
def A1 (x t : FVec Ideal S256x1024 .f32) (gm gf : FVec Ideal S1x1024 .f32) (wu wd : Vec Ideal S4x1024x1024 .bf16) : FVec Ideal S256x1024 .bf16 := k0_pay14 (H x t gm gf wu wd) (part1 wu)

/-- The third shard's. -/
def A2 (x t : FVec Ideal S256x1024 .f32) (gm gf : FVec Ideal S1x1024 .f32) (wu wd : Vec Ideal S4x1024x1024 .bf16) : FVec Ideal S256x1024 .bf16 := k0_pay18 (H x t gm gf wu wd) (part2 wu)

/-- The fourth shard's. -/
def A3 (x t : FVec Ideal S256x1024 .f32) (gm gf : FVec Ideal S1x1024 .f32) (wu wd : Vec Ideal S4x1024x1024 .bf16) : FVec Ideal S256x1024 .bf16 := k0_pay21 (H x t gm gf wu wd) (part3 wu)

/-- The output after two of the four shards. -/
def XH (x t : FVec Ideal S256x1024 .f32) (gm gf : FVec Ideal S1x1024 .f32) (wu wd : Vec Ideal S4x1024x1024 .bf16) : FVec Ideal S256x1024 .f32 := k0_pay15 x (H x t gm gf wu wd) (A0 x t gm gf wu wd) (part0 wd) (part1 wu) (part1 wd)

/-- The output. -/
def X2 (x t : FVec Ideal S256x1024 .f32) (gm gf : FVec Ideal S1x1024 .f32) (wu wd : Vec Ideal S4x1024x1024 .bf16) : FVec Ideal S256x1024 .f32 := k0_pay22 (H x t gm gf wu wd) (XH x t gm gf wu wd) (A2 x t gm gf wu wd) (part2 wd) (part3 wu) (part3 wd)

/-- The inverse root of the output's rows. -/
def RSTD2 (x t : FVec Ideal S256x1024 .f32) (gm gf : FVec Ideal S1x1024 .f32) (wu wd : Vec Ideal S4x1024x1024 .bf16) : FVec Ideal S256x1 .f32 := k0_pay23 (H x t gm gf wu wd) (XH x t gm gf wu wd) (A2 x t gm gf wu wd) (part2 wd) (part3 wu) (part3 wd)

/-- The output's rows over their root mean square. -/
def HAT2 (x t : FVec Ideal S256x1024 .f32) (gm gf : FVec Ideal S1x1024 .f32) (wu wd : Vec Ideal S4x1024x1024 .bf16) : FVec Ideal S256x1024 .f32 := k0_pay24 (H x t gm gf wu wd) (XH x t gm gf wu wd) (A2 x t gm gf wu wd) (part2 wd) (part3 wu) (part3 wd)

/-- The error. -/
def ERR (x t : FVec Ideal S256x1024 .f32) (gm gf : FVec Ideal S1x1024 .f32) (wu wd : Vec Ideal S4x1024x1024 .bf16) : FVec Ideal S256x1024 .f32 := k0_pay25 (H x t gm gf wu wd) (XH x t gm gf wu wd) (A2 x t gm gf wu wd) (part2 wd) (part3 wu) (part3 wd) gf t

/-- The gradient of the output. -/
def DX2 (x t : FVec Ideal S256x1024 .f32) (gm gf : FVec Ideal S1x1024 .f32) (wu wd : Vec Ideal S4x1024x1024 .bf16) : FVec Ideal S256x1024 .f32 := k0_pay28 (RSTD2 x t gm gf wu wd) (HAT2 x t gm gf wu wd) (ERR x t gm gf wu wd) gf

/-- The same, in the narrow format. -/
def DX2B (x t : FVec Ideal S256x1024 .f32) (gm gf : FVec Ideal S1x1024 .f32) (wu wd : Vec Ideal S4x1024x1024 .bf16) : FVec Ideal S256x1024 .bf16 := k0_pay30 (RSTD2 x t gm gf wu wd) (HAT2 x t gm gf wu wd) (ERR x t gm gf wu wd) gf

/-- The gradient of the first shard's activations. -/
def DA0 (x t : FVec Ideal S256x1024 .f32) (gm gf : FVec Ideal S1x1024 .f32) (wu wd : Vec Ideal S4x1024x1024 .bf16) : FVec Ideal S256x1024 .f32 := k0_pay32 (RSTD2 x t gm gf wu wd) (HAT2 x t gm gf wu wd) (ERR x t gm gf wu wd) gf (part0 wd)

/-- The gradient before the first shard's square. -/
def DU0 (x t : FVec Ideal S256x1024 .f32) (gm gf : FVec Ideal S1x1024 .f32) (wu wd : Vec Ideal S4x1024x1024 .bf16) : FVec Ideal S256x1024 .bf16 := k0_pay33 (DA0 x t gm gf wu wd) (RELU0 x t gm gf wu wd)

/-- The second shard's. -/
def DU1 (x t : FVec Ideal S256x1024 .f32) (gm gf : FVec Ideal S1x1024 .f32) (wu wd : Vec Ideal S4x1024x1024 .bf16) : FVec Ideal S256x1024 .bf16 := k0_pay34 (DX2B x t gm gf wu wd) (part1 wd) (RELU1 x t gm gf wu wd)

/-- The gradient of the normalised rows after two of the four shards. -/
def DHH (x t : FVec Ideal S256x1024 .f32) (gm gf : FVec Ideal S1x1024 .f32) (wu wd : Vec Ideal S4x1024x1024 .bf16) : FVec Ideal S256x1024 .f32 := k0_pay35 (DX2B x t gm gf wu wd) (k0_pay31 (F := Ideal)) (DA0 x t gm gf wu wd) (RELU0 x t gm gf wu wd) (part0 wu) (part1 wd) (RELU1 x t gm gf wu wd) (part1 wu)

/-- The gradient of the third shard's activations. -/
def DA2 (x t : FVec Ideal S256x1024 .f32) (gm gf : FVec Ideal S1x1024 .f32) (wu wd : Vec Ideal S4x1024x1024 .bf16) : FVec Ideal S256x1024 .f32 := k0_pay36 (DX2B x t gm gf wu wd) (part2 wd)

/-- The gradient before the third shard's square. -/
def DU2 (x t : FVec Ideal S256x1024 .f32) (gm gf : FVec Ideal S1x1024 .f32) (wu wd : Vec Ideal S4x1024x1024 .bf16) : FVec Ideal S256x1024 .bf16 := k0_pay37 (DA2 x t gm gf wu wd) (RELU2 x t gm gf wu wd)

/-- The fourth shard's. -/
def DU3 (x t : FVec Ideal S256x1024 .f32) (gm gf : FVec Ideal S1x1024 .f32) (wu wd : Vec Ideal S4x1024x1024 .bf16) : FVec Ideal S256x1024 .bf16 := k0_pay38 (DX2B x t gm gf wu wd) (part3 wd) (RELU3 x t gm gf wu wd)

/-- The gradient of the normalised rows. -/
def DH (x t : FVec Ideal S256x1024 .f32) (gm gf : FVec Ideal S1x1024 .f32) (wu wd : Vec Ideal S4x1024x1024 .bf16) : FVec Ideal S256x1024 .f32 := k0_pay39 (DX2B x t gm gf wu wd) (DHH x t gm gf wu wd) (DA2 x t gm gf wu wd) (RELU2 x t gm gf wu wd) (part2 wu) (part3 wd) (RELU3 x t gm gf wu wd) (part3 wu)

/-- The same times the gain. -/
def DHG (x t : FVec Ideal S256x1024 .f32) (gm gf : FVec Ideal S1x1024 .f32) (wu wd : Vec Ideal S4x1024x1024 .bf16) : FVec Ideal S256x1024 .f32 := k0_pay40 (DX2B x t gm gf wu wd) (DHH x t gm gf wu wd) (DA2 x t gm gf wu wd) (RELU2 x t gm gf wu wd) (part2 wu) (part3 wd) (RELU3 x t gm gf wu wd) (part3 wu) gm

/-- The mean of its product with the rows over their root mean square. -/
def MEAN1 (x t : FVec Ideal S256x1024 .f32) (gm gf : FVec Ideal S1x1024 .f32) (wu wd : Vec Ideal S4x1024x1024 .bf16) : FVec Ideal S256x1 .f32 := k0_pay41 (HAT1 x t gm gf wu wd) (DX2B x t gm gf wu wd) (DHH x t gm gf wu wd) (DA2 x t gm gf wu wd) (RELU2 x t gm gf wu wd) (part2 wu) (part3 wd) (RELU3 x t gm gf wu wd) (part3 wu) gm

/-- The gradient of the block's input. -/
def DX1 (x t : FVec Ideal S256x1024 .f32) (gm gf : FVec Ideal S1x1024 .f32) (wu wd : Vec Ideal S4x1024x1024 .bf16) : FVec Ideal S256x1024 .f32 := k0_pay2 (RSTD1 x t gm gf wu wd) (HAT1 x t gm gf wu wd) (DX2 x t gm gf wu wd) (DHG x t gm gf wu wd) (MEAN1 x t gm gf wu wd)

/-- The squared errors' sums, over what was there. -/
def LOSS (x t : FVec Ideal S256x1024 .f32) (gm gf : FVec Ideal S1x1024 .f32) (wu wd : Vec Ideal S4x1024x1024 .bf16) : FVec Ideal S1x1024 .f32 → FVec Ideal S1x1024 .f32 := k0_pay26 (ERR x t gm gf wu wd)

/-- The final gain's gradient, over what was there. -/
def DGF (x t : FVec Ideal S256x1024 .f32) (gm gf : FVec Ideal S1x1024 .f32) (wu wd : Vec Ideal S4x1024x1024 .bf16) : FVec Ideal S1x1024 .f32 → FVec Ideal S1x1024 .f32 := k0_pay29 (HAT2 x t gm gf wu wd) (ERR x t gm gf wu wd)

/-- The norm's gain's gradient, over what was there. -/
def DGM (x t : FVec Ideal S256x1024 .f32) (gm gf : FVec Ideal S1x1024 .f32) (wu wd : Vec Ideal S4x1024x1024 .bf16) : FVec Ideal S1x1024 .f32 → FVec Ideal S1x1024 .f32 := k0_pay1 (HAT1 x t gm gf wu wd) (DH x t gm gf wu wd)

/-- Row `r` of a tile. -/
def row (x t : FVec Ideal S256x1024 .f32) (gm gf : FVec Ideal S1x1024 .f32) (wu wd : Vec Ideal S4x1024x1024 .bf16) (r : Fin 256) : Row where
  x k := x (ix2 r k)
  t k := t (ix2 r k)
  gm k := gm (ix2 0 k)
  gf k := gf (ix2 0 k)
  wu j d f := wu (ix3 j d f)
  wd j f d := wd (ix3 j f d)

theorem part0_at (w : Vec Ideal S4x1024x1024 .bf16) (a b : Fin 1024) : part0 w (ix3 0 a b) = w (ix3 0 a b) := by
  unfold part0
  pointwise
  blk_ext

theorem part1_at (w : Vec Ideal S4x1024x1024 .bf16) (a b : Fin 1024) : part1 w (ix3 0 a b) = w (ix3 1 a b) := by
  unfold part1
  pointwise
  blk_ext

theorem part2_at (w : Vec Ideal S4x1024x1024 .bf16) (a b : Fin 1024) : part2 w (ix3 0 a b) = w (ix3 2 a b) := by
  unfold part2
  pointwise
  blk_ext

theorem part3_at (w : Vec Ideal S4x1024x1024 .bf16) (a b : Fin 1024) : part3 w (ix3 0 a b) = w (ix3 3 a b) := by
  unfold part3
  pointwise
  blk_ext

variable (x t : FVec Ideal S256x1024 .f32) (gm gf : FVec Ideal S1x1024 .f32) (wu wd : Vec Ideal S4x1024x1024 .bf16) (r : Fin 256) (k : Fin 1024)

theorem rstd1_at : RSTD1 x t gm gf wu wd (ix2 r 0) = rstd (row x t gm gf wu wd r).x := by
  unfold RSTD1
  pointwise [k0_pay6]
  rfl

theorem hat1_at : HAT1 x t gm gf wu wd (ix2 r k) = hat (row x t gm gf wu wd r).x k := by
  unfold HAT1
  pointwise [k0_pay7, k0_pay6]
  rfl

theorem h_at : H x t gm gf wu wd (ix2 r k) = (row x t gm gf wu wd r).h k := by
  unfold H
  pointwise [k0_pay8, k0_pay7, k0_pay6]
  rfl

theorem relu0_at : RELU0 x t gm gf wu wd (ix3 0 r k) = (row x t gm gf wu wd r).relu 0 k := by
  unfold RELU0
  pointwise [k0_pay10, k0_pay9, k0_pay8, k0_pay7, k0_pay6]
  simp only [part0_at]
  rfl

theorem a0_at : A0 x t gm gf wu wd (ix2 r k) = (row x t gm gf wu wd r).act 0 k := by
  unfold A0
  pointwise [k0_pay11, k0_pay9, k0_pay8, k0_pay7, k0_pay6]
  simp only [part0_at]
  rfl

theorem relu1_at : RELU1 x t gm gf wu wd (ix3 0 r k) = (row x t gm gf wu wd r).relu 1 k := by
  unfold RELU1
  pointwise [k0_pay13, k0_pay12]
  simp only [h_at, part1_at]
  rfl

theorem a1_at : A1 x t gm gf wu wd (ix2 r k) = (row x t gm gf wu wd r).act 1 k := by
  unfold A1
  pointwise [k0_pay14, k0_pay12]
  simp only [h_at, part1_at]
  rfl

theorem relu2_at : RELU2 x t gm gf wu wd (ix3 0 r k) = (row x t gm gf wu wd r).relu 2 k := by
  unfold RELU2
  pointwise [k0_pay17, k0_pay16]
  simp only [h_at, part2_at]
  rfl

theorem a2_at : A2 x t gm gf wu wd (ix2 r k) = (row x t gm gf wu wd r).act 2 k := by
  unfold A2
  pointwise [k0_pay18, k0_pay16]
  simp only [h_at, part2_at]
  rfl

theorem relu3_at : RELU3 x t gm gf wu wd (ix3 0 r k) = (row x t gm gf wu wd r).relu 3 k := by
  unfold RELU3
  pointwise [k0_pay20, k0_pay19]
  simp only [h_at, part3_at]
  rfl

theorem a3_at : A3 x t gm gf wu wd (ix2 r k) = (row x t gm gf wu wd r).act 3 k := by
  unfold A3
  pointwise [k0_pay21, k0_pay19]
  simp only [h_at, part3_at]
  rfl

theorem xh_at : XH x t gm gf wu wd (ix2 r k) = x (ix2 r k) + ∑ f, (row x t gm gf wu wd r).act 0 f * wd (ix3 0 f k) + ∑ f, (row x t gm gf wu wd r).act 1 f * wd (ix3 1 f k) := by
  have e : XH x t gm gf wu wd (ix2 r k) = x (ix2 r k) + ∑ f, A0 x t gm gf wu wd (ix2 r f) * wd (ix3 0 f k) + ∑ f, A1 x t gm gf wu wd (ix2 r f) * wd (ix3 1 f k) := by
    unfold XH A1
    pointwise [k0_pay15]
    simp only [part0_at, part1_at]
  simp only [e, a0_at, a1_at]

theorem x2_at : X2 x t gm gf wu wd (ix2 r k) = (row x t gm gf wu wd r).x2 k := by
  have e : X2 x t gm gf wu wd (ix2 r k) = XH x t gm gf wu wd (ix2 r k) + ∑ f, A2 x t gm gf wu wd (ix2 r f) * wd (ix3 2 f k) + ∑ f, A3 x t gm gf wu wd (ix2 r f) * wd (ix3 3 f k) := by
    unfold X2 A3
    pointwise [k0_pay22]
    simp only [part2_at, part3_at]
  simp only [e, a2_at, a3_at, xh_at, Row.x2, Fin.sum_univ_four, add_assoc]
  rfl

theorem rstd2_at : RSTD2 x t gm gf wu wd (ix2 r 0) = rstd (row x t gm gf wu wd r).x2 := by
  have e : RSTD2 x t gm gf wu wd (ix2 r 0) = rstd fun k => X2 x t gm gf wu wd (ix2 r k) := by
    unfold RSTD2 X2
    pointwise [k0_pay23]
    rfl
  simp only [e, x2_at]

theorem hat2_at : HAT2 x t gm gf wu wd (ix2 r k) = hat (row x t gm gf wu wd r).x2 k := by
  have e : HAT2 x t gm gf wu wd (ix2 r k) = X2 x t gm gf wu wd (ix2 r k) * RSTD2 x t gm gf wu wd (ix2 r 0) := by
    unfold HAT2 X2 RSTD2
    pointwise [k0_pay24]
  rw [e, x2_at, rstd2_at]
  rfl

theorem err_at : ERR x t gm gf wu wd (ix2 r k) = (row x t gm gf wu wd r).err k := by
  have e : ERR x t gm gf wu wd (ix2 r k) = HAT2 x t gm gf wu wd (ix2 r k) * gf (ix2 0 k) - t (ix2 r k) := by
    unfold ERR HAT2
    pointwise [k0_pay25]
  rw [e, hat2_at]
  rfl

theorem dx2_at : DX2 x t gm gf wu wd (ix2 r k) = (row x t gm gf wu wd r).dx2 k := by
  unfold DX2
  pointwise [k0_pay28, k0_pay27]
  simp only [err_at, hat2_at, rstd2_at]
  rfl

theorem dx2b_at : DX2B x t gm gf wu wd (ix2 r k) = (row x t gm gf wu wd r).dx2 k := by
  have e : DX2B x t gm gf wu wd (ix2 r k) = DX2 x t gm gf wu wd (ix2 r k) := by
    unfold DX2B DX2
    pointwise [k0_pay30]
  rw [e, dx2_at]

theorem da0_at : DA0 x t gm gf wu wd (ix2 r k) = ∑ d, (row x t gm gf wu wd r).dx2 d * wd (ix3 0 k d) := by
  have e : DA0 x t gm gf wu wd (ix2 r k) = ∑ d, DX2B x t gm gf wu wd (ix2 r d) * wd (ix3 0 k d) := by
    unfold DA0 DX2B
    pointwise [k0_pay32]
    simp only [part0_at]
  simp only [e, dx2b_at]

theorem du0_at : DU0 x t gm gf wu wd (ix2 r k) = (row x t gm gf wu wd r).du 0 k := by
  unfold DU0
  pointwise [k0_pay33]
  rw [da0_at, relu0_at]
  rfl

theorem du1_at : DU1 x t gm gf wu wd (ix2 r k) = (row x t gm gf wu wd r).du 1 k := by
  unfold DU1
  pointwise [k0_pay34]
  simp only [dx2b_at, relu1_at, part1_at]
  rfl

theorem dhh_at : DHH x t gm gf wu wd (ix2 r k) = ∑ f, (row x t gm gf wu wd r).du 0 f * wu (ix3 0 k f) + ∑ f, (row x t gm gf wu wd r).du 1 f * wu (ix3 1 k f) := by
  have e : DHH x t gm gf wu wd (ix2 r k) = ∑ f, DU0 x t gm gf wu wd (ix2 r f) * wu (ix3 0 k f) + ∑ f, DU1 x t gm gf wu wd (ix2 r f) * wu (ix3 1 k f) := by
    unfold DHH DU0 DU1
    pointwise [k0_pay35, k0_pay31]
    simp only [part0_at, part1_at]
  simp only [e, du0_at, du1_at]

theorem da2_at : DA2 x t gm gf wu wd (ix2 r k) = ∑ d, (row x t gm gf wu wd r).dx2 d * wd (ix3 2 k d) := by
  unfold DA2
  pointwise [k0_pay36]
  simp only [dx2b_at, part2_at]

theorem du2_at : DU2 x t gm gf wu wd (ix2 r k) = (row x t gm gf wu wd r).du 2 k := by
  unfold DU2
  pointwise [k0_pay37]
  rw [da2_at, relu2_at]
  rfl

theorem du3_at : DU3 x t gm gf wu wd (ix2 r k) = (row x t gm gf wu wd r).du 3 k := by
  unfold DU3
  pointwise [k0_pay38]
  simp only [dx2b_at, relu3_at, part3_at]
  rfl

theorem dh_at : DH x t gm gf wu wd (ix2 r k) = (row x t gm gf wu wd r).dh k := by
  have e : DH x t gm gf wu wd (ix2 r k) = DHH x t gm gf wu wd (ix2 r k) + ∑ f, DU2 x t gm gf wu wd (ix2 r f) * wu (ix3 2 k f) + ∑ f, DU3 x t gm gf wu wd (ix2 r f) * wu (ix3 3 k f) := by
    unfold DH DU2 DU3
    pointwise [k0_pay39]
    simp only [part2_at, part3_at]
  simp only [e, du2_at, du3_at, dhh_at, Row.dh, Fin.sum_univ_four, add_assoc]
  rfl

theorem dhg_at : DHG x t gm gf wu wd (ix2 r k) = (row x t gm gf wu wd r).dh k * gm (ix2 0 k) := by
  have e : DHG x t gm gf wu wd (ix2 r k) = DH x t gm gf wu wd (ix2 r k) * gm (ix2 0 k) := by
    unfold DHG DH
    pointwise [k0_pay40]
  rw [e, dh_at]

theorem mean1_at : MEAN1 x t gm gf wu wd (ix2 r 0) = Ideal.div (∑ k, (row x t gm gf wu wd r).dh k * gm (ix2 0 k) * hat (row x t gm gf wu wd r).x k) width := by
  have e : MEAN1 x t gm gf wu wd (ix2 r 0) = Ideal.div (∑ k, DHG x t gm gf wu wd (ix2 r k) * HAT1 x t gm gf wu wd (ix2 r k)) width := by
    unfold MEAN1 DHG
    pointwise [k0_pay41]
  simp only [e, dhg_at, hat1_at]

theorem dx1_at : DX1 x t gm gf wu wd (ix2 r k) = (row x t gm gf wu wd r).dx1 k := by
  unfold DX1
  pointwise [k0_pay2]
  simp only [dx2_at, rstd1_at, hat1_at, dhg_at, mean1_at]
  rfl

theorem loss_at (acc : FVec Ideal S1x1024 .f32) : LOSS x t gm gf wu wd acc (ix2 0 k) = acc (ix2 0 k) + ∑ r : Fin 256, (row x t gm gf wu wd r).err k * (row x t gm gf wu wd r).err k := by
  unfold LOSS
  pointwise [k0_pay26]
  simp only [err_at]

theorem dgf_at (acc : FVec Ideal S1x1024 .f32) : DGF x t gm gf wu wd acc (ix2 0 k) = acc (ix2 0 k) + ∑ r : Fin 256, (row x t gm gf wu wd r).dy k * hat (row x t gm gf wu wd r).x2 k := by
  unfold DGF
  pointwise [k0_pay29, k0_pay27]
  simp only [err_at, hat2_at]
  rfl

theorem dgm_at (acc : FVec Ideal S1x1024 .f32) : DGM x t gm gf wu wd acc (ix2 0 k) = acc (ix2 0 k) + ∑ r : Fin 256, (row x t gm gf wu wd r).dh k * hat (row x t gm gf wu wd r).x k := by
  unfold DGM
  pointwise [k0_pay1]
  simp only [dh_at, hat1_at]

end Cert.Kernel2Ideal.Mlp

end
-- ==== Proof.Mlp.Point.lean ====
/- The MLP call's result arrays: what its grid leaves in each, row by row. -/
module

public import proofs.«01_k».proof.Proof.Mlp.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Mlp
open Cert.Kernel2Ideal Cert.Kernel2Ideal.Gen Cert.Mlp

/-- Row `r` of the whole call. -/
def rowAt (x t : FVec Ideal S8192x1024 .f32) (gm gf : FVec Ideal S1x1024 .f32) (wu wd : Vec Ideal S4x1024x1024 .bf16) (r : Fin 8192) : Row where
  x k := x (ix2 r k)
  t k := t (ix2 r k)
  gm k := gm (ix2 0 k)
  gf k := gf (ix2 0 k)
  wu j d f := wu (ix3 j d f)
  wd j f d := wd (ix3 j f d)

variable (m : (ℓ : Loc nD τ sig) → Buf (Elt Ideal) ℓ) (c : Dev nD)

/-- Row `r` of the call on the arguments in memory. -/
def R (r : Fin 8192) : Row :=
  rowAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

/-- Which block each window is at, at every point. -/
theorem idx : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] ∧ win0_13.index t = ![0, 0] :=
  (by decide +kernel : ∀ t : Fin grid0.N, _)

theorem lt32 (t : Fin cfg0.N) : t.val < 32 := lt_of_lt_of_eq t.isLt N_0

/-- A point's rows are the call's. -/
theorem row_eq (t : Fin cfg0.N) (r : Fin 256) :
    row (iblk m c 0 t) (iblk m c 1 t) (iblk m c 2 t) (iblk m c 3 t) (iblk m c 4 t) (iblk m c 5 t) r
      = R m c ⟨256 * t.val + r.val, by have := lt32 t; omega⟩ := by
  unfold row R rowAt
  congr 1
  · funext k; blk_point [iblk, V, idx t]
  · funext k; blk_point [iblk, V, idx t]
  · funext k; blk_point [iblk, V, idx t]
  · funext k; blk_point [iblk, V, idx t]
  · funext j d f; blk_point [iblk, V, idx t]
  · funext j d f; blk_point [iblk, V, idx t]

theorem left6 (t : Fin cfg0.N) : (outsAt0 m c t.val t.isLt).1 = DX1 (iblk m c 0 t) (iblk m c 1 t) (iblk m c 2 t) (iblk m c 3 t) (iblk m c 4 t) (iblk m c 5 t) := by
  by_cases h : t.val % 32 = 0
  · rw [outsAt0_A m c t h]; frame_out
    simp (disch := decide) only [↓View.readCov_skip, ↓View.readCov_cons_toLoadRect, ↓View.readCov_fill]
    simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
  · rw [outsAt0_B m c t h]; frame_out
    simp (disch := decide) only [↓View.readCov_skip, ↓View.readCov_cons_toLoadRect, ↓View.readCov_fill]
    simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem left7 (t : Fin cfg0.N) : (outsAt0 m c t.val t.isLt).2.1 = H (iblk m c 0 t) (iblk m c 1 t) (iblk m c 2 t) (iblk m c 3 t) (iblk m c 4 t) (iblk m c 5 t) := by
  by_cases h : t.val % 32 = 0
  · rw [outsAt0_A m c t h]; frame_out
    simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
  · rw [outsAt0_B m c t h]; frame_out
    simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem left10 (t : Fin cfg0.N) : (outsAt0 m c t.val t.isLt).2.2.2.2.1 = DX2B (iblk m c 0 t) (iblk m c 1 t) (iblk m c 2 t) (iblk m c 3 t) (iblk m c 4 t) (iblk m c 5 t) := by
  by_cases h : t.val % 32 = 0
  · rw [outsAt0_A m c t h]; frame_out
    simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
  · rw [outsAt0_B m c t h]; frame_out
    simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem first11 (t : Fin cfg0.N) (h : t.val % 32 = 0) : (outsAt0 m c t.val t.isLt).2.2.2.2.2.1 = LOSS (iblk m c 0 t) (iblk m c 1 t) (iblk m c 2 t) (iblk m c 3 t) (iblk m c 4 t) (iblk m c 5 t) (k0_pay3 (F := Ideal)) := by
  rw [outsAt0_A m c t h]; frame_out
  simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem next11 (t : Fin cfg0.N) (h : t.val % 32 ≠ 0) : (outsAt0 m c t.val t.isLt).2.2.2.2.2.1 = LOSS (iblk m c 0 t) (iblk m c 1 t) (iblk m c 2 t) (iblk m c 3 t) (iblk m c 4 t) (iblk m c 5 t) (outsAt0 m c (t.val - 1) (by omega)).2.2.2.2.2.1 := by
  rw [outsAt0_B m c t h]; frame_out
  simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem first12 (t : Fin cfg0.N) (h : t.val % 32 = 0) : (outsAt0 m c t.val t.isLt).2.2.2.2.2.2.1 = DGF (iblk m c 0 t) (iblk m c 1 t) (iblk m c 2 t) (iblk m c 3 t) (iblk m c 4 t) (iblk m c 5 t) (k0_pay4 (F := Ideal)) := by
  rw [outsAt0_A m c t h]; frame_out
  simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem next12 (t : Fin cfg0.N) (h : t.val % 32 ≠ 0) : (outsAt0 m c t.val t.isLt).2.2.2.2.2.2.1 = DGF (iblk m c 0 t) (iblk m c 1 t) (iblk m c 2 t) (iblk m c 3 t) (iblk m c 4 t) (iblk m c 5 t) (outsAt0 m c (t.val - 1) (by omega)).2.2.2.2.2.2.1 := by
  rw [outsAt0_B m c t h]; frame_out
  simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem first13 (t : Fin cfg0.N) (h : t.val % 32 = 0) : (outsAt0 m c t.val t.isLt).2.2.2.2.2.2.2 = DGM (iblk m c 0 t) (iblk m c 1 t) (iblk m c 2 t) (iblk m c 3 t) (iblk m c 4 t) (iblk m c 5 t) (k0_pay5 (F := Ideal)) := by
  rw [outsAt0_A m c t h]; frame_out
  simp (disch := decide) only [↓View.readCov_skip, ↓View.readCov_cons_toLoadRect, ↓View.readCov_fill]
  simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem next13 (t : Fin cfg0.N) (h : t.val % 32 ≠ 0) : (outsAt0 m c t.val t.isLt).2.2.2.2.2.2.2 = DGM (iblk m c 0 t) (iblk m c 1 t) (iblk m c 2 t) (iblk m c 3 t) (iblk m c 4 t) (iblk m c 5 t) (outsAt0 m c (t.val - 1) (by omega)).2.2.2.2.2.2.2 := by
  rw [outsAt0_B m c t h]; frame_out
  simp (disch := decide) only [↓View.readCov_skip, ↓View.readCov_cons_toLoadRect, ↓View.readCov_fill]
  simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

/-- The same, at an index whose value is the row's. -/
theorem row_at (t : Fin cfg0.N) (r : Fin 256) (r' : Fin 8192) (h : r'.val = 256 * t.val + r.val) :
    row (iblk m c 0 t) (iblk m c 1 t) (iblk m c 2 t) (iblk m c 3 t) (iblk m c 4 t) (iblk m c 5 t) r = R m c r' := by
  rw [row_eq]
  exact congrArg _ (Fin.ext h.symm)

theorem left8 (t : Fin cfg0.N) (y : S256x4096.Idx) : (outsAt0 m c t.val t.isLt).2.2.1 y
    = (row (iblk m c 0 t) (iblk m c 1 t) (iblk m c 2 t) (iblk m c 3 t) (iblk m c 4 t) (iblk m c 5 t) (y 0)).act ⟨(y 1 : ℕ) / 1024, Nat.div_lt_of_lt_mul (y 1).isLt⟩ ⟨(y 1 : ℕ) % 1024, Nat.mod_lt _ (by norm_num)⟩ := by
  have key : ∀ (x : S256x1024.Idx) (j : Fin 4) (n : ℕ), n = 1024 * j.val → (y 0 : ℕ) = x 0 → (y 1 : ℕ) = n + x 1 →
      (row (iblk m c 0 t) (iblk m c 1 t) (iblk m c 2 t) (iblk m c 3 t) (iblk m c 4 t) (iblk m c 5 t) (x 0)).act j (x 1)
        = (row (iblk m c 0 t) (iblk m c 1 t) (iblk m c 2 t) (iblk m c 3 t) (iblk m c 4 t) (iblk m c 5 t) (y 0)).act ⟨(y 1 : ℕ) / 1024, Nat.div_lt_of_lt_mul (y 1).isLt⟩ ⟨(y 1 : ℕ) % 1024, Nat.mod_lt _ (by norm_num)⟩ := by
    intro x j n hn e0 e1
    have hx : (x 1 : ℕ) < 1024 := (x 1).isLt
    have h1 : (⟨(y 1 : ℕ) / 1024, Nat.div_lt_of_lt_mul (y 1).isLt⟩ : Fin 4) = j := Fin.ext (by show (y 1 : ℕ) / 1024 = j.val; omega)
    have h2 : (⟨(y 1 : ℕ) % 1024, Nat.mod_lt _ (by norm_num)⟩ : Fin 1024) = x 1 := Fin.ext (by show (y 1 : ℕ) % 1024 = (x 1 : ℕ); omega)
    rw [h1, h2, show y 0 = x 0 from Fin.ext e0]
  by_cases hc : t.val % 32 = 0
  · rw [outsAt0_A m c t hc]; frame_out
    canon_tiles x h
    case piece0 =>
      refine Eq.trans ?_ ((a3_at (iblk m c 0 t) (iblk m c 1 t) (iblk m c 2 t) (iblk m c 3 t) (iblk m c 4 t) (iblk m c 5 t) (x 0) (x 1)).trans (key x 3 3072 rfl h0 (by omega)))
      refine Eq.trans (b := A3 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece1 =>
      refine Eq.trans ?_ ((a2_at (iblk m c 0 t) (iblk m c 1 t) (iblk m c 2 t) (iblk m c 3 t) (iblk m c 4 t) (iblk m c 5 t) (x 0) (x 1)).trans (key x 2 2048 rfl h0 (by omega)))
      refine Eq.trans (b := A2 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece2 =>
      refine Eq.trans ?_ ((a1_at (iblk m c 0 t) (iblk m c 1 t) (iblk m c 2 t) (iblk m c 3 t) (iblk m c 4 t) (iblk m c 5 t) (x 0) (x 1)).trans (key x 1 1024 rfl h0 (by omega)))
      refine Eq.trans (b := A1 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece3 =>
      refine Eq.trans ?_ ((a0_at (iblk m c 0 t) (iblk m c 1 t) (iblk m c 2 t) (iblk m c 3 t) (iblk m c 4 t) (iblk m c 5 t) (x 0) (x 1)).trans (key x 0 0 rfl h0 (by omega)))
      refine Eq.trans (b := A0 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
  · rw [outsAt0_B m c t hc]; frame_out
    canon_tiles x h
    case piece0 =>
      refine Eq.trans ?_ ((a3_at (iblk m c 0 t) (iblk m c 1 t) (iblk m c 2 t) (iblk m c 3 t) (iblk m c 4 t) (iblk m c 5 t) (x 0) (x 1)).trans (key x 3 3072 rfl h0 (by omega)))
      refine Eq.trans (b := A3 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece1 =>
      refine Eq.trans ?_ ((a2_at (iblk m c 0 t) (iblk m c 1 t) (iblk m c 2 t) (iblk m c 3 t) (iblk m c 4 t) (iblk m c 5 t) (x 0) (x 1)).trans (key x 2 2048 rfl h0 (by omega)))
      refine Eq.trans (b := A2 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece2 =>
      refine Eq.trans ?_ ((a1_at (iblk m c 0 t) (iblk m c 1 t) (iblk m c 2 t) (iblk m c 3 t) (iblk m c 4 t) (iblk m c 5 t) (x 0) (x 1)).trans (key x 1 1024 rfl h0 (by omega)))
      refine Eq.trans (b := A1 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece3 =>
      refine Eq.trans ?_ ((a0_at (iblk m c 0 t) (iblk m c 1 t) (iblk m c 2 t) (iblk m c 3 t) (iblk m c 4 t) (iblk m c 5 t) (x 0) (x 1)).trans (key x 0 0 rfl h0 (by omega)))
      refine Eq.trans (b := A0 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem left9 (t : Fin cfg0.N) (y : S256x4096.Idx) : (outsAt0 m c t.val t.isLt).2.2.2.1 y
    = (row (iblk m c 0 t) (iblk m c 1 t) (iblk m c 2 t) (iblk m c 3 t) (iblk m c 4 t) (iblk m c 5 t) (y 0)).du ⟨(y 1 : ℕ) / 1024, Nat.div_lt_of_lt_mul (y 1).isLt⟩ ⟨(y 1 : ℕ) % 1024, Nat.mod_lt _ (by norm_num)⟩ := by
  have key : ∀ (x : S256x1024.Idx) (j : Fin 4) (n : ℕ), n = 1024 * j.val → (y 0 : ℕ) = x 0 → (y 1 : ℕ) = n + x 1 →
      (row (iblk m c 0 t) (iblk m c 1 t) (iblk m c 2 t) (iblk m c 3 t) (iblk m c 4 t) (iblk m c 5 t) (x 0)).du j (x 1)
        = (row (iblk m c 0 t) (iblk m c 1 t) (iblk m c 2 t) (iblk m c 3 t) (iblk m c 4 t) (iblk m c 5 t) (y 0)).du ⟨(y 1 : ℕ) / 1024, Nat.div_lt_of_lt_mul (y 1).isLt⟩ ⟨(y 1 : ℕ) % 1024, Nat.mod_lt _ (by norm_num)⟩ := by
    intro x j n hn e0 e1
    have hx : (x 1 : ℕ) < 1024 := (x 1).isLt
    have h1 : (⟨(y 1 : ℕ) / 1024, Nat.div_lt_of_lt_mul (y 1).isLt⟩ : Fin 4) = j := Fin.ext (by show (y 1 : ℕ) / 1024 = j.val; omega)
    have h2 : (⟨(y 1 : ℕ) % 1024, Nat.mod_lt _ (by norm_num)⟩ : Fin 1024) = x 1 := Fin.ext (by show (y 1 : ℕ) % 1024 = (x 1 : ℕ); omega)
    rw [h1, h2, show y 0 = x 0 from Fin.ext e0]
  by_cases hc : t.val % 32 = 0
  · rw [outsAt0_A m c t hc]; frame_out
    simp (disch := decide) only [↓View.readCov_skip, ↓View.readCov_cons_toLoadRect, ↓View.readCov_fill]
    canon_tiles x h
    case piece0 =>
      refine Eq.trans ?_ ((du3_at (iblk m c 0 t) (iblk m c 1 t) (iblk m c 2 t) (iblk m c 3 t) (iblk m c 4 t) (iblk m c 5 t) (x 0) (x 1)).trans (key x 3 3072 rfl h0 (by omega)))
      refine Eq.trans (b := DU3 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece1 =>
      refine Eq.trans ?_ ((du2_at (iblk m c 0 t) (iblk m c 1 t) (iblk m c 2 t) (iblk m c 3 t) (iblk m c 4 t) (iblk m c 5 t) (x 0) (x 1)).trans (key x 2 2048 rfl h0 (by omega)))
      refine Eq.trans (b := DU2 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece2 =>
      refine Eq.trans ?_ ((du1_at (iblk m c 0 t) (iblk m c 1 t) (iblk m c 2 t) (iblk m c 3 t) (iblk m c 4 t) (iblk m c 5 t) (x 0) (x 1)).trans (key x 1 1024 rfl h0 (by omega)))
      refine Eq.trans (b := DU1 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece3 =>
      refine Eq.trans ?_ ((du0_at (iblk m c 0 t) (iblk m c 1 t) (iblk m c 2 t) (iblk m c 3 t) (iblk m c 4 t) (iblk m c 5 t) (x 0) (x 1)).trans (key x 0 0 rfl h0 (by omega)))
      refine Eq.trans (b := DU0 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
  · rw [outsAt0_B m c t hc]; frame_out
    simp (disch := decide) only [↓View.readCov_skip, ↓View.readCov_cons_toLoadRect, ↓View.readCov_fill]
    canon_tiles x h
    case piece0 =>
      refine Eq.trans ?_ ((du3_at (iblk m c 0 t) (iblk m c 1 t) (iblk m c 2 t) (iblk m c 3 t) (iblk m c 4 t) (iblk m c 5 t) (x 0) (x 1)).trans (key x 3 3072 rfl h0 (by omega)))
      refine Eq.trans (b := DU3 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece1 =>
      refine Eq.trans ?_ ((du2_at (iblk m c 0 t) (iblk m c 1 t) (iblk m c 2 t) (iblk m c 3 t) (iblk m c 4 t) (iblk m c 5 t) (x 0) (x 1)).trans (key x 2 2048 rfl h0 (by omega)))
      refine Eq.trans (b := DU2 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece2 =>
      refine Eq.trans ?_ ((du1_at (iblk m c 0 t) (iblk m c 1 t) (iblk m c 2 t) (iblk m c 3 t) (iblk m c 4 t) (iblk m c 5 t) (x 0) (x 1)).trans (key x 1 1024 rfl h0 (by omega)))
      refine Eq.trans (b := DU1 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]
    case piece3 =>
      refine Eq.trans ?_ ((du0_at (iblk m c 0 t) (iblk m c 1 t) (iblk m c 2 t) (iblk m c 3 t) (iblk m c 4 t) (iblk m c 5 t) (x 0) (x 1)).trans (key x 0 0 rfl h0 (by omega)))
      refine Eq.trans (b := DU0 (iblk m c 0 t) (iblk m c 1 t) (iblk m c 2 t) (iblk m c 3 t) (iblk m c 4 t) (iblk m c 5 t) x) ?_ (congrArg _ (eq_ix2 x))
      simp only [DX1, LOSS, DGF, DGM, DX2, DX2B, RSTD1, HAT1, H, RELU0, RELU1, RELU2, RELU3, A0, A1, A2, A3, XH, X2, RSTD2, HAT2, ERR, DA0, DU0, DU1, DHH, DA2, DU2, DU3, DH, DHG, MEAN1, part0, part1, part2, part3]

theorem final6 : (dats m 0 c).arrAt 6 (cfgs 0).N = fun j => (R m c (j 0)).dx1 (j 1) := by
  refine (dats m 0 c).arrAt_eq_of_covers 6 _ (by decide +kernel) fun t hf y => ?_
  blk_simp
  rw [after0_6, left6]
  refine (congrArg _ (eq_ix2 y)).trans ((dx1_at _ _ _ _ _ _ (y 0) (y 1)).trans ?_)
  refine congrArg₂ (fun (ρ : Row) (k : Fin 1024) => ρ.dx1 k) (row_at m c t (y 0) _ ?_) (Fin.ext ?_)
  · blk_simp [idx t]
    rw [mul_comm]
  · blk_simp [idx t]

theorem final7 : (dats m 0 c).arrAt 7 (cfgs 0).N = fun j => (R m c (j 0)).h (j 1) := by
  refine (dats m 0 c).arrAt_eq_of_covers 7 _ (by decide +kernel) fun t hf y => ?_
  blk_simp
  rw [after0_7, left7]
  refine (congrArg _ (eq_ix2 y)).trans ((h_at _ _ _ _ _ _ (y 0) (y 1)).trans ?_)
  refine congrArg₂ (fun (ρ : Row) (k : Fin 1024) => ρ.h k) (row_at m c t (y 0) _ ?_) (Fin.ext ?_)
  · blk_simp [idx t]
    rw [mul_comm]
  · blk_simp [idx t]

theorem final10 : (dats m 0 c).arrAt 10 (cfgs 0).N = fun j => (R m c (j 0)).dx2 (j 1) := by
  refine (dats m 0 c).arrAt_eq_of_covers 10 _ (by decide +kernel) fun t hf y => ?_
  blk_simp
  rw [after0_10, left10]
  refine (congrArg _ (eq_ix2 y)).trans ((dx2b_at _ _ _ _ _ _ (y 0) (y 1)).trans ?_)
  refine congrArg₂ (fun (ρ : Row) (k : Fin 1024) => ρ.dx2 k) (row_at m c t (y 0) _ ?_) (Fin.ext ?_)
  · blk_simp [idx t]
    rw [mul_comm]
  · blk_simp [idx t]

theorem final8 : (dats m 0 c).arrAt 8 (cfgs 0).N
    = fun j : S8192x4096.Idx => (R m c (j 0)).act ⟨(j 1 : ℕ) / 1024, Nat.div_lt_of_lt_mul (j 1).isLt⟩ ⟨(j 1 : ℕ) % 1024, Nat.mod_lt _ (by norm_num)⟩ := by
  refine (dats m 0 c).arrAt_eq_of_covers 8 _ (by decide +kernel) fun t hf y => ?_
  blk_simp
  rw [after0_8]
  refine (left8 m c t y).trans ?_
  refine congr (congr (congrArg Row.act (row_at m c t (y 0) _ ?_)) (Fin.ext ?_)) (Fin.ext ?_)
  · blk_simp [idx t]
    rw [mul_comm]
  · blk_simp [idx t]
  · blk_simp [idx t]

theorem final9 : (dats m 0 c).arrAt 9 (cfgs 0).N
    = fun j : S8192x4096.Idx => (R m c (j 0)).du ⟨(j 1 : ℕ) / 1024, Nat.div_lt_of_lt_mul (j 1).isLt⟩ ⟨(j 1 : ℕ) % 1024, Nat.mod_lt _ (by norm_num)⟩ := by
  refine (dats m 0 c).arrAt_eq_of_covers 9 _ (by decide +kernel) fun t hf y => ?_
  blk_simp
  rw [after0_9]
  refine (left9 m c t y).trans ?_
  refine congr (congr (congrArg Row.du (row_at m c t (y 0) _ ?_)) (Fin.ext ?_)) (Fin.ext ?_)
  · blk_simp [idx t]
    rw [mul_comm]
  · blk_simp [idx t]
  · blk_simp [idx t]

theorem zero3 : k0_pay3 (F := Ideal) = fun _ => 0 := by
  funext j
  pointwise [k0_pay3]

theorem zero4 : k0_pay4 (F := Ideal) = fun _ => 0 := by
  funext j
  pointwise [k0_pay4]

theorem zero5 : k0_pay5 (F := Ideal) = fun _ => 0 := by
  funext j
  pointwise [k0_pay5]

theorem loss_all (x t : FVec Ideal S256x1024 .f32) (gm gf : FVec Ideal S1x1024 .f32) (wu wd : Vec Ideal S4x1024x1024 .bf16) (acc : FVec Ideal S1x1024 .f32) (j : S1x1024.Idx) :
    LOSS x t gm gf wu wd acc j = acc j + ∑ r : Fin 256, (row x t gm gf wu wd r).err (j 1) * (row x t gm gf wu wd r).err (j 1) := by
  obtain ⟨k, rfl⟩ : ∃ k : Fin 1024, j = ix2 0 k := ⟨j 1, (eq_ix2 j).trans (congrArg (fun a : Fin 1 => ix2 a (j 1)) (Subsingleton.elim (α := Fin 1) (j 0) 0))⟩
  exact loss_at x t gm gf wu wd k acc

/-- A row's summand. -/
def term11 (k : Fin 1024) (r : Fin 8192) : EReal := (R m c r).err k * (R m c r).err k

theorem final11 : (dats m 0 c).arrAt 11 (cfgs 0).N = fun j => ∑ r : Fin 8192, term11 m c (j 1) r := by
  refine (dats m 0 c).arrAt_eq_of_covers 11 _ (by decide +kernel) fun t hf y => ?_
  blk_simp
  rw [after0_11, Pipeline.eq_sum_fin_of_reset_step_apply_of_flush (fun n h => (outsAt0 m c n h).2.2.2.2.2.1) 32 (fun _ => 0) (fun t j => ∑ r : Fin 256, term11 m c (j 1) ⟨256 * t.val + r.val, by have := lt32 t; omega⟩)
    (fun t h j => by rw [first11 m c t h, loss_all, zero3]; exact congrArg _ (Finset.sum_congr rfl fun r _ => by rw [row_eq]; rfl))
    (fun t h j => by rw [next11 m c t h, loss_all]; exact congrArg _ (Finset.sum_congr rfl fun r _ => by rw [row_eq]; rfl))
    t ((flush0_11 t).mp hf) _, zero_add]
  refine Fin.sum_mul_add_congr fun s k hl => congrArg₂ (term11 m c) (Fin.ext ?_) (Fin.ext ?_)
  · blk_simp [idx t]
  · have := lt32 t
    show 256 * (32 * (t.val / 32) + s.val) + k.val = s.val * 256 + k.val
    omega

theorem dgf_all (x t : FVec Ideal S256x1024 .f32) (gm gf : FVec Ideal S1x1024 .f32) (wu wd : Vec Ideal S4x1024x1024 .bf16) (acc : FVec Ideal S1x1024 .f32) (j : S1x1024.Idx) :
    DGF x t gm gf wu wd acc j = acc j + ∑ r : Fin 256, (row x t gm gf wu wd r).dy (j 1) * hat (row x t gm gf wu wd r).x2 (j 1) := by
  obtain ⟨k, rfl⟩ : ∃ k : Fin 1024, j = ix2 0 k := ⟨j 1, (eq_ix2 j).trans (congrArg (fun a : Fin 1 => ix2 a (j 1)) (Subsingleton.elim (α := Fin 1) (j 0) 0))⟩
  exact dgf_at x t gm gf wu wd k acc

/-- A row's summand. -/
def term12 (k : Fin 1024) (r : Fin 8192) : EReal := (R m c r).dy k * hat (R m c r).x2 k

theorem final12 : (dats m 0 c).arrAt 12 (cfgs 0).N = fun j => ∑ r : Fin 8192, term12 m c (j 1) r := by
  refine (dats m 0 c).arrAt_eq_of_covers 12 _ (by decide +kernel) fun t hf y => ?_
  blk_simp
  rw [after0_12, Pipeline.eq_sum_fin_of_reset_step_apply_of_flush (fun n h => (outsAt0 m c n h).2.2.2.2.2.2.1) 32 (fun _ => 0) (fun t j => ∑ r : Fin 256, term12 m c (j 1) ⟨256 * t.val + r.val, by have := lt32 t; omega⟩)
    (fun t h j => by rw [first12 m c t h, dgf_all, zero4]; exact congrArg _ (Finset.sum_congr rfl fun r _ => by rw [row_eq]; rfl))
    (fun t h j => by rw [next12 m c t h, dgf_all]; exact congrArg _ (Finset.sum_congr rfl fun r _ => by rw [row_eq]; rfl))
    t ((flush0_12 t).mp hf) _, zero_add]
  refine Fin.sum_mul_add_congr fun s k hl => congrArg₂ (term12 m c) (Fin.ext ?_) (Fin.ext ?_)
  · blk_simp [idx t]
  · have := lt32 t
    show 256 * (32 * (t.val / 32) + s.val) + k.val = s.val * 256 + k.val
    omega

theorem dgm_all (x t : FVec Ideal S256x1024 .f32) (gm gf : FVec Ideal S1x1024 .f32) (wu wd : Vec Ideal S4x1024x1024 .bf16) (acc : FVec Ideal S1x1024 .f32) (j : S1x1024.Idx) :
    DGM x t gm gf wu wd acc j = acc j + ∑ r : Fin 256, (row x t gm gf wu wd r).dh (j 1) * hat (row x t gm gf wu wd r).x (j 1) := by
  obtain ⟨k, rfl⟩ : ∃ k : Fin 1024, j = ix2 0 k := ⟨j 1, (eq_ix2 j).trans (congrArg (fun a : Fin 1 => ix2 a (j 1)) (Subsingleton.elim (α := Fin 1) (j 0) 0))⟩
  exact dgm_at x t gm gf wu wd k acc

/-- A row's summand. -/
def term13 (k : Fin 1024) (r : Fin 8192) : EReal := (R m c r).dh k * hat (R m c r).x k

theorem final13 : (dats m 0 c).arrAt 13 (cfgs 0).N = fun j => ∑ r : Fin 8192, term13 m c (j 1) r := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.2.2) 32 (fun _ => 0) (fun t j => ∑ r : Fin 256, term13 m c (j 1) ⟨256 * t.val + r.val, by have := lt32 t; omega⟩)
    (fun t h j => by rw [first13 m c t h, dgm_all, zero5]; exact congrArg _ (Finset.sum_congr rfl fun r _ => by rw [row_eq]; rfl))
    (fun t h j => by rw [next13 m c t h, dgm_all]; exact congrArg _ (Finset.sum_congr rfl fun r _ => by rw [row_eq]; rfl))
    t ((flush0_13 t).mp hf) _, zero_add]
  refine Fin.sum_mul_add_congr fun s k hl => congrArg₂ (term13 m c) (Fin.ext ?_) (Fin.ext ?_)
  · blk_simp [idx t]
  · have := lt32 t
    show 256 * (32 * (t.val / 32) + s.val) + k.val = s.val * 256 + k.val
    omega

end Cert.Kernel2Ideal.Mlp

end
-- ==== Proof.Mlp.Ref.lean ====
/- The MLP's reference, row by row. -/
module

public import proofs.«01_k».proof.Proof.Mlp.Row
public import proofs.«01_k».proof.Proof.Gen.Reference2Ideal
public import proofs.«01_k».proof.Proof.Gen.Reference2Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference2Ideal.Mlp
open Cert.Reference2Ideal Cert.Reference2Ideal.Gen Cert.Reference2Ideal.Value Cert.Mlp

variable (V0 : Valuation τ sig (Elt Ideal))

/-- Row `r` of the arguments. -/
def row (r : Fin 8192) : Row where
  x k := (V0 (Proc.devRef .tc main_arg0) : FVec Ideal S8192x1024 .f32) (ix2 r k)
  t k := (V0 (Proc.devRef .tc main_arg1) : FVec Ideal S8192x1024 .f32) (ix2 r k)
  gm k := (V0 (Proc.devRef .tc main_arg2) : FVec Ideal S1x1024 .f32) (ix2 0 k)
  gf k := (V0 (Proc.devRef .tc main_arg3) : FVec Ideal S1x1024 .f32) (ix2 0 k)
  wu j d f := (V0 (Proc.devRef .tc main_arg4) : Vec Ideal S4x1024x1024 .bf16) (ix3 j d f)
  wd j f d := (V0 (Proc.devRef .tc main_arg5) : Vec Ideal S4x1024x1024 .bf16) (ix3 j f d)

/-- The squared errors' sums. -/
def OUT45 : FVec Ideal S1x1024 .f32 := broadcastInDim S1x1024 ![1] bcast_S1024_S1x1024_1 (Host.reduceAdd (mulf (res_main_v40 V0) (res_main_v40 V0)) (constant S_ .f32 0x00000000#32) reducesTo_S8192x1024_S1024_d0 h_S_)

/-- The gradient of the block's input. -/
def OUT93 : FVec Ideal S8192x1024 .f32 := addf (res_main_v68 V0) (addf (addf (mulf (res_main_v78 V0) (broadcastInDim S8192x1024 ![0, 1] bcast_S8192x1_S8192x1024_0_1 (res_main_v7 V0))) (mulf (V0 (Proc.devRef .tc main_arg0)) (res_main_v88 V0))) (mulf (res_main_v88 V0) (V0 (Proc.devRef .tc main_arg0))))

/-- The norm's gain's gradient. -/
def OUT76 : FVec Ideal S1x1024 .f32 := shapeCast _ (Host.reduceAdd (mulf (res_main_v12 V0) (res_main_v73 V0)) (constant S_ .f32 0x00000000#32) reducesTo_S8192x1024_S1024_d0 h_S_) shapeCasts_S1024_S1x1024

/-- The final gain's gradient. -/
def OUT52 : FVec Ideal S1x1024 .f32 := shapeCast _ (Host.reduceAdd (mulf (res_main_v37 V0) (res_main_v49 V0)) (constant S_ .f32 0x00000000#32) reducesTo_S8192x1024_S1024_d0 h_S_) shapeCasts_S1024_S1x1024

/-- The normalised rows. -/
def OUT94 : FVec Ideal S8192x1024 .bf16 := truncf .bf16 (res_main_v14 V0) bitsLt_bf16_f32

/-- The activations. -/
def OUT96 : FVec Ideal S8192x4096 .bf16 := truncf .bf16 (shapeCast _ (res_main_v20 V0) shapeCasts_S8192x4x1024_S8192x4096) bitsLt_bf16_f32

/-- The gradient before the square. -/
def OUT98 : FVec Ideal S8192x4096 .bf16 := truncf .bf16 (shapeCast _ (res_main_v72 V0) shapeCasts_S8192x4x1024_S8192x4096) bitsLt_bf16_f32

/-- The gradient of the output. -/
def OUT99 : FVec Ideal S8192x1024 .bf16 := truncf .bf16 (res_main_v68 V0) bitsLt_bf16_f32

variable (r : Fin 8192) (j : Fin 4) (k : Fin 1024)

theorem v6_at : (res_main_v6 V0 : FVec Ideal S8192x1 .f32) (ix2 r 0) = var (row V0 r).x := by
  pointwise [res_main_v6]
  rfl

theorem v7_at : (res_main_v7 V0 : FVec Ideal S8192x1 .f32) (ix2 r 0) = rstd (row V0 r).x := by
  pointwise [res_main_v7]
  rw [v6_at]
  rfl

theorem v12_at : (res_main_v12 V0 : FVec Ideal S8192x1024 .f32) (ix2 r k) = hat (row V0 r).x k := by
  pointwise [res_main_v12]
  rw [v7_at]
  rfl

theorem v14_at : (res_main_v14 V0 : FVec Ideal S8192x1024 .f32) (ix2 r k) = (row V0 r).h k := by
  pointwise [res_main_v14]
  rw [v12_at]
  rfl

theorem v15_at : (res_main_v15 V0 : FVec Ideal S8192x4x1024 .f32) (ix3 r j k) = ∑ d, (row V0 r).h d * (row V0 r).wu j d k := by
  pointwise [res_main_v15]
  simp only [v14_at]
  rfl

theorem v16_at : (res_main_v16 V0 : FVec Ideal S8192x4x1024 .f32) (ix3 r j k) = (row V0 r).relu j k := by
  pointwise [res_main_v16]
  rw [v15_at]
  rfl

theorem v20_at : (res_main_v20 V0 : FVec Ideal S8192x4x1024 .f32) (ix3 r j k) = (row V0 r).act j k := by
  pointwise [res_main_v20]
  rw [v16_at]
  rfl

theorem v24_at : (res_main_v24 V0 : FVec Ideal S8192x1024 .f32) (ix2 r k) = (row V0 r).x2 k := by
  pointwise [res_main_v24]
  rw [Finset.sum_comm]
  simp only [v20_at]
  rfl

theorem v31_at : (res_main_v31 V0 : FVec Ideal S8192x1 .f32) (ix2 r 0) = var (row V0 r).x2 := by
  pointwise [res_main_v31]
  simp only [v24_at]
  rfl

theorem v32_at : (res_main_v32 V0 : FVec Ideal S8192x1 .f32) (ix2 r 0) = rstd (row V0 r).x2 := by
  pointwise [res_main_v32]
  rw [v31_at]
  rfl

theorem v37_at : (res_main_v37 V0 : FVec Ideal S8192x1024 .f32) (ix2 r k) = hat (row V0 r).x2 k := by
  pointwise [res_main_v37]
  rw [v32_at, v24_at]
  rfl

theorem v40_at : (res_main_v40 V0 : FVec Ideal S8192x1024 .f32) (ix2 r k) = (row V0 r).err k := by
  pointwise [res_main_v40]
  rw [v37_at]
  rfl

theorem v49_at : (res_main_v49 V0 : FVec Ideal S8192x1024 .f32) (ix2 r k) = (row V0 r).dy k := by
  pointwise [res_main_v49]
  rw [v40_at]
  simp only [Finset.univ_unique, Finset.sum_singleton]
  show _ = (row V0 r).err k * Ideal.ofBits .f32 0x3A800000#32
  rw [halfMean_eq, two_eq, mean_eq, ← mul_assoc, ← EReal.coe_mul, mul_comm]
  norm_num

theorem v54_at : (res_main_v54 V0 : FVec Ideal S8192x1024 .f32) (ix2 r k) = (row V0 r).dy k * (row V0 r).gf k := by
  pointwise [res_main_v54]
  rw [v49_at]
  rfl

theorem v64_at : (res_main_v64 V0 : FVec Ideal S8192x1024 .f32) (ix2 r k) = through (row V0 r).x2 (fun k => (row V0 r).dy k * (row V0 r).gf k) := by
  pointwise [res_main_v64]
  simp only [Finset.univ_unique, Finset.sum_singleton, Fin.default_eq_zero, v54_at, v24_at, v32_at, v31_at]
  rfl

theorem v68_at : (res_main_v68 V0 : FVec Ideal S8192x1024 .f32) (ix2 r k) = (row V0 r).dx2 k := by
  pointwise [res_main_v68]
  rw [v54_at, v32_at, v64_at, v24_at]
  exact back_eq (row V0 r).x2 (fun k => (row V0 r).dy k * (row V0 r).gf k) k

theorem v72_at : (res_main_v72 V0 : FVec Ideal S8192x4x1024 .f32) (ix3 r j k) = (row V0 r).du j k := by
  pointwise [res_main_v72]
  simp only [v68_at, v15_at, v16_at]
  by_cases h : 0 < ∑ d, (row V0 r).h d * (row V0 r).wu j d k
  · rw [if_pos h]
    rfl
  · rw [if_neg h]
    have e : (row V0 r).relu j k = 0 := max_eq_right (not_lt.mp h)
    show 0 = _ * (_ * (row V0 r).relu j k)
    rw [e, mul_zero, mul_zero]

theorem v73_at : (res_main_v73 V0 : FVec Ideal S8192x1024 .f32) (ix2 r k) = (row V0 r).dh k := by
  pointwise [res_main_v73]
  simp only [v72_at]
  rfl

theorem v78_at : (res_main_v78 V0 : FVec Ideal S8192x1024 .f32) (ix2 r k) = (row V0 r).dh k * (row V0 r).gm k := by
  pointwise [res_main_v78]
  rw [v73_at]
  rfl

theorem v88_at : (res_main_v88 V0 : FVec Ideal S8192x1024 .f32) (ix2 r k) = through (row V0 r).x (fun k => (row V0 r).dh k * (row V0 r).gm k) := by
  pointwise [res_main_v88]
  simp only [Finset.univ_unique, Finset.sum_singleton, Fin.default_eq_zero, v78_at, v7_at, v6_at]
  rfl

theorem out93_at : OUT93 V0 (ix2 r k) = (row V0 r).dx1 k := by
  pointwise [OUT93]
  rw [v68_at, v78_at, v7_at, v88_at]
  exact congrArg _ (back_eq (row V0 r).x (fun k => (row V0 r).dh k * (row V0 r).gm k) k)

theorem out94_at : OUT94 V0 (ix2 r k) = (row V0 r).h k := by
  pointwise [OUT94]
  rw [v14_at]

theorem out99_at : OUT99 V0 (ix2 r k) = (row V0 r).dx2 k := by
  pointwise [OUT99]
  rw [v68_at]

theorem out45_at : OUT45 V0 (ix2 0 k) = ∑ r : Fin 8192, (row V0 r).err k * (row V0 r).err k := by
  pointwise [OUT45]
  simp only [v40_at]

theorem out52_at : OUT52 V0 (ix2 0 k) = ∑ r : Fin 8192, (row V0 r).dy k * hat (row V0 r).x2 k := by
  pointwise [OUT52]
  simp only [v37_at, v49_at, mul_comm]

theorem out76_at : OUT76 V0 (ix2 0 k) = ∑ r : Fin 8192, (row V0 r).dh k * hat (row V0 r).x k := by
  pointwise [OUT76]
  simp only [v12_at, v73_at, mul_comm]

theorem out96_at (i : S8192x4096.Idx) : OUT96 V0 i = (row V0 (i 0)).act ⟨(i 1 : ℕ) / 1024, Nat.div_lt_of_lt_mul (i 1).isLt⟩ ⟨(i 1 : ℕ) % 1024, Nat.mod_lt _ (by norm_num)⟩ := by
  pointwise [OUT96]
  exact v20_at V0 (i 0) _ _

theorem out98_at (i : S8192x4096.Idx) : OUT98 V0 i = (row V0 (i 0)).du ⟨(i 1 : ℕ) / 1024, Nat.div_lt_of_lt_mul (i 1).isLt⟩ ⟨(i 1 : ℕ) % 1024, Nat.mod_lt _ (by norm_num)⟩ := by
  pointwise [OUT98]
  exact v72_at V0 (i 0) _ _

end Cert.Reference2Ideal.Mlp

end
-- ==== Proof.Mlp.Value.lean ====
/- The MLP call's results are its reference's. -/
module

public import proofs.«01_k».proof.Proof.Mlp.Point
public import proofs.«01_k».proof.Proof.Mlp.Ref
public import proofs.«01_k».proof.Proof.Gen.Kernel2Ideal.Value
public import proofs.«01_k».proof.Defs

@[expose] public section

set_option maxRecDepth 16384

noncomputable section

open Idealize.ShloMosaic Idealize.ShloMosaic.TcCoe Idealize.SL.Sem Idealize.ShloMosaic.StableHlo

namespace Cert.Mlp

abbrev KMem := (ℓ : Loc Cert.Kernel2Ideal.nD Cert.Kernel2Ideal.τ Cert.Kernel2Ideal.sig) → Buf (Elt Ideal) ℓ
abbrev RMem := (ℓ : Loc Cert.Reference2Ideal.nD Cert.Reference2Ideal.τ Cert.Reference2Ideal.sig) → Buf (Elt Ideal) ℓ

/-- The two programs' arguments are the same. -/
def Same (m : KMem) (m' : RMem) (c : Dev Cert.Kernel2Ideal.nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)

variable {m : KMem} {m' : RMem} {c : Dev Cert.Kernel2Ideal.nD}

/-- So are their rows. -/
theorem row_same (h : Same m m' c) (r : Fin 8192) : Cert.Reference2Ideal.Mlp.row (launchContents m' c) r = Cert.Kernel2Ideal.Mlp.R m c r := by
  obtain ⟨h0, h1, h2, h3, h4, h5⟩ := h
  unfold Cert.Reference2Ideal.Mlp.row Cert.Kernel2Ideal.Mlp.R Cert.Kernel2Ideal.Mlp.rowAt
  rw [← h0, ← h1, ← h2, ← h3, ← h4, ← h5]

theorem same45 (h : Same m m' c) : Cert.Reference2Ideal.Mlp.OUT45 (launchContents m' c) = (Cert.Kernel2Ideal.Gen.dats m 0 c).arrAt 11 (Cert.Kernel2Ideal.cfgs 0).N := by
  rw [Cert.Kernel2Ideal.Mlp.final11]
  funext j
  obtain ⟨k, rfl⟩ : ∃ k : Fin 1024, j = ix2 0 k := ⟨j 1, (eq_ix2 j).trans (congrArg (fun a : Fin 1 => ix2 a (j 1)) (Subsingleton.elim (α := Fin 1) (j 0) 0))⟩
  refine (Cert.Reference2Ideal.Mlp.out45_at _ k).trans (Finset.sum_congr rfl fun r _ => ?_)
  rw [row_same h]
  rfl

theorem same93 (h : Same m m' c) : Cert.Reference2Ideal.Mlp.OUT93 (launchContents m' c) = (Cert.Kernel2Ideal.Gen.dats m 0 c).arrAt 6 (Cert.Kernel2Ideal.cfgs 0).N := by
  rw [Cert.Kernel2Ideal.Mlp.final6]
  funext j
  refine (congrArg _ (eq_ix2 j)).trans ((Cert.Reference2Ideal.Mlp.out93_at _ (j 0) (j 1)).trans ?_)
  exact congrArg (fun ρ : Row => ρ.dx1 (j 1)) (row_same h (j 0))

theorem same76 (h : Same m m' c) : Cert.Reference2Ideal.Mlp.OUT76 (launchContents m' c) = (Cert.Kernel2Ideal.Gen.dats m 0 c).arrAt 13 (Cert.Kernel2Ideal.cfgs 0).N := by
  rw [Cert.Kernel2Ideal.Mlp.final13]
  funext j
  obtain ⟨k, rfl⟩ : ∃ k : Fin 1024, j = ix2 0 k := ⟨j 1, (eq_ix2 j).trans (congrArg (fun a : Fin 1 => ix2 a (j 1)) (Subsingleton.elim (α := Fin 1) (j 0) 0))⟩
  refine (Cert.Reference2Ideal.Mlp.out76_at _ k).trans (Finset.sum_congr rfl fun r _ => ?_)
  rw [row_same h]
  rfl

theorem same52 (h : Same m m' c) : Cert.Reference2Ideal.Mlp.OUT52 (launchContents m' c) = (Cert.Kernel2Ideal.Gen.dats m 0 c).arrAt 12 (Cert.Kernel2Ideal.cfgs 0).N := by
  rw [Cert.Kernel2Ideal.Mlp.final12]
  funext j
  obtain ⟨k, rfl⟩ : ∃ k : Fin 1024, j = ix2 0 k := ⟨j 1, (eq_ix2 j).trans (congrArg (fun a : Fin 1 => ix2 a (j 1)) (Subsingleton.elim (α := Fin 1) (j 0) 0))⟩
  refine (Cert.Reference2Ideal.Mlp.out52_at _ k).trans (Finset.sum_congr rfl fun r _ => ?_)
  rw [row_same h]
  rfl

theorem same94 (h : Same m m' c) : Cert.Reference2Ideal.Mlp.OUT94 (launchContents m' c) = (Cert.Kernel2Ideal.Gen.dats m 0 c).arrAt 7 (Cert.Kernel2Ideal.cfgs 0).N := by
  rw [Cert.Kernel2Ideal.Mlp.final7]
  funext j
  refine (congrArg _ (eq_ix2 j)).trans ((Cert.Reference2Ideal.Mlp.out94_at _ (j 0) (j 1)).trans ?_)
  exact congrArg (fun ρ : Row => ρ.h (j 1)) (row_same h (j 0))

theorem same96 (h : Same m m' c) : Cert.Reference2Ideal.Mlp.OUT96 (launchContents m' c) = (Cert.Kernel2Ideal.Gen.dats m 0 c).arrAt 8 (Cert.Kernel2Ideal.cfgs 0).N := by
  rw [Cert.Kernel2Ideal.Mlp.final8]
  funext j
  refine (Cert.Reference2Ideal.Mlp.out96_at _ j).trans ?_
  exact congrArg (fun ρ : Row => ρ.act _ _) (row_same h (j 0))

theorem same98 (h : Same m m' c) : Cert.Reference2Ideal.Mlp.OUT98 (launchContents m' c) = (Cert.Kernel2Ideal.Gen.dats m 0 c).arrAt 9 (Cert.Kernel2Ideal.cfgs 0).N := by
  rw [Cert.Kernel2Ideal.Mlp.final9]
  funext j
  refine (Cert.Reference2Ideal.Mlp.out98_at _ j).trans ?_
  exact congrArg (fun ρ : Row => ρ.du _ _) (row_same h (j 0))

theorem same99 (h : Same m m' c) : Cert.Reference2Ideal.Mlp.OUT99 (launchContents m' c) = (Cert.Kernel2Ideal.Gen.dats m 0 c).arrAt 10 (Cert.Kernel2Ideal.cfgs 0).N := by
  rw [Cert.Kernel2Ideal.Mlp.final10]
  funext j
  refine (congrArg _ (eq_ix2 j)).trans ((Cert.Reference2Ideal.Mlp.out99_at _ (j 0) (j 1)).trans ?_)
  exact congrArg (fun ρ : Row => ρ.dx2 (j 1)) (row_same h (j 0))

/-- The MLP call computes its reference. -/
theorem value : Cert.algebraic_Kernel2Ideal_Reference2Ideal := by
  intro m g m' g' _ hm
  refine ⟨fun c => (Cert.Kernel2Ideal.Gen.dats m 0 c).arrAt 11 (Cert.Kernel2Ideal.cfgs 0).N,
    fun c => (Cert.Kernel2Ideal.Gen.dats m 0 c).arrAt 6 (Cert.Kernel2Ideal.cfgs 0).N,
    fun c => (Cert.Kernel2Ideal.Gen.dats m 0 c).arrAt 13 (Cert.Kernel2Ideal.cfgs 0).N,
    fun c => (Cert.Kernel2Ideal.Gen.dats m 0 c).arrAt 12 (Cert.Kernel2Ideal.cfgs 0).N,
    fun c => (Cert.Kernel2Ideal.Gen.dats m 0 c).arrAt 7 (Cert.Kernel2Ideal.cfgs 0).N,
    fun c => (Cert.Kernel2Ideal.Gen.dats m 0 c).arrAt 8 (Cert.Kernel2Ideal.cfgs 0).N,
    fun c => (Cert.Kernel2Ideal.Gen.dats m 0 c).arrAt 9 (Cert.Kernel2Ideal.cfgs 0).N,
    fun c => (Cert.Kernel2Ideal.Gen.dats m 0 c).arrAt 10 (Cert.Kernel2Ideal.cfgs 0).N,
    (θ_run Cert.Kernel2Ideal.defs _ _).mono (fun r h c => ?_) (Cert.Kernel2Ideal.Value.run_blocks (F := Ideal) m g), ?_⟩
  · obtain ⟨h6, h7, h8, h9, h10, h11, h12, h13, ha⟩ := h c
    exact ⟨h11, h6, h13, h12, h7, h8, h9, h10, ha⟩
  · refine (θ_run Cert.Reference2Ideal.defs _ _).mono (fun r h c => ?_) (Cert.Reference2Ideal.Value.run (F := Ideal) m' g')
    obtain ⟨h0, h1, h2, h3, h4, h5, h6, h7, ha⟩ := h c
    have s : Same m m' c := hm c
    exact ⟨h0.trans (same45 s), h1.trans (same93 s), h2.trans (same76 s), h3.trans (same52 s), h4.trans (same94 s), h5.trans (same96 s), h6.trans (same98 s), h7.trans (same99 s), ha⟩

end Cert.Mlp

end
-- ==== Proof.Weights.Up.lean ====
/- The gradient of `w_up`: the block a shard owns is accumulated over two halves of the rows. -/
module

public import proofs.«01_k».proof.Proof.Gen.Kernel3Ideal.Frame
public import proofs.«01_k».proof.Proof.Gen.Reference3Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Sum
open Cert.Kernel3Ideal Cert.Kernel3Ideal.Gen

variable (m : (ℓ : Loc nD τ sig) → Buf (Elt Ideal) ℓ)

/-- The reference's term over the two arrays. -/
def REF (X : FVec Ideal S8192x1024 .bf16) (Y : FVec Ideal S8192x4096 .bf16) : FVec Ideal S4x1024x1024 .f32 :=
  transpose Cert.Reference3Ideal.S4x1024x1024 [0, 2, 1] (Host.dotGeneral Cert.Reference3Ideal.dot_S8192x4x1024_S8192x1024_S4x1024x1024_0_0_12_1_n_n none (shapeCast Cert.Reference3Ideal.S8192x4x1024 Y Cert.Reference3Ideal.Gen.shapeCasts_S8192x4096_S8192x4x1024) X) Cert.Reference3Ideal.Gen.transposes_S4x1024x1024_S4x1024x1024_0_2_1

/-- The first point of a run starts from zero. -/
theorem zero_at (j : S1x1024x1024.Idx) : k0_pay1 (F := Ideal) j = 0 := by pointwise [k0_pay1]

/-- Each point adds its rows' products to what the block holds. -/
theorem part_at (acc : FVec Ideal S1x1024x1024 .f32) (x y : FVec Ideal S4096x1024 .bf16) (j : S1x1024x1024.Idx) :
    k0_pay2 (F := Ideal) acc x y j = acc j + ∑ k : Fin 4096, x (ix2 k (j 1)) * y (ix2 k (j 2)) := by
  pointwise [k0_pay2]

/-- The reference's term is the sum over all the rows. -/
theorem ref_at (X : FVec Ideal S8192x1024 .bf16) (Y : FVec Ideal S8192x4096 .bf16) (j : S4x1024x1024.Idx) :
    REF X Y j = ∑ l : Fin 8192, X (ix2 l (j 1)) * Y (ix2 l ⟨1024 * (j 0).val + (j 2).val, by have h0 : (j 0).val < 4 := (j 0).isLt; have h2 : (j 2).val < 1024 := (j 2).isLt; omega⟩) := by
  pointwise [REF]
  refine Finset.sum_congr rfl fun l _ => ?_
  rw [mul_comm]
  simp only [mul_comm 1024]

/-- Which block each window is at, at every point. -/
theorem idx : ∀ t : Fin cfg0.N, win0_0.index t = ![t.val % 2, 0] ∧ win0_1.index t = ![t.val % 2, t.val / 2] ∧ win0_2.index t = ![t.val / 2, 0, 0] ∧ t.val / 2 < 4 :=
  (by decide +kernel : ∀ t : Fin grid0.N, _)

/-- The result array is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [part_at, zero_at])
    (fun t h j => by rw [outsAt0_B m c t h]; frame_out; rw [part_at])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.Kernel3Ideal.Sum

end
-- ==== Proof.Weights.Down.lean ====
/- The gradient of `w_down`: the block a shard owns is accumulated over two halves of the rows. -/
module

public import proofs.«01_k».proof.Proof.Gen.Kernel4Ideal.Frame
public import proofs.«01_k».proof.Proof.Gen.Reference4Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Sum
open Cert.Kernel4Ideal Cert.Kernel4Ideal.Gen

variable (m : (ℓ : Loc nD τ sig) → Buf (Elt Ideal) ℓ)

/-- The reference's term over the two arrays. -/
def REF (X : FVec Ideal S8192x4096 .bf16) (Y : FVec Ideal S8192x1024 .bf16) : FVec Ideal S4x1024x1024 .f32 :=
  Host.dotGeneral Cert.Reference4Ideal.dot_S8192x4x1024_S8192x1024_S4x1024x1024_0_0_12_1_n_n none (shapeCast Cert.Reference4Ideal.S8192x4x1024 X Cert.Reference4Ideal.Gen.shapeCasts_S8192x4096_S8192x4x1024) Y

/-- The first point of a run starts from zero. -/
theorem zero_at (j : S1x1024x1024.Idx) : k0_pay1 (F := Ideal) j = 0 := by pointwise [k0_pay1]

/-- Each point adds its rows' products to what the block holds. -/
theorem part_at (acc : FVec Ideal S1x1024x1024 .f32) (x y : FVec Ideal S4096x1024 .bf16) (j : S1x1024x1024.Idx) :
    k0_pay2 (F := Ideal) acc x y j = acc j + ∑ k : Fin 4096, x (ix2 k (j 1)) * y (ix2 k (j 2)) := by
  pointwise [k0_pay2]

/-- The reference's term is the sum over all the rows. -/
theorem ref_at (X : FVec Ideal S8192x4096 .bf16) (Y : FVec Ideal S8192x1024 .bf16) (j : S4x1024x1024.Idx) :
    REF X Y j = ∑ l : Fin 8192, X (ix2 l ⟨1024 * (j 0).val + (j 1).val, by have h0 : (j 0).val < 4 := (j 0).isLt; have h2 : (j 1).val < 1024 := (j 1).isLt; omega⟩) * Y (ix2 l (j 2)) := by
  pointwise [REF]
  refine Finset.sum_congr rfl fun l _ => ?_
  simp only [mul_comm 1024]

/-- Which block each window is at, at every point. -/
theorem idx : ∀ t : Fin cfg0.N, win0_0.index t = ![t.val % 2, t.val / 2] ∧ win0_1.index t = ![t.val % 2, 0] ∧ win0_2.index t = ![t.val / 2, 0, 0] ∧ t.val / 2 < 4 :=
  (by decide +kernel : ∀ t : Fin grid0.N, _)

/-- The result array is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [part_at, zero_at])
    (fun t h j => by rw [outsAt0_B m c t h]; frame_out; rw [part_at])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.Kernel4Ideal.Sum

end
-- ==== Proof.Mix.Row.lean ====
/- One row of the out-projection's backward pass over the extended reals: what the kernel computes of a row, and the reference's way of writing the backward pass of the normalisation over 512 elements. -/
module

public import Idealize.ShloMosaic.Lib.Pointwise

@[expose] public section

noncomputable section

open Idealize.ShloMosaic

namespace Cert.Mix

/-- 512, as the float word that both programs hold. -/
abbrev width : EReal := Ideal.ofBits .f32 0x44000000#32

/-- The small number that keeps the root away from zero, as its float word. -/
abbrev eps : EReal := Ideal.ofBits .f32 897988541#32

/-- Mean square of a row, plus `eps`. -/
def var (x : Fin 512 → EReal) : EReal := Ideal.div (∑ k, x k * x k) width + eps

/-- Its inverse root. -/
def rstd (x : Fin 512 → EReal) : EReal := Ideal.rsqrt (var x)

/-- The row divided by its root mean square. -/
def hat (x : Fin 512 → EReal) (k : Fin 512) : EReal := x k * rstd x

/-- The backward pass of the division, as the kernel writes it: from the gradient `d` of the normalised row to that of the row. -/
def back (x d : Fin 512 → EReal) (k : Fin 512) : EReal :=
  rstd x * (d k - hat x k * Ideal.div (∑ l, d l * hat x l) width)

/-- What the reference adds to it twice: the gradient that comes through the mean square, divided by the element. -/
def through (x d : Fin 512 → EReal) : EReal :=
  Ideal.div ((∑ k, x k * d k) * (Ideal.ofBits .f32 3204448256#32 * Ideal.div (rstd x) (var x))) width

theorem width_eq : width = ((512 : ℝ) : EReal) := by
  simp [Ideal.ofBits, Ideal.ieee, -EReal.coe_mul]; norm_num

theorem half_eq : Ideal.ofBits .f32 3204448256#32 = ((-(1/2) : ℝ) : EReal) := by
  simp [Ideal.ofBits, Ideal.ieee, -EReal.coe_mul, -EReal.coe_neg]; norm_num

theorem eps_pos : ∃ e : ℝ, 0 < e ∧ eps = (e : EReal) := by
  refine ⟨((8388608 + 407485 : ℝ)) * 2 ^ (-43 : ℤ), by positivity, ?_⟩
  simp [Ideal.ofBits, Ideal.ieee, -EReal.coe_mul]; norm_num

theorem self_nonneg (a : EReal) : 0 ≤ a * a := by
  induction a with
  | bot => simp
  | top => simp
  | coe r => exact_mod_cast mul_self_nonneg r

/-- A nonnegative real factor goes into a sum. -/
theorem mul_sum_real {n : ℕ} (r : ℝ) (h : 0 ≤ r) (f : Fin n → EReal) : (r : EReal) * ∑ k, f k = ∑ k, (r : EReal) * f k := by
  induction n with
  | zero => simp
  | succ n ih => rw [Fin.sum_univ_succ, Fin.sum_univ_succ, EReal.left_distrib_of_nonneg_of_ne_top (by exact_mod_cast h) (EReal.coe_ne_top _), ih]

/-- Twice a real multiple of an extended real. -/
theorem twice (a : ℝ) (T : EReal) : (a : EReal) * T + (a : EReal) * T = ((a + a : ℝ) : EReal) * T := by
  induction T with
  | coe t => norm_cast; ring
  | top =>
    rcases lt_trichotomy a 0 with h | h | h
    · rw [EReal.coe_mul_top_of_neg h, EReal.coe_mul_top_of_neg (by linarith)]; simp
    · subst h; simp
    · rw [EReal.coe_mul_top_of_pos h, EReal.coe_mul_top_of_pos (by linarith)]; simp
  | bot =>
    rcases lt_trichotomy a 0 with h | h | h
    · rw [EReal.coe_mul_bot_of_neg h, EReal.coe_mul_bot_of_neg (by linarith)]; simp
    · subst h; simp
    · rw [EReal.coe_mul_bot_of_pos h, EReal.coe_mul_bot_of_pos (by linarith)]; simp

/-- The mean square plus `eps` is positive; where it is finite, so is every element of the row. -/
theorem var_cases (x : Fin 512 → EReal) : var x = ⊤ ∨ ∃ v : ℝ, 0 < v ∧ var x = (v : EReal) ∧ ∀ k, ∃ r : ℝ, x k = (r : EReal) := by
  obtain ⟨e, he, hE⟩ := eps_pos
  have hs : 0 ≤ ∑ k, x k * x k := Finset.sum_nonneg fun k _ => self_nonneg _
  have hv : var x = (∑ k, x k * x k) * ((1/512 : ℝ) : EReal) + (e : EReal) := by
    rw [var, hE, width_eq, Ideal.div_coe (by norm_num)]
  generalize hS : ∑ k, x k * x k = S at hs hv
  induction S with
  | bot => exact absurd hs (by simp)
  | top => left; rw [hv, EReal.top_mul_coe_of_pos (by norm_num)]; simp
  | coe s =>
    right
    have hs' : 0 ≤ s := by exact_mod_cast hs
    refine ⟨s * (1/512) + e, by positivity, by rw [hv]; norm_cast, fun k => ?_⟩
    have hk : x k * x k ≤ (s : EReal) := hS ▸ Finset.single_le_sum (f := fun k => x k * x k) (fun k _ => self_nonneg _) (Finset.mem_univ k)
    generalize x k = a at hk
    induction a with
    | bot => simp at hk
    | top => simp at hk
    | coe r => exact ⟨r, rfl⟩

/-- The reference's backward pass of the division is the kernel's. -/
theorem back_eq (x d : Fin 512 → EReal) (k : Fin 512) :
    d k * rstd x + x k * through x d + through x d * x k = back x d k := by
  rcases var_cases x with h | ⟨v, hv, hV, hx⟩
  · have hr : rstd x = 0 := by rw [rstd, h]; rfl
    simp [back, through, hr, h, Ideal.div, width_eq]
  · obtain ⟨a, ha⟩ := hx k
    have hq : 0 < (Real.sqrt v)⁻¹ := by positivity
    have hr : rstd x = (((Real.sqrt v)⁻¹ : ℝ) : EReal) := by
      rw [rstd, hV, Ideal.rsqrt_coe, if_neg (by linarith), if_neg hv.ne']
    have hqq : (Real.sqrt v)⁻¹ * (Real.sqrt v)⁻¹ = 1 / v := by
      rw [← mul_inv, Real.mul_self_sqrt hv.le, one_div]
    generalize (Real.sqrt v)⁻¹ = q at hq hr hqq
    have hT : ∑ l, d l * hat x l = (q : EReal) * ∑ l, x l * d l := by
      rw [mul_sum_real q hq.le]
      refine Finset.sum_congr rfl fun l _ => ?_
      rw [hat, hr]; ac_rfl
    have hthr : through x d = ((-(1/2) * (q * (1/v)) * (1/512) : ℝ) : EReal) * ∑ l, x l * d l := by
      rw [through, hr, hV, half_eq, width_eq, Ideal.div_coe hv.ne', Ideal.div_coe (by norm_num)]
      push_cast; ac_rfl
    have hback : back x d k = (q : EReal) * d k + ((-(q * (a * q) * (q * (1/512))) : ℝ) : EReal) * ∑ l, x l * d l := by
      rw [back, hT, hat, hr, ha, width_eq, Ideal.div_coe (by norm_num), sub_eq_add_neg,
        EReal.left_distrib_of_nonneg_of_ne_top (by exact_mod_cast hq.le) (EReal.coe_ne_top _)]
      congr 1
      rw [EReal.coe_neg, mul_neg, EReal.neg_mul]
      push_cast; congr 1; ac_rfl
    rw [hback, hthr, ha, hr, add_assoc, mul_comm (d k)]
    congr 1
    generalize ∑ l, x l * d l = T
    rw [mul_comm _ (a : EReal), ← mul_assoc, ← EReal.coe_mul, twice]
    congr 2
    rw [← hqq]; ring

/-- The smooth gate's value, multiplied in the kernel's order. -/
def gelu (g : EReal) : EReal :=
  Ideal.ofBits .f32 0x3F000000#32 * g * (Ideal.ofBits .f32 0x3F800000#32 + Ideal.tanh (Ideal.ofBits .f32 0x3F4C422A#32 * (g + Ideal.ofBits .f32 0x3D372713#32 * g * g * g)))

/-- The reference's order of the same products. -/
theorem gelu_eq (g : EReal) : g * (Ideal.ofBits .f32 0x3F000000#32 * (Ideal.ofBits .f32 0x3F800000#32 + Ideal.tanh (Ideal.ofBits .f32 0x3F4C422A#32 * (g + Ideal.ofBits .f32 0x3D372713#32 * (g * g * g))))) = gelu g := by
  rw [gelu, ← mul_assoc, mul_comm g (Ideal.ofBits .f32 0x3F000000#32), ← mul_assoc (Ideal.ofBits .f32 0x3D372713#32) (g * g) g, ← mul_assoc (Ideal.ofBits .f32 0x3D372713#32) g g]

/-- What one row is computed from: its row of the gradient that comes in, of the attention's output, of the two scans' outputs and of the gate, the two norms' gains and the stack of weights. -/
structure Row where
  dx : Fin 1024 → EReal
  ya : Fin 512 → EReal
  hf : Fin 512 → EReal
  hb : Fin 512 → EReal
  gate : Fin 512 → EReal
  gr : Fin 512 → EReal
  ga : Fin 512 → EReal
  w : Fin 4 → Fin 256 → Fin 1024 → EReal

namespace Row
variable (R : Row)

/-- The gradient of the mixed features. -/
def dmix (j : Fin 4) (q : Fin 256) : EReal := ∑ d, R.dx d * R.w j q d
/-- Its first half, that of the recurrence. -/
def dr (k : Fin 512) : EReal := R.dmix ⟨k.val / 256, by omega⟩ ⟨k.val % 256, by omega⟩
/-- Its second half, that of the attention. -/
def da (k : Fin 512) : EReal := R.dmix ⟨k.val / 256 + 2, by omega⟩ ⟨k.val % 256, by omega⟩
/-- The gated recurrence. -/
def y (k : Fin 512) : EReal := (R.hf k + R.hb k) * gelu (R.gate k)
/-- The gradient of the two scans' outputs. -/
def dhs (k : Fin 512) : EReal := back R.y (fun l => R.dr l * R.gr l) k * gelu (R.gate k)
/-- The gradient of the attention's output. -/
def dya (k : Fin 512) : EReal := back R.ya (fun l => R.da l * R.ga l) k

end Row

end Cert.Mix

end
-- ==== Proof.Mix.Tile.lean ====
/- The tile of the out-projection's backward call: the values of one grid point by name, and each of them row by row. -/
module

public import proofs.«01_k».proof.Proof.Gen.Kernel5Ideal.Value
public import proofs.«01_k».proof.Proof.Mix.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel5Ideal.Mix
open Cert.Kernel5Ideal Cert.Kernel5Ideal.Gen Cert.Mix

/-- The first shard of the stack of weights. -/
def part0 (w : Vec Ideal S4x256x1024 .bf16) : Vec Ideal S1x256x1024 .bf16 :=
  View.ld (Val := Elt Ideal) (e' := .bf16) w (Rect.unit (s := S4x256x1024) ![0, 0, 0] ![1, 256, 1024] inb_S4x256x1024_S1x256x1024_0_0_0)

/-- The second shard of the stack of weights. -/
def part1 (w : Vec Ideal S4x256x1024 .bf16) : Vec Ideal S1x256x1024 .bf16 :=
  View.ld (Val := Elt Ideal) (e' := .bf16) w (Rect.unit (s := S4x256x1024) ![1, 0, 0] ![1, 256, 1024] inb_S4x256x1024_S1x256x1024_1_0_0)

/-- The third shard of the stack of weights. -/
def part2 (w : Vec Ideal S4x256x1024 .bf16) : Vec Ideal S1x256x1024 .bf16 :=
  View.ld (Val := Elt Ideal) (e' := .bf16) w (Rect.unit (s := S4x256x1024) ![2, 0, 0] ![1, 256, 1024] inb_S4x256x1024_S1x256x1024_2_0_0)

/-- The fourth shard of the stack of weights. -/
def part3 (w : Vec Ideal S4x256x1024 .bf16) : Vec Ideal S1x256x1024 .bf16 :=
  View.ld (Val := Elt Ideal) (e' := .bf16) w (Rect.unit (s := S4x256x1024) ![3, 0, 0] ![1, 256, 1024] inb_S4x256x1024_S1x256x1024_3_0_0)

/-- The gradient that comes in, in the narrow format. -/
def DXB (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x1024 .bf16 := k0_pay4 dx

/-- The gradient of the mixed features. -/
def DMIX (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x1024 .f32 := k0_pay10 (DXB dx w mix ya hf hb gate gr ga) (part0 w) (part1 w) (part2 w) (part3 w)

/-- The gate's hyperbolic tangent. -/
def T (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay11 gate

/-- The smooth gate's value. -/
def GELU (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay12 gate (T dx w mix ya hf hb gate gr ga)

/-- The inverse root of the gated recurrence's rows. -/
def RSTDR (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x1 .f32 := k0_pay16 gate (T dx w mix ya hf hb gate gr ga) hf hb

/-- The gated recurrence's rows over their root mean square. -/
def HATR (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay17 gate (T dx w mix ya hf hb gate gr ga) hf hb

/-- The recurrence's half of the gradient of the mixed features. -/
def DR (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay18 (DMIX dx w mix ya hf hb gate gr ga)

/-- The same times the gain. -/
def DRG (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay19 (DMIX dx w mix ya hf hb gate gr ga) gr

/-- The gradient of the gated recurrence. -/
def DYR (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay20 (RSTDR dx w mix ya hf hb gate gr ga) (HATR dx w mix ya hf hb gate gr ga) (DRG dx w mix ya hf hb gate gr ga)

/-- The inverse root of the attention's rows. -/
def RSTDA (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x1 .f32 := k0_pay23 ya

/-- The attention's rows over their root mean square. -/
def HATA (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay24 ya

/-- The attention's half of the gradient of the mixed features. -/
def DA (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay25 (DMIX dx w mix ya hf hb gate gr ga)

/-- What the inverse root multiplies. -/
def INNER (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay26 (DMIX dx w mix ya hf hb gate gr ga) ya ga

/-- The inverse root along each row. -/
def WIDE (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay27 ya

/-- The gradient of the attention's output. -/
def DYA (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S1x512x512 .f32 := k0_pay30 (INNER dx w mix ya hf hb gate gr ga) (WIDE dx w mix ya hf hb gate gr ga)

/-- The gradient of the two scans' outputs. -/
def DHS (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S512x512 .f32 := k0_pay42 (GELU dx w mix ya hf hb gate gr ga) (DYR dx w mix ya hf hb gate gr ga)

/-- The first shard's gradient, over what was there. -/
def DW0 (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) (old : FVec Ideal S1x256x1024 .f32) : FVec Ideal S1x256x1024 .f32 := k0_pay5 dx mix old

/-- The second shard's. -/
def DW1 (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) (old : FVec Ideal S1x256x1024 .f32) : FVec Ideal S1x256x1024 .f32 := k0_pay6 dx mix old

/-- The third shard's. -/
def DW2 (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) (old : FVec Ideal S1x256x1024 .f32) : FVec Ideal S1x256x1024 .f32 := k0_pay8 (k0_pay7 dx mix old)

/-- The fourth shard's. -/
def DW3 (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S1x256x1024 .f32 → FVec Ideal S1x256x1024 .f32 := k0_pay9 (DXB dx w mix ya hf hb gate gr ga) mix

/-- The recurrence's gain's gradient, over what was there. -/
def DGR (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S1x512 .f32 → FVec Ideal S1x512 .f32 := k0_pay21 (HATR dx w mix ya hf hb gate gr ga) (DR dx w mix ya hf hb gate gr ga)

/-- The attention's gain's gradient, over what was there. -/
def DGA (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) : FVec Ideal S1x512 .f32 → FVec Ideal S1x512 .f32 := k0_pay29 (HATA dx w mix ya hf hb gate gr ga) (DA dx w mix ya hf hb gate gr ga)

/-- Row `r` of a tile. -/
def row (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) (r : Fin 512) : Row where
  dx k := dx (ix2 r k)
  ya k := ya (ix3 0 r k)
  hf k := hf (ix2 r k)
  hb k := hb (ix2 r k)
  gate k := gate (ix2 r k)
  gr k := gr (ix2 0 k)
  ga k := ga (ix2 0 k)
  w j q d := w (ix3 j q d)

theorem part0_at (w : Vec Ideal S4x256x1024 .bf16) (q : Fin 256) (d : Fin 1024) : part0 w (ix3 0 q d) = w (ix3 0 q d) := by
  unfold part0
  pointwise
  blk_ext

theorem part1_at (w : Vec Ideal S4x256x1024 .bf16) (q : Fin 256) (d : Fin 1024) : part1 w (ix3 0 q d) = w (ix3 1 q d) := by
  unfold part1
  pointwise
  blk_ext

theorem part2_at (w : Vec Ideal S4x256x1024 .bf16) (q : Fin 256) (d : Fin 1024) : part2 w (ix3 0 q d) = w (ix3 2 q d) := by
  unfold part2
  pointwise
  blk_ext

theorem part3_at (w : Vec Ideal S4x256x1024 .bf16) (q : Fin 256) (d : Fin 1024) : part3 w (ix3 0 q d) = w (ix3 3 q d) := by
  unfold part3
  pointwise
  blk_ext

variable (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) (r k : Fin 512)

theorem dxb_at (d : Fin 1024) : DXB dx w mix ya hf hb gate gr ga (ix2 r d) = dx (ix2 r d) := by
  unfold DXB
  pointwise [k0_pay4]

theorem gelu_at : GELU dx w mix ya hf hb gate gr ga (ix2 r k) = gelu (gate (ix2 r k)) := by
  unfold GELU T gelu
  pointwise [k0_pay12, k0_pay11]

theorem y_at : k0_pay15 gate (T dx w mix ya hf hb gate gr ga) hf hb (ix2 r k) = (row dx w mix ya hf hb gate gr ga r).y k := by
  have e : k0_pay15 gate (T dx w mix ya hf hb gate gr ga) hf hb (ix2 r k) = (hf (ix2 r k) + hb (ix2 r k)) * GELU dx w mix ya hf hb gate gr ga (ix2 r k) := by
    unfold GELU
    pointwise [k0_pay15, k0_pay14]
  rw [e, gelu_at]
  rfl

theorem rstdr_at : RSTDR dx w mix ya hf hb gate gr ga (ix2 r 0) = rstd (row dx w mix ya hf hb gate gr ga r).y := by
  have e : RSTDR dx w mix ya hf hb gate gr ga (ix2 r 0) = rstd fun k => k0_pay15 gate (T dx w mix ya hf hb gate gr ga) hf hb (ix2 r k) := by
    unfold RSTDR
    pointwise [k0_pay16]
    rfl
  simp only [e, y_at]

theorem hatr_at : HATR dx w mix ya hf hb gate gr ga (ix2 r k) = hat (row dx w mix ya hf hb gate gr ga r).y k := by
  have e : HATR dx w mix ya hf hb gate gr ga (ix2 r k) = k0_pay15 gate (T dx w mix ya hf hb gate gr ga) hf hb (ix2 r k) * RSTDR dx w mix ya hf hb gate gr ga (ix2 r 0) := by
    unfold HATR RSTDR
    pointwise [k0_pay17]
  rw [e, y_at, rstdr_at]
  rfl

theorem dr_at : DR dx w mix ya hf hb gate gr ga (ix2 r k) = (row dx w mix ya hf hb gate gr ga r).dr k := by
  unfold DR DMIX
  pointwise [k0_pay18, k0_pay10]
  simp only [dxb_at, part0_at, part1_at, part2_at, part3_at]
  split_ifs <;> first
    | (exfalso; omega)
    | exact Finset.sum_congr rfl fun d _ => congrArg (dx (ix2 r d) * ·) (congrArg₂ (fun a b => w (ix3 a b d)) (Fin.ext (by show 0 = k.val / 256; omega)) (Fin.ext (by show k.val = k.val % 256; omega)))
    | exact Finset.sum_congr rfl fun d _ => congrArg (dx (ix2 r d) * ·) (congrArg₂ (fun a b => w (ix3 a b d)) (Fin.ext (by show 1 = k.val / 256; omega)) (Fin.ext (by show k.val - 256 = k.val % 256; omega)))

theorem da_at : DA dx w mix ya hf hb gate gr ga (ix2 r k) = (row dx w mix ya hf hb gate gr ga r).da k := by
  unfold DA DMIX
  pointwise [k0_pay25, k0_pay10]
  simp only [dxb_at, part0_at, part1_at, part2_at, part3_at]
  split_ifs <;> first
    | (exfalso; omega)
    | exact Finset.sum_congr rfl fun d _ => congrArg (dx (ix2 r d) * ·) (congrArg₂ (fun a b => w (ix3 a b d)) (Fin.ext (by show 2 = k.val / 256 + 2; omega)) (Fin.ext (by show 512 + k.val - 256 - 256 = k.val % 256; omega)))
    | exact Finset.sum_congr rfl fun d _ => congrArg (dx (ix2 r d) * ·) (congrArg₂ (fun a b => w (ix3 a b d)) (Fin.ext (by show 3 = k.val / 256 + 2; omega)) (Fin.ext (by show 512 + k.val - 256 - 256 - 256 = k.val % 256; omega)))

theorem drg_at : DRG dx w mix ya hf hb gate gr ga (ix2 r k) = (row dx w mix ya hf hb gate gr ga r).dr k * gr (ix2 0 k) := by
  have e : DRG dx w mix ya hf hb gate gr ga (ix2 r k) = DR dx w mix ya hf hb gate gr ga (ix2 r k) * gr (ix2 0 k) := by
    unfold DRG DR
    pointwise [k0_pay19]
  rw [e, dr_at]

theorem dyr_at : DYR dx w mix ya hf hb gate gr ga (ix2 r k) = back (row dx w mix ya hf hb gate gr ga r).y (fun l => (row dx w mix ya hf hb gate gr ga r).dr l * (row dx w mix ya hf hb gate gr ga r).gr l) k := by
  unfold DYR
  pointwise [k0_pay20]
  simp only [drg_at, hatr_at, rstdr_at]
  rfl

theorem dhs_at : DHS dx w mix ya hf hb gate gr ga (ix2 r k) = (row dx w mix ya hf hb gate gr ga r).dhs k := by
  have e : DHS dx w mix ya hf hb gate gr ga (ix2 r k) = DYR dx w mix ya hf hb gate gr ga (ix2 r k) * GELU dx w mix ya hf hb gate gr ga (ix2 r k) := by
    unfold DHS
    pointwise [k0_pay42]
  rw [e, dyr_at, gelu_at]
  rfl

theorem rstda_at : RSTDA dx w mix ya hf hb gate gr ga (ix2 r 0) = rstd (row dx w mix ya hf hb gate gr ga r).ya := by
  unfold RSTDA
  pointwise [k0_pay23, k0_pay22]
  rfl

theorem hata_at : HATA dx w mix ya hf hb gate gr ga (ix2 r k) = hat (row dx w mix ya hf hb gate gr ga r).ya k := by
  have e : HATA dx w mix ya hf hb gate gr ga (ix2 r k) = ya (ix3 0 r k) * RSTDA dx w mix ya hf hb gate gr ga (ix2 r 0) := by
    unfold HATA RSTDA
    pointwise [k0_pay24, k0_pay22]
  rw [e, rstda_at]
  rfl

theorem dya_at : DYA dx w mix ya hf hb gate gr ga (ix3 0 r k) = (row dx w mix ya hf hb gate gr ga r).dya k := by
  have e : DYA dx w mix ya hf hb gate gr ga (ix3 0 r k) = RSTDA dx w mix ya hf hb gate gr ga (ix2 r 0) * (DA dx w mix ya hf hb gate gr ga (ix2 r k) * ga (ix2 0 k) - HATA dx w mix ya hf hb gate gr ga (ix2 r k) * Ideal.div (∑ l, DA dx w mix ya hf hb gate gr ga (ix2 r l) * ga (ix2 0 l) * HATA dx w mix ya hf hb gate gr ga (ix2 r l)) width) := by
    unfold DYA INNER WIDE RSTDA DA HATA
    pointwise [k0_pay30, k0_pay28, k0_pay27, k0_pay26]
  simp only [e, rstda_at, da_at, hata_at]
  rfl

theorem dgr_at (acc : FVec Ideal S1x512 .f32) : DGR dx w mix ya hf hb gate gr ga acc (ix2 0 k) = acc (ix2 0 k) + ∑ r : Fin 512, (row dx w mix ya hf hb gate gr ga r).dr k * hat (row dx w mix ya hf hb gate gr ga r).y k := by
  unfold DGR
  pointwise [k0_pay21]
  simp only [dr_at, hatr_at]

theorem dga_at (acc : FVec Ideal S1x512 .f32) : DGA dx w mix ya hf hb gate gr ga acc (ix2 0 k) = acc (ix2 0 k) + ∑ r : Fin 512, (row dx w mix ya hf hb gate gr ga r).da k * hat (row dx w mix ya hf hb gate gr ga r).ya k := by
  unfold DGA
  pointwise [k0_pay29]
  simp only [da_at, hata_at]

theorem dw0_at (old : FVec Ideal S1x256x1024 .f32) (q : Fin 256) (d : Fin 1024) :
    DW0 dx w mix ya hf hb gate gr ga old (ix3 0 q d) = old (ix3 0 q d) + ∑ r : Fin 512, mix (ix2 r ⟨q.val, by omega⟩) * dx (ix2 r d) := by
  unfold DW0
  pointwise [k0_pay5, k0_pay4]

theorem dw1_at (old : FVec Ideal S1x256x1024 .f32) (q : Fin 256) (d : Fin 1024) :
    DW1 dx w mix ya hf hb gate gr ga old (ix3 0 q d) = old (ix3 0 q d) + ∑ r : Fin 512, mix (ix2 r ⟨256 + q.val, by omega⟩) * dx (ix2 r d) := by
  unfold DW1
  pointwise [k0_pay6, k0_pay4]

theorem dw2_at (old : FVec Ideal S1x256x1024 .f32) (q : Fin 256) (d : Fin 1024) :
    DW2 dx w mix ya hf hb gate gr ga old (ix3 0 q d) = old (ix3 0 q d) + ∑ r : Fin 512, mix (ix2 r ⟨512 + q.val, by omega⟩) * dx (ix2 r d) := by
  unfold DW2
  pointwise [k0_pay8, k0_pay7, k0_pay4]

theorem dw3_at (old : FVec Ideal S1x256x1024 .f32) (q : Fin 256) (d : Fin 1024) :
    DW3 dx w mix ya hf hb gate gr ga old (ix3 0 q d) = old (ix3 0 q d) + ∑ r : Fin 512, mix (ix2 r ⟨768 + q.val, by omega⟩) * dx (ix2 r d) := by
  unfold DW3 DXB
  pointwise [k0_pay9, k0_pay4]

end Cert.Kernel5Ideal.Mix

end
-- ==== Proof.Mix.Point.lean ====
/- The out-projection's backward call's result arrays: what its grid leaves in each, row by row. -/
module

public import proofs.«01_k».proof.Proof.Mix.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Mix
open Cert.Kernel5Ideal Cert.Kernel5Ideal.Gen Cert.Mix

/-- Row `r` of the whole call. -/
def rowAt (dx : FVec Ideal S8192x1024 .f32) (w : Vec Ideal S4x256x1024 .bf16) (ya : FVec Ideal S1x8192x512 .f32) (hf hb gate : FVec Ideal S8192x512 .f32) (gr ga : FVec Ideal S1x512 .f32) (r : Fin 8192) : Row where
  dx k := dx (ix2 r k)
  ya k := ya (ix3 0 r k)
  hf k := hf (ix2 r k)
  hb k := hb (ix2 r k)
  gate k := gate (ix2 r k)
  gr k := gr (ix2 0 k)
  ga k := ga (ix2 0 k)
  w j q d := w (ix3 j q d)

variable (m : (ℓ : Loc nD τ sig) → Buf (Elt Ideal) ℓ) (c : Dev nD)

/-- Row `r` of the call on the arguments in memory. -/
def R (r : Fin 8192) : Row :=
  rowAt (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) r

/-- Which block each window is at, at every point. -/
theorem idx : ∀ t : Fin cfg0.N, win0_0.index t = ![t.val, 0] ∧ win0_1.index t = ![0, 0, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![0, 0] ∧ win0_8.index t = ![0, 0]
    ∧ win0_9.index t = ![t.val, 0] ∧ win0_11.index t = ![0, t.val, 0] ∧ win0_13.index t = ![0, 0, 0] ∧ win0_14.index t = ![0, 0] ∧ win0_15.index t = ![0, 0] :=
  (by decide +kernel : ∀ t : Fin grid0.N, _)

theorem lt16 (t : Fin cfg0.N) : t.val < 16 := lt_of_lt_of_eq t.isLt N_0

/-- A point's rows are the call's. -/
theorem row_eq (t : Fin cfg0.N) (r : Fin 512) :
    row (iblk m c 0 t) (iblk m c 1 t) (iblk m c 2 t) (iblk m c 3 t) (iblk m c 4 t) (iblk m c 5 t) (iblk m c 6 t) (iblk m c 7 t) (iblk m c 8 t) r = R m c ⟨512 * t.val + r.val, by have := lt16 t; omega⟩ := by
  unfold row R rowAt
  congr 1
  · funext k; blk_point [iblk, V, idx t]
  · funext k; blk_point [iblk, V, idx t]
  · funext k; blk_point [iblk, V, idx t]
  · funext k; blk_point [iblk, V, idx t]
  · funext k; blk_point [iblk, V, idx t]
  · funext k; blk_point [iblk, V, idx t]
  · funext k; blk_point [iblk, V, idx t]
  · funext j q d; blk_point [iblk, V, idx t]

/-- The same, at an index whose value is the row's. -/
theorem row_at (t : Fin cfg0.N) (r : Fin 512) (r' : Fin 8192) (h : r'.val = 512 * t.val + r.val) :
    row (iblk m c 0 t) (iblk m c 1 t) (iblk m c 2 t) (iblk m c 3 t) (iblk m c 4 t) (iblk m c 5 t) (iblk m c 6 t) (iblk m c 7 t) (iblk m c 8 t) r = R m c r' := by
  rw [row_eq]
  exact congrArg _ (Fin.ext h.symm)

theorem left9 (t : Fin cfg0.N) : (outsAt0 m c t.val t.isLt).1 = DHS (iblk m c 0 t) (iblk m c 1 t) (iblk m c 2 t) (iblk m c 3 t) (iblk m c 4 t) (iblk m c 5 t) (iblk m c 6 t) (iblk m c 7 t) (iblk m c 8 t) := by
  by_cases h : t.val % 16 = 0
  · rw [outsAt0_A m c t h]; frame_out
    simp only [DHS, DYA, DW0, DW1, DW2, DW3, DGR, DGA, DXB, DMIX, GELU, RSTDR, HATR, T, DR, DRG, DYR, RSTDA, HATA, DA, INNER, WIDE, part0, part1, part2, part3]
  · rw [outsAt0_B m c t h]; frame_out
    simp only [DHS, DYA, DW0, DW1, DW2, DW3, DGR, DGA, DXB, DMIX, GELU, RSTDR, HATR, T, DR, DRG, DYR, RSTDA, HATA, DA, INNER, WIDE, part0, part1, part2, part3]

theorem left11 (t : Fin cfg0.N) : (outsAt0 m c t.val t.isLt).2.2.1 = DYA (iblk m c 0 t) (iblk m c 1 t) (iblk m c 2 t) (iblk m c 3 t) (iblk m c 4 t) (iblk m c 5 t) (iblk m c 6 t) (iblk m c 7 t) (iblk m c 8 t) := by
  by_cases h : t.val % 16 = 0
  · rw [outsAt0_A m c t h]; frame_out
    simp only [DHS, DYA, DW0, DW1, DW2, DW3, DGR, DGA, DXB, DMIX, GELU, RSTDR, HATR, T, DR, DRG, DYR, RSTDA, HATA, DA, INNER, WIDE, part0, part1, part2, part3]
  · rw [outsAt0_B m c t h]; frame_out
    simp only [DHS, DYA, DW0, DW1, DW2, DW3, DGR, DGA, DXB, DMIX, GELU, RSTDR, HATR, T, DR, DRG, DYR, RSTDA, HATA, DA, INNER, WIDE, part0, part1, part2, part3]

theorem first14 (t : Fin cfg0.N) (h : t.val % 16 = 0) : (outsAt0 m c t.val t.isLt).2.2.2.2.2.1 = DGR (iblk m c 0 t) (iblk m c 1 t) (iblk m c 2 t) (iblk m c 3 t) (iblk m c 4 t) (iblk m c 5 t) (iblk m c 6 t) (iblk m c 7 t) (iblk m c 8 t) (k0_pay2 (F := Ideal)) := by
  rw [outsAt0_A m c t h]; frame_out
  simp only [DHS, DYA, DW0, DW1, DW2, DW3, DGR, DGA, DXB, DMIX, GELU, RSTDR, HATR, T, DR, DRG, DYR, RSTDA, HATA, DA, INNER, WIDE, part0, part1, part2, part3]

theorem next14 (t : Fin cfg0.N) (h : t.val % 16 ≠ 0) : (outsAt0 m c t.val t.isLt).2.2.2.2.2.1 = DGR (iblk m c 0 t) (iblk m c 1 t) (iblk m c 2 t) (iblk m c 3 t) (iblk m c 4 t) (iblk m c 5 t) (iblk m c 6 t) (iblk m c 7 t) (iblk m c 8 t) (outsAt0 m c (t.val - 1) (by omega)).2.2.2.2.2.1 := by
  rw [outsAt0_B m c t h]; frame_out
  simp only [DHS, DYA, DW0, DW1, DW2, DW3, DGR, DGA, DXB, DMIX, GELU, RSTDR, HATR, T, DR, DRG, DYR, RSTDA, HATA, DA, INNER, WIDE, part0, part1, part2, part3]

theorem first15 (t : Fin cfg0.N) (h : t.val % 16 = 0) : (outsAt0 m c t.val t.isLt).2.2.2.2.2.2 = DGA (iblk m c 0 t) (iblk m c 1 t) (iblk m c 2 t) (iblk m c 3 t) (iblk m c 4 t) (iblk m c 5 t) (iblk m c 6 t) (iblk m c 7 t) (iblk m c 8 t) (k0_pay3 (F := Ideal)) := by
  rw [outsAt0_A m c t h]; frame_out
  simp only [DHS, DYA, DW0, DW1, DW2, DW3, DGR, DGA, DXB, DMIX, GELU, RSTDR, HATR, T, DR, DRG, DYR, RSTDA, HATA, DA, INNER, WIDE, part0, part1, part2, part3]

theorem next15 (t : Fin cfg0.N) (h : t.val % 16 ≠ 0) : (outsAt0 m c t.val t.isLt).2.2.2.2.2.2 = DGA (iblk m c 0 t) (iblk m c 1 t) (iblk m c 2 t) (iblk m c 3 t) (iblk m c 4 t) (iblk m c 5 t) (iblk m c 6 t) (iblk m c 7 t) (iblk m c 8 t) (outsAt0 m c (t.val - 1) (by omega)).2.2.2.2.2.2 := by
  rw [outsAt0_B m c t h]; frame_out
  simp only [DHS, DYA, DW0, DW1, DW2, DW3, DGR, DGA, DXB, DMIX, GELU, RSTDR, HATR, T, DR, DRG, DYR, RSTDA, HATA, DA, INNER, WIDE, part0, part1, part2, part3]

/-- The products the gradient of the weights adds at one point, of the rows `u` of features and `d` of the gradient. -/
def tileDW (u : FVec Ideal S512x1024 .bf16) (d : FVec Ideal S512x1024 .f32) (y : S4x256x1024.Idx) : EReal :=
  ∑ r : Fin 512, u (ix2 r ⟨256 * (y 0 : ℕ) + (y 1 : ℕ), by have h0 : (y 0 : ℕ) < 4 := (y 0).isLt; have h1 : (y 1 : ℕ) < 256 := (y 1).isLt; omega⟩) * d (ix2 r (y 2))

/-- One shard's part of it. -/
theorem tileDW_at (u : FVec Ideal S512x1024 .bf16) (d : FVec Ideal S512x1024 .f32) (y : S4x256x1024.Idx) (x : S1x256x1024.Idx) (n : ℕ) (e0 : 256 * (y 0 : ℕ) = n) (e1 : (y 1 : ℕ) = x 1) (e2 : (y 2 : ℕ) = x 2)
    (k : Fin 1024) (hk : k.val = n + (x 1 : ℕ)) :
    ∑ r : Fin 512, u (ix2 r k) * d (ix2 r (x 2)) = tileDW u d y := by
  unfold tileDW
  refine Finset.sum_congr rfl fun r _ => congrArg₂ (fun (a b : Fin 1024) => u (ix2 r a) * d (ix2 r b)) (Fin.ext ?_) (Fin.ext e2.symm)
  show k.val = 256 * (y 0 : ℕ) + (y 1 : ℕ)
  omega

/-- An index of a one-shard array. -/
theorem shard_ix (x : S1x256x1024.Idx) : x = ix3 0 (x 1) (x 2) :=
  (eq_ix3 x).trans (congrArg (fun a : Fin 1 => ix3 a (x 1) (x 2)) (Subsingleton.elim (α := Fin 1) (x 0) 0))

/-- A load through a rectangle, at an index it places. -/
theorem ld_at {S : Shape} {e : EltTy} (w : Vec Ideal S e) (off size : Fin S.rank → Nat) (inb : ∀ a, off a + size a ≤ S.size a) (x : (Rect.unit (s := S) off size inb).shape.Idx) (y : S.Idx)
    (h : ∀ a, (y a : ℕ) = off a + (x a : ℕ)) : View.ld (Val := Elt Ideal) (e' := e) w (Rect.unit (s := S) off size inb) x = w y := by
  show w ((Rect.unit (s := S) off size inb).emb x) = w y
  refine congrArg w (funext fun a => Fin.ext ?_)
  rw [Rect.emb_apply]
  show off a + 1 * (x a : ℕ) = _
  rw [h a, Nat.one_mul]

/-- The array of zeros the accumulation starts from. -/
theorem zero13 : k0_pay1 (F := Ideal) = fun _ => 0 := by
  funext j
  pointwise [k0_pay1]

theorem piece13_0 (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32)
    (old : FVec Ideal S1x256x1024 .f32) (x : S1x256x1024.Idx) (y : S4x256x1024.Idx) (v : EReal) (hv : old x = v) (h0 : (y 0 : ℕ) = 0 + (x 0 : ℕ)) (h1 : (y 1 : ℕ) = x 1) (h2 : (y 2 : ℕ) = x 2) :
    (k0_pay5 (F := Ideal) dx mix old : FVec Ideal S1x256x1024 .f32) x = v + tileDW mix dx y := by
  have hx : (x 0 : ℕ) < 1 := (x 0).isLt
  refine Eq.trans (b := DW0 dx w mix ya hf hb gate gr ga old x) rfl ?_
  refine (congrArg (DW0 dx w mix ya hf hb gate gr ga old) (shard_ix x)).trans ((dw0_at dx w mix ya hf hb gate gr ga old (x 1) (x 2)).trans (congrArg₂ (· + ·) ?_ (tileDW_at mix dx y x 0 (by omega) h1 h2 _ ((Nat.zero_add _).symm))))
  exact (congrArg old (shard_ix x).symm).trans hv

theorem piece13_1 (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32)
    (old : FVec Ideal S1x256x1024 .f32) (x : S1x256x1024.Idx) (y : S4x256x1024.Idx) (v : EReal) (hv : old x = v) (h0 : (y 0 : ℕ) = 1 + (x 0 : ℕ)) (h1 : (y 1 : ℕ) = x 1) (h2 : (y 2 : ℕ) = x 2) :
    (k0_pay6 (F := Ideal) dx mix old : FVec Ideal S1x256x1024 .f32) x = v + tileDW mix dx y := by
  have hx : (x 0 : ℕ) < 1 := (x 0).isLt
  refine Eq.trans (b := DW1 dx w mix ya hf hb gate gr ga old x) rfl ?_
  refine (congrArg (DW1 dx w mix ya hf hb gate gr ga old) (shard_ix x)).trans ((dw1_at dx w mix ya hf hb gate gr ga old (x 1) (x 2)).trans (congrArg₂ (· + ·) ?_ (tileDW_at mix dx y x 256 (by omega) h1 h2 _ (rfl))))
  exact (congrArg old (shard_ix x).symm).trans hv

theorem piece13_2 (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32)
    (old : FVec Ideal S1x256x1024 .f32) (x : S1x256x1024.Idx) (y : S4x256x1024.Idx) (v : EReal) (hv : old x = v) (h0 : (y 0 : ℕ) = 2 + (x 0 : ℕ)) (h1 : (y 1 : ℕ) = x 1) (h2 : (y 2 : ℕ) = x 2) :
    (k0_pay8 (F := Ideal) (k0_pay7 (F := Ideal) dx mix old) : FVec Ideal S1x256x1024 .f32) x = v + tileDW mix dx y := by
  have hx : (x 0 : ℕ) < 1 := (x 0).isLt
  refine Eq.trans (b := DW2 dx w mix ya hf hb gate gr ga old x) rfl ?_
  refine (congrArg (DW2 dx w mix ya hf hb gate gr ga old) (shard_ix x)).trans ((dw2_at dx w mix ya hf hb gate gr ga old (x 1) (x 2)).trans (congrArg₂ (· + ·) ?_ (tileDW_at mix dx y x 512 (by omega) h1 h2 _ (rfl))))
  exact (congrArg old (shard_ix x).symm).trans hv

theorem piece13_3 (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32)
    (old : FVec Ideal S1x256x1024 .f32) (x : S1x256x1024.Idx) (y : S4x256x1024.Idx) (v : EReal) (hv : old x = v) (h0 : (y 0 : ℕ) = 3 + (x 0 : ℕ)) (h1 : (y 1 : ℕ) = x 1) (h2 : (y 2 : ℕ) = x 2) :
    (k0_pay9 (F := Ideal) (k0_pay4 (F := Ideal) dx) mix old : FVec Ideal S1x256x1024 .f32) x = v + tileDW mix dx y := by
  have hx : (x 0 : ℕ) < 1 := (x 0).isLt
  refine Eq.trans (b := DW3 dx w mix ya hf hb gate gr ga old x) rfl ?_
  refine (congrArg (DW3 dx w mix ya hf hb gate gr ga old) (shard_ix x)).trans ((dw3_at dx w mix ya hf hb gate gr ga old (x 1) (x 2)).trans (congrArg₂ (· + ·) ?_ (tileDW_at mix dx y x 768 (by omega) h1 h2 _ (rfl))))
  exact (congrArg old (shard_ix x).symm).trans hv

/-- What was stored before pieces that cover an index is not read there. -/
theorem canon_front {S : Shape} {e : EltTy} {Val : EltTy → Type} [∀ e, Nonempty (Val e)] : ∀ (L L' : List (View.Piece Val S e)) (y : S.Idx) (v : Val e),
    (∃ p ∈ L, y ∈ p.1.set) → View.AllAt L y v → View.canon (L ++ L') y = v
  | [], _, _, _, hc, _ => by obtain ⟨p, hp, _⟩ := hc; exact absurd hp List.not_mem_nil
  | p :: L, L', y, v, hc, h => by
    show View.canon (p :: (L ++ L')) y = v
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine canon_front L L' y v ?_ fun q hq => h q (List.mem_cons_of_mem _ hq)
      obtain ⟨q, hq, hyq⟩ := hc
      rcases List.mem_cons.mp hq with rfl | hq'
      · exact absurd hyq hm
      · exact ⟨q, hq', hyq⟩

/-- The same of four pieces after one. -/
theorem canon_front4 {S : Shape} {e : EltTy} {Val : EltTy → Type} [∀ e, Nonempty (Val e)] (p0 p1 p2 p3 q : View.Piece Val S e) (y : S.Idx) (v : Val e)
    (hc : ∃ p ∈ [p0, p1, p2, p3], y ∈ p.1.set) (h : View.AllAt [p0, p1, p2, p3] y v) : View.canon [p0, p1, p2, p3, q] y = v :=
  canon_front [p0, p1, p2, p3] [q] y v hc h

theorem first13 (t : Fin cfg0.N) (hc : t.val % 16 = 0) (y : S4x256x1024.Idx) : (outsAt0 m c t.val t.isLt).2.2.2.2.1 y = 0 + tileDW (iblk m c 2 t) (iblk m c 0 t) y := by
  rw [outsAt0_A m c t hc]; frame_out
  refine canon_front4 _ _ _ _ _ y _ (by set_option maxRecDepth 1000000 in exact View.cover_of_tiled_head _ _ _ (by rfl) _) ?_
  refine View.allAt_cons_unit _ _ _ _ _ (fun x h => ?_) (View.allAt_cons_unit _ _ _ _ _ (fun x h => ?_) (View.allAt_cons_unit _ _ _ _ _ (fun x h => ?_) (View.allAt_cons_unit _ _ _ _ _ (fun x h => ?_) (View.allAt_nil _ _))))
  · refine piece13_3 (iblk m c 0 t) (iblk m c 1 t) (iblk m c 2 t) (iblk m c 3 t) (iblk m c 4 t) (iblk m c 5 t) (iblk m c 6 t) (iblk m c 7 t) (iblk m c 8 t) _ x y _ ?_ (h 0) ((h 1).trans (Nat.zero_add _)) ((h 2).trans (Nat.zero_add _))
    simp (disch := decide) only [↓View.readCov_skip, ↓View.readCov_cons_toLoadRect, ↓View.readCov_fill, zero13]
  · refine piece13_2 (iblk m c 0 t) (iblk m c 1 t) (iblk m c 2 t) (iblk m c 3 t) (iblk m c 4 t) (iblk m c 5 t) (iblk m c 6 t) (iblk m c 7 t) (iblk m c 8 t) _ x y _ ?_ (h 0) ((h 1).trans (Nat.zero_add _)) ((h 2).trans (Nat.zero_add _))
    simp (disch := decide) only [↓View.readCov_skip, ↓View.readCov_cons_toLoadRect, ↓View.readCov_fill, zero13]
  · refine piece13_1 (iblk m c 0 t) (iblk m c 1 t) (iblk m c 2 t) (iblk m c 3 t) (iblk m c 4 t) (iblk m c 5 t) (iblk m c 6 t) (iblk m c 7 t) (iblk m c 8 t) _ x y _ ?_ (h 0) ((h 1).trans (Nat.zero_add _)) ((h 2).trans (Nat.zero_add _))
    simp (disch := decide) only [↓View.readCov_skip, ↓View.readCov_cons_toLoadRect, ↓View.readCov_fill, zero13]
  · refine piece13_0 (iblk m c 0 t) (iblk m c 1 t) (iblk m c 2 t) (iblk m c 3 t) (iblk m c 4 t) (iblk m c 5 t) (iblk m c 6 t) (iblk m c 7 t) (iblk m c 8 t) _ x y _ ?_ (h 0) ((h 1).trans (Nat.zero_add _)) ((h 2).trans (Nat.zero_add _))
    simp (disch := decide) only [↓View.readCov_skip, ↓View.readCov_cons_toLoadRect, ↓View.readCov_fill, zero13]

theorem next13 (t : Fin cfg0.N) (hc : t.val % 16 ≠ 0) (y : S4x256x1024.Idx) : (outsAt0 m c t.val t.isLt).2.2.2.2.1 y = (outsAt0 m c (t.val - 1) (by omega)).2.2.2.2.1 y + tileDW (iblk m c 2 t) (iblk m c 0 t) y := by
  rw [outsAt0_B m c t hc]; frame_out
  canon_tiles x h
  · refine piece13_3 (iblk m c 0 t) (iblk m c 1 t) (iblk m c 2 t) (iblk m c 3 t) (iblk m c 4 t) (iblk m c 5 t) (iblk m c 6 t) (iblk m c 7 t) (iblk m c 8 t) _ x y _ (ld_at _ _ _ _ x y fun a => ?_) (by omega) h1 h2
    match a with
    | 0 => exact h0
    | 1 => exact h1.trans (Nat.zero_add _).symm
    | 2 => exact h2.trans (Nat.zero_add _).symm
  · refine piece13_2 (iblk m c 0 t) (iblk m c 1 t) (iblk m c 2 t) (iblk m c 3 t) (iblk m c 4 t) (iblk m c 5 t) (iblk m c 6 t) (iblk m c 7 t) (iblk m c 8 t) _ x y _ (ld_at _ _ _ _ x y fun a => ?_) (by omega) h1 h2
    match a with
    | 0 => exact h0
    | 1 => exact h1.trans (Nat.zero_add _).symm
    | 2 => exact h2.trans (Nat.zero_add _).symm
  · refine piece13_1 (iblk m c 0 t) (iblk m c 1 t) (iblk m c 2 t) (iblk m c 3 t) (iblk m c 4 t) (iblk m c 5 t) (iblk m c 6 t) (iblk m c 7 t) (iblk m c 8 t) _ x y _ (ld_at _ _ _ _ x y fun a => ?_) (by omega) h1 h2
    match a with
    | 0 => exact h0
    | 1 => exact h1.trans (Nat.zero_add _).symm
    | 2 => exact h2.trans (Nat.zero_add _).symm
  · refine piece13_0 (iblk m c 0 t) (iblk m c 1 t) (iblk m c 2 t) (iblk m c 3 t) (iblk m c 4 t) (iblk m c 5 t) (iblk m c 6 t) (iblk m c 7 t) (iblk m c 8 t) _ x y _ (ld_at _ _ _ _ x y fun a => ?_) (by omega) h1 h2
    match a with
    | 0 => exact h0.trans (Nat.zero_add _).symm
    | 1 => exact h1.trans (Nat.zero_add _).symm
    | 2 => exact h2.trans (Nat.zero_add _).symm

theorem final9 : (dats m 0 c).arrAt 9 (cfgs 0).N = fun j => (R m c (j 0)).dhs (j 1) := by
  refine (dats m 0 c).arrAt_eq_of_covers 9 _ (by decide +kernel) fun t hf y => ?_
  blk_simp
  rw [after0_9, left9]
  refine (congrArg _ (eq_ix2 y)).trans ((dhs_at _ _ _ _ _ _ _ _ _ (y 0) (y 1)).trans ?_)
  refine congrArg₂ (fun (ρ : Row) (k : Fin 512) => ρ.dhs k) (row_at m c t (y 0) _ ?_) (Fin.ext ?_)
  · blk_simp [idx t]
    rw [mul_comm]
  · blk_simp [idx t]

theorem final11 : (dats m 0 c).arrAt 11 (cfgs 0).N = fun j => (R m c (j 1)).dya (j 2) := by
  refine (dats m 0 c).arrAt_eq_of_covers 11 _ (by decide +kernel) fun t hf y => ?_
  blk_simp
  rw [after0_11, left11]
  refine (congrArg _ ((eq_ix3 y).trans (congrArg (fun a : Fin 1 => ix3 a (y 1) (y 2)) (Subsingleton.elim (α := Fin 1) (y 0) 0)))).trans ((dya_at _ _ _ _ _ _ _ _ _ (y 1) (y 2)).trans ?_)
  refine congrArg₂ (fun (ρ : Row) (k : Fin 512) => ρ.dya k) (row_at m c t (y 1) _ ?_) (Fin.ext ?_)
  · blk_simp [idx t]
    rw [mul_comm]
  · blk_simp [idx t]

theorem zero14 : k0_pay2 (F := Ideal) = fun _ => 0 := by
  funext j
  pointwise [k0_pay2]

theorem zero15 : k0_pay3 (F := Ideal) = fun _ => 0 := by
  funext j
  pointwise [k0_pay3]

theorem dgr_all (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) (acc : FVec Ideal S1x512 .f32) (j : S1x512.Idx) :
    DGR dx w mix ya hf hb gate gr ga acc j = acc j + ∑ r : Fin 512, (row dx w mix ya hf hb gate gr ga r).dr (j 1) * hat (row dx w mix ya hf hb gate gr ga r).y (j 1) := by
  obtain ⟨k, rfl⟩ : ∃ k : Fin 512, j = ix2 0 k := ⟨j 1, (eq_ix2 j).trans (congrArg (fun a : Fin 1 => ix2 a (j 1)) (Subsingleton.elim (α := Fin 1) (j 0) 0))⟩
  exact dgr_at _ _ _ _ _ _ _ _ _ k acc

/-- Row `r`'s term of the gain's gradient. -/
def term14 (k : Fin 512) (r : Fin 8192) : EReal := (R m c r).dr k * hat (R m c r).y k

theorem dga_all (dx : FVec Ideal S512x1024 .f32) (w : Vec Ideal S4x256x1024 .bf16) (mix : FVec Ideal S512x1024 .bf16) (ya : FVec Ideal S1x512x512 .f32) (hf hb gate : FVec Ideal S512x512 .f32) (gr ga : FVec Ideal S1x512 .f32) (acc : FVec Ideal S1x512 .f32) (j : S1x512.Idx) :
    DGA dx w mix ya hf hb gate gr ga acc j = acc j + ∑ r : Fin 512, (row dx w mix ya hf hb gate gr ga r).da (j 1) * hat (row dx w mix ya hf hb gate gr ga r).ya (j 1) := by
  obtain ⟨k, rfl⟩ : ∃ k : Fin 512, j = ix2 0 k := ⟨j 1, (eq_ix2 j).trans (congrArg (fun a : Fin 1 => ix2 a (j 1)) (Subsingleton.elim (α := Fin 1) (j 0) 0))⟩
  exact dga_at _ _ _ _ _ _ _ _ _ k acc

/-- Row `r`'s term of the gain's gradient. -/
def term15 (k : Fin 512) (r : Fin 8192) : EReal := (R m c r).da k * hat (R m c r).ya k

/-- Row `r`'s term of the gradient of the weights. -/
def prod13 (mix : FVec Ideal S8192x1024 .bf16) (dx : FVec Ideal S8192x1024 .f32) (j : Fin 4) (q : Fin 256) (e : Fin 1024) (r : Fin 8192) : EReal :=
  mix (ix2 r ⟨256 * j.val + q.val, by omega⟩) * dx (ix2 r e)

/-- The same of the arguments in memory. -/
def term13 (j : Fin 4) (q : Fin 256) (e : Fin 1024) (r : Fin 8192) : EReal :=
  prod13 (m ((c : Thread nD τ).loc main_arg2)) (m ((c : Thread nD τ).loc main_arg0)) j q e r

theorem tile_eq (t : Fin cfg0.N) (y : S4x256x1024.Idx) :
    tileDW (iblk m c 2 t) (iblk m c 0 t) y = ∑ r : Fin 512, term13 m c (y 0) (y 1) (y 2) ⟨512 * t.val + r.val, by have := lt16 t; omega⟩ := by
  unfold tileDW term13 prod13
  refine Finset.sum_congr rfl fun r _ => congrArg₂ (fun a b : EReal => a * b) ?_ ?_
  · blk_point [iblk, V, idx t]
  · blk_point [iblk, V, idx t]

theorem final14 : (dats m 0 c).arrAt 14 (cfgs 0).N = fun j => ∑ r : Fin 8192, term14 m c (j 1) r := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.1) 16 (fun _ => 0) (fun t j => ∑ r : Fin 512, term14 m c (j 1) ⟨512 * t.val + r.val, by have := lt16 t; omega⟩)
    (fun t h j => by rw [first14 m c t h, dgr_all, zero14]; exact congrArg _ (Finset.sum_congr rfl fun r _ => by rw [row_eq]; rfl))
    (fun t h j => by rw [next14 m c t h, dgr_all]; exact congrArg _ (Finset.sum_congr rfl fun r _ => by rw [row_eq]; rfl))
    t ((flush0_14 t).mp hf) _, zero_add]
  refine Fin.sum_mul_add_congr fun s k hl => congrArg₂ (term14 m c) (Fin.ext ?_) (Fin.ext ?_)
  · blk_simp [idx t]
  · have := lt16 t
    show 512 * (16 * (t.val / 16) + s.val) + k.val = s.val * 512 + k.val
    omega

theorem final15 : (dats m 0 c).arrAt 15 (cfgs 0).N = fun j => ∑ r : Fin 8192, term15 m c (j 1) r := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2) 16 (fun _ => 0) (fun t j => ∑ r : Fin 512, term15 m c (j 1) ⟨512 * t.val + r.val, by have := lt16 t; omega⟩)
    (fun t h j => by rw [first15 m c t h, dga_all, zero15]; exact congrArg _ (Finset.sum_congr rfl fun r _ => by rw [row_eq]; rfl))
    (fun t h j => by rw [next15 m c t h, dga_all]; exact congrArg _ (Finset.sum_congr rfl fun r _ => by rw [row_eq]; rfl))
    t ((flush0_15 t).mp hf) _, zero_add]
  refine Fin.sum_mul_add_congr fun s k hl => congrArg₂ (term15 m c) (Fin.ext ?_) (Fin.ext ?_)
  · blk_simp [idx t]
  · have := lt16 t
    show 512 * (16 * (t.val / 16) + s.val) + k.val = s.val * 512 + k.val
    omega

theorem final13 : (dats m 0 c).arrAt 13 (cfgs 0).N = fun j => ∑ r : Fin 8192, term13 m c (j 0) (j 1) (j 2) r := by
  refine (dats m 0 c).arrAt_eq_of_covers 13 _ (by decide +kernel) fun t hf y => ?_
  blk_simp
  rw [after0_13, Pipeline.eq_sum_fin_of_reset_step_apply_of_flush (fun n h => (outsAt0 m c n h).2.2.2.2.1) 16 (fun _ => 0) (fun t j => ∑ r : Fin 512, term13 m c (j 0) (j 1) (j 2) ⟨512 * t.val + r.val, by have := lt16 t; omega⟩)
    (fun t h j => by rw [first13 m c t h, tile_eq])
    (fun t h j => by rw [next13 m c t h, tile_eq])
    t ((flush0_13 t).mp hf) _, zero_add]
  refine Fin.sum_mul_add_congr fun s k hl => ?_
  have e (a a' : Fin 4) (b b' : Fin 256) (d d' : Fin 1024) (r r' : Fin 8192) (h0 : a.val = a'.val) (h1 : b.val = b'.val) (h2 : d.val = d'.val) (h3 : r.val = r'.val) : term13 m c a b d r = term13 m c a' b' d' r' := by
    rw [Fin.ext h0, Fin.ext h1, Fin.ext h2, Fin.ext h3]
  refine e _ _ _ _ _ _ _ _ ?_ ?_ ?_ ?_
  · blk_simp [idx t]
  · blk_simp [idx t]
  · blk_simp [idx t]
  · have := lt16 t
    show 512 * (16 * (t.val / 16) + s.val) + k.val = s.val * 512 + k.val
    omega

end Cert.Kernel5Ideal.Mix

end
-- ==== Proof.Mix.Ref.lean ====
/- The reference of the out-projection's backward call, row by row. -/
module

public import proofs.«01_k».proof.Proof.Mix.Row
public import proofs.«01_k».proof.Proof.Gen.Reference5Ideal
public import proofs.«01_k».proof.Proof.Gen.Reference5Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference5Ideal.Mix
open Cert.Reference5Ideal Cert.Reference5Ideal.Gen Cert.Reference5Ideal.Value Cert.Mix

/-- The smooth gate's value. -/
def GELU (gate : FVec Ideal S8192x512 .f32) : FVec Ideal S8192x512 .f32 :=
  mulf gate (mulf (broadcastInDim S8192x512 ![] bcast_S_S8192x512 (constant S_ .f32 0x3F000000#32)) (addf (broadcastInDim S8192x512 ![] bcast_S_S8192x512 (constant S_ .f32 0x3F800000#32)) (Host.tanh (mulf (broadcastInDim S8192x512 ![] bcast_S_S8192x512 (constant S_ .f32 0x3F4C422A#32)) (addf gate (mulf (broadcastInDim S8192x512 ![] bcast_S_S8192x512 (constant S_ .f32 0x3D372713#32)) (mulf (mulf gate gate) gate)))))))

/-- The gated recurrence. -/
def Y (hf hb gate : FVec Ideal S8192x512 .f32) : FVec Ideal S8192x512 .f32 := mulf (addf hf hb) (GELU gate)

/-- The rows' mean squares, plus the small number. -/
def VAR (x : FVec Ideal S8192x512 .f32) : FVec Ideal S8192x1 .f32 :=
  addf (Host.divf (broadcastInDim S8192x1 ![0] bcast_S8192_S8192x1_0 (Host.reduceAdd (mulf x x) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32))

/-- Their inverse roots. -/
def RSTD (x : FVec Ideal S8192x512 .f32) : FVec Ideal S8192x1 .f32 := Host.rsqrt (VAR x)

/-- The rows over their root mean squares. -/
def HAT (x : FVec Ideal S8192x512 .f32) : FVec Ideal S8192x512 .f32 := mulf x (broadcastInDim S8192x512 ![0, 1] bcast_S8192x1_S8192x512_0_1 (RSTD x))

/-- What the backward pass brings through the mean square, along each row. -/
def THROUGH (x d : FVec Ideal S8192x512 .f32) : FVec Ideal S8192x512 .f32 :=
  broadcastInDim S8192x512 ![0] bcast_S8192_S8192x512_0 (Host.reduceAdd (Host.divf (mulf (shapeCast _ (Host.reduceAdd (mulf x d) (constant S_ .f32 0x00000000#32) reducesTo_S8192x512_S8192_d1 h_S_) shapeCasts_S8192_S8192x1) (mulf (broadcastInDim S8192x1 ![] bcast_S_S8192x1 (constant S_ .f32 0xBF000000#32)) (Host.divf (RSTD x) (VAR x)))) (broadcastInDim S8192x1 ![] bcast_S_S8192x1 (constant S_ .f32 0x44000000#32))) (constant S_ .f32 0x00000000#32) reducesTo_S8192x1_S8192_d1 h_S_)

/-- The backward pass of the normalisation. -/
def BACK (x d : FVec Ideal S8192x512 .f32) : FVec Ideal S8192x512 .f32 :=
  addf (addf (mulf d (broadcastInDim S8192x512 ![0, 1] bcast_S8192x1_S8192x512_0_1 (RSTD x))) (mulf x (THROUGH x d))) (mulf (THROUGH x d) x)

/-- The gradient of the mixed features. -/
def DMIX (dx : FVec Ideal S8192x1024 .f32) (w : FVec Ideal S4x256x1024 .bf16) : FVec Ideal S8192x1024 .f32 :=
  shapeCast _ (Host.dotGeneral dot_S8192x1024_S4x256x1024_S8192x4x256_1_2_0_01_n_n none (truncf .bf16 dx bitsLt_bf16_f32) w) shapeCasts_S8192x4x256_S8192x1024

/-- Its half for the recurrence. -/
def DR (dx : FVec Ideal S8192x1024 .f32) (w : FVec Ideal S4x256x1024 .bf16) : FVec Ideal S8192x512 .f32 :=
  extractStridedSlice S8192x512 ![0, 0] (DMIX dx w) slices_S8192x1024_S8192x512_0_0

/-- Its half for the attention. -/
def DA (dx : FVec Ideal S8192x1024 .f32) (w : FVec Ideal S4x256x1024 .bf16) : FVec Ideal S8192x512 .f32 :=
  extractStridedSlice S8192x512 ![0, 512] (DMIX dx w) slices_S8192x1024_S8192x512_0_512

/-- A half times its norm's gain. -/
def GAIN (d : FVec Ideal S8192x512 .f32) (g : FVec Ideal S1x512 .f32) : FVec Ideal S8192x512 .f32 :=
  mulf d (broadcastInDim S8192x512 ![0, 1] bcast_S1x512_S8192x512_0_1 g)

/-- The attention's output. -/
def YA (ya : FVec Ideal S1x8192x512 .f32) : FVec Ideal S8192x512 .f32 := shapeCast _ ya shapeCasts_S1x8192x512_S8192x512

/-- A gain's gradient. -/
def DG (x d : FVec Ideal S8192x512 .f32) : FVec Ideal S1x512 .f32 :=
  shapeCast _ (Host.reduceAdd (mulf (HAT x) d) (constant S_ .f32 0x00000000#32) reducesTo_S8192x512_S512_d0 h_S_) shapeCasts_S512_S1x512

/-- The gradient of the weights. -/
def DW (mix : FVec Ideal S8192x1024 .bf16) (dx : FVec Ideal S8192x1024 .f32) : FVec Ideal S4x256x1024 .f32 :=
  Host.dotGeneral dot_S8192x4x256_S8192x1024_S4x256x1024_0_0_12_1_n_n none (shapeCast _ mix shapeCasts_S8192x1024_S8192x4x256) (truncf .bf16 dx bitsLt_bf16_f32)

/-- The gradient of the two scans' outputs. -/
def DHS (dx : FVec Ideal S8192x1024 .f32) (w : FVec Ideal S4x256x1024 .bf16) (hf hb gate : FVec Ideal S8192x512 .f32) (gr : FVec Ideal S1x512 .f32) : FVec Ideal S8192x512 .f32 :=
  mulf (BACK (Y hf hb gate) (GAIN (DR dx w) gr)) (GELU gate)

/-- The gradient of the attention's output. -/
def DYA (dx : FVec Ideal S8192x1024 .f32) (w : FVec Ideal S4x256x1024 .bf16) (ya : FVec Ideal S1x8192x512 .f32) (ga : FVec Ideal S1x512 .f32) : FVec Ideal S1x8192x512 .f32 :=
  broadcastInDim S1x8192x512 ![1, 2] bcast_S8192x512_S1x8192x512_1_2 (BACK (YA ya) (GAIN (DA dx w) ga))

/-- Row `r` of the arguments. -/
def row (dx : FVec Ideal S8192x1024 .f32) (w : FVec Ideal S4x256x1024 .bf16) (ya : FVec Ideal S1x8192x512 .f32) (hf hb gate : FVec Ideal S8192x512 .f32) (gr ga : FVec Ideal S1x512 .f32) (r : Fin 8192) : Row where
  dx k := dx (ix2 r k)
  ya k := ya (ix3 0 r k)
  hf k := hf (ix2 r k)
  hb k := hb (ix2 r k)
  gate k := gate (ix2 r k)
  gr k := gr (ix2 0 k)
  ga k := ga (ix2 0 k)
  w j q d := w (ix3 j q d)

section
variable (x d : FVec Ideal S8192x512 .f32) (r : Fin 8192) (k : Fin 512)

theorem gelu_at : GELU x (ix2 r k) = gelu (x (ix2 r k)) := by
  rw [← gelu_eq]
  unfold GELU
  pointwise

theorem var_at : VAR x (ix2 r 0) = var fun k => x (ix2 r k) := by
  unfold VAR
  pointwise
  rfl

theorem rstd_at : RSTD x (ix2 r 0) = rstd fun k => x (ix2 r k) := by
  unfold RSTD
  pointwise
  rw [var_at]
  rfl

theorem hat_at : HAT x (ix2 r k) = hat (fun k => x (ix2 r k)) k := by
  unfold HAT
  pointwise
  rw [rstd_at]
  rfl

theorem through_at : THROUGH x d (ix2 r k) = through (fun k => x (ix2 r k)) fun k => d (ix2 r k) := by
  unfold THROUGH
  pointwise
  simp only [rstd_at, var_at, Finset.univ_unique, Finset.sum_singleton, Fin.default_eq_zero]
  rfl

theorem back_at : BACK x d (ix2 r k) = back (fun k => x (ix2 r k)) (fun k => d (ix2 r k)) k := by
  rw [← back_eq]
  unfold BACK
  pointwise
  rw [through_at, rstd_at]

theorem gain_at (g : FVec Ideal S1x512 .f32) : GAIN d g (ix2 r k) = d (ix2 r k) * g (ix2 0 k) := by
  unfold GAIN
  pointwise

theorem dg_at : DG x d (ix2 0 k) = ∑ r : Fin 8192, d (ix2 r k) * hat (fun k => x (ix2 r k)) k := by
  unfold DG
  pointwise
  simp only [hat_at, mul_comm]

end

section
variable (dx : FVec Ideal S8192x1024 .f32) (w : FVec Ideal S4x256x1024 .bf16) (mix : FVec Ideal S8192x1024 .bf16) (ya : FVec Ideal S1x8192x512 .f32) (hf hb gate : FVec Ideal S8192x512 .f32) (gr ga : FVec Ideal S1x512 .f32) (r : Fin 8192) (k : Fin 512)

theorem y_at : Y hf hb gate (ix2 r k) = (row dx w ya hf hb gate gr ga r).y k := by
  unfold Y
  pointwise
  rw [gelu_at]
  rfl

theorem ya_at : YA ya (ix2 r k) = (row dx w ya hf hb gate gr ga r).ya k := by
  unfold YA
  pointwise
  rfl

theorem dr_at : DR dx w (ix2 r k) = (row dx w ya hf hb gate gr ga r).dr k := by
  unfold DR DMIX
  pointwise
  rfl

theorem da_at : DA dx w (ix2 r k) = (row dx w ya hf hb gate gr ga r).da k := by
  unfold DA DMIX
  pointwise
  exact Finset.sum_congr rfl fun d _ => congrArg (dx (ix2 r d) * ·) (congrArg₂ (fun a b => w (ix3 a b d)) (Fin.ext (by show (512 + k.val) / 256 = k.val / 256 + 2; omega)) (Fin.ext (by show (512 + k.val) % 256 = k.val % 256; omega)))

theorem dhs_at : DHS dx w hf hb gate gr (ix2 r k) = (row dx w ya hf hb gate gr ga r).dhs k := by
  unfold DHS
  pointwise
  rw [back_at, gelu_at]
  simp only [y_at dx w ya hf hb gate gr ga, gain_at, dr_at dx w ya hf hb gate gr ga]
  rfl

theorem dya_at : DYA dx w ya ga (ix3 0 r k) = (row dx w ya hf hb gate gr ga r).dya k := by
  unfold DYA
  pointwise
  rw [back_at]
  simp only [ya_at dx w ya hf hb gate gr ga, gain_at, da_at dx w ya hf hb gate gr ga]
  rfl

theorem dgr_at : DG (Y hf hb gate) (DR dx w) (ix2 0 k) = ∑ r : Fin 8192, (row dx w ya hf hb gate gr ga r).dr k * hat (row dx w ya hf hb gate gr ga r).y k := by
  rw [dg_at]
  simp only [y_at dx w ya hf hb gate gr ga, dr_at dx w ya hf hb gate gr ga]

theorem dga_at : DG (YA ya) (DA dx w) (ix2 0 k) = ∑ r : Fin 8192, (row dx w ya hf hb gate gr ga r).da k * hat (row dx w ya hf hb gate gr ga r).ya k := by
  rw [dg_at]
  simp only [ya_at dx w ya hf hb gate gr ga, da_at dx w ya hf hb gate gr ga]

theorem dw_at (j : Fin 4) (q : Fin 256) (e : Fin 1024) : DW mix dx (ix3 j q e) = ∑ r : Fin 8192, mix (ix2 r ⟨256 * j.val + q.val, by omega⟩) * dx (ix2 r e) := by
  unfold DW
  pointwise
  simp only [mul_comm (j.val) 256]

end

end Cert.Reference5Ideal.Mix

end
-- ==== Proof.Mix.Value.lean ====
/- The out-projection's backward call's results are its reference's. -/
module

public import proofs.«01_k».proof.Proof.Mix.Point
public import proofs.«01_k».proof.Proof.Mix.Ref
public import proofs.«01_k».proof.Proof.Gen.Kernel5Ideal.Value
public import proofs.«01_k».proof.Defs

@[expose] public section

set_option maxRecDepth 16384

noncomputable section

open Idealize.ShloMosaic Idealize.ShloMosaic.TcCoe Idealize.SL.Sem Idealize.ShloMosaic.StableHlo

namespace Cert.Mix

abbrev KMem := (ℓ : Loc Cert.Kernel5Ideal.nD Cert.Kernel5Ideal.τ Cert.Kernel5Ideal.sig) → Buf (Elt Ideal) ℓ
abbrev RMem := (ℓ : Loc Cert.Reference5Ideal.nD Cert.Reference5Ideal.τ Cert.Reference5Ideal.sig) → Buf (Elt Ideal) ℓ

/-- The two programs' arguments are the same. -/
def Same (m : KMem) (m' : RMem) (c : Dev Cert.Kernel5Ideal.nD) : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
  ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
  ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
  ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
  ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
  ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
  ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
  ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
  ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)

variable {m : KMem} {m' : RMem} {c : Dev Cert.Kernel5Ideal.nD}

/-- So are their rows. -/
theorem row_same (h : Same m m' c) (r : Fin 8192) :
    Cert.Reference5Ideal.Mix.row (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) r = Cert.Kernel5Ideal.Mix.R m c r := by
  obtain ⟨h0, h1, h2, h3, h4, h5, h6, h7, h8⟩ := h
  unfold Cert.Reference5Ideal.Mix.row Cert.Kernel5Ideal.Mix.R Cert.Kernel5Ideal.Mix.rowAt
  rw [← h0, ← h1, ← h3, ← h4, ← h5, ← h6, ← h7, ← h8]

theorem same9 (h : Same m m' c) : Cert.Reference5Ideal.Mix.DHS (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) = (Cert.Kernel5Ideal.Gen.dats m 0 c).arrAt 9 (Cert.Kernel5Ideal.cfgs 0).N := by
  rw [Cert.Kernel5Ideal.Mix.final9]
  funext j
  refine (congrArg _ (eq_ix2 j)).trans ((Cert.Reference5Ideal.Mix.dhs_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (j 0) (j 1)).trans ?_)
  exact congrArg (fun ρ : Row => ρ.dhs (j 1)) (row_same h (j 0))

theorem same11 (h : Same m m' c) : Cert.Reference5Ideal.Mix.DYA (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg8)) = (Cert.Kernel5Ideal.Gen.dats m 0 c).arrAt 11 (Cert.Kernel5Ideal.cfgs 0).N := by
  rw [Cert.Kernel5Ideal.Mix.final11]
  funext j
  refine (congrArg _ ((eq_ix3 j).trans (congrArg (fun a : Fin 1 => ix3 a (j 1) (j 2)) (Subsingleton.elim (α := Fin 1) (j 0) 0)))).trans ((Cert.Reference5Ideal.Mix.dya_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (j 1) (j 2)).trans ?_)
  exact congrArg (fun ρ : Row => ρ.dya (j 2)) (row_same h (j 1))

theorem same13 (h : Same m m' c) : Cert.Reference5Ideal.Mix.DW (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg0)) = (Cert.Kernel5Ideal.Gen.dats m 0 c).arrAt 13 (Cert.Kernel5Ideal.cfgs 0).N := by
  rw [Cert.Kernel5Ideal.Mix.final13]
  funext j
  obtain ⟨h0, _, h2, _⟩ := h
  rw [h0, h2]
  exact (congrArg _ (eq_ix3 j)).trans (Cert.Reference5Ideal.Mix.dw_at _ _ (j 0) (j 1) (j 2))

theorem same14 (h : Same m m' c) : Cert.Reference5Ideal.Mix.DG (Cert.Reference5Ideal.Mix.Y (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6))) (Cert.Reference5Ideal.Mix.DR (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))) = (Cert.Kernel5Ideal.Gen.dats m 0 c).arrAt 14 (Cert.Kernel5Ideal.cfgs 0).N := by
  rw [Cert.Kernel5Ideal.Mix.final14]
  funext j
  obtain ⟨k, rfl⟩ : ∃ k : Fin 512, j = ix2 0 k := ⟨j 1, (eq_ix2 j).trans (congrArg (fun a : Fin 1 => ix2 a (j 1)) (Subsingleton.elim (α := Fin 1) (j 0) 0))⟩
  refine (Cert.Reference5Ideal.Mix.dgr_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) k).trans (Finset.sum_congr rfl fun r _ => ?_)
  rw [row_same h]
  rfl

theorem same15 (h : Same m m' c) : Cert.Reference5Ideal.Mix.DG (Cert.Reference5Ideal.Mix.YA (m' ((c.tc : Thread Cert.Reference5Ideal.nD Cert.Reference5Ideal.τ).loc Cert.Reference5Ideal.main_arg3))) (Cert.Reference5Ideal.Mix.DA (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))) = (Cert.Kernel5Ideal.Gen.dats m 0 c).arrAt 15 (Cert.Kernel5Ideal.cfgs 0).N := by
  rw [Cert.Kernel5Ideal.Mix.final15]
  funext j
  obtain ⟨k, rfl⟩ : ∃ k : Fin 512, j = ix2 0 k := ⟨j 1, (eq_ix2 j).trans (congrArg (fun a : Fin 1 => ix2 a (j 1)) (Subsingleton.elim (α := Fin 1) (j 0) 0))⟩
  refine (Cert.Reference5Ideal.Mix.dga_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) k).trans (Finset.sum_congr rfl fun r _ => ?_)
  rw [row_same h]
  rfl

/-- The out-projection's backward call computes its reference. -/
theorem value : Cert.algebraic_Kernel5Ideal_Reference5Ideal := by
  intro m g m' g' _ hm
  refine ⟨fun c => (Cert.Kernel5Ideal.Gen.dats m 0 c).arrAt 9 (Cert.Kernel5Ideal.cfgs 0).N,
    fun c => (Cert.Kernel5Ideal.Gen.dats m 0 c).arrAt 11 (Cert.Kernel5Ideal.cfgs 0).N,
    fun c => (Cert.Kernel5Ideal.Gen.dats m 0 c).arrAt 13 (Cert.Kernel5Ideal.cfgs 0).N,
    fun c => (Cert.Kernel5Ideal.Gen.dats m 0 c).arrAt 14 (Cert.Kernel5Ideal.cfgs 0).N,
    fun c => (Cert.Kernel5Ideal.Gen.dats m 0 c).arrAt 15 (Cert.Kernel5Ideal.cfgs 0).N,
    (θ_run Cert.Kernel5Ideal.defs _ _).mono (fun r h c => ?_) (Cert.Kernel5Ideal.Value.run_blocks (F := Ideal) m g), ?_⟩
  · obtain ⟨h9, h10, h11, h12, h13, h14, h15, ha⟩ := h c
    exact ⟨h9, h11, h13, h14, h15, ha⟩
  · refine (θ_run Cert.Reference5Ideal.defs _ _).mono (fun r h c => ?_) (Cert.Reference5Ideal.Value.run (F := Ideal) m' g')
    obtain ⟨h0, h1, h2, h3, h4, ha⟩ := h c
    have s : Same m m' c := hm c
    exact ⟨h0.trans (same9 s), h1.trans (same11 s), h2.trans (same13 s), h3.trans (same14 s), h4.trans (same15 s), ha⟩

end Cert.Mix

end
-- ==== Proof.Proj.Row.lean ====
/- One element of the in-projection over the extended reals: the normalised row of the input, times a column of the weights. -/
module

public import Idealize.ShloMosaic.Lib.Pointwise

@[expose] public section

noncomputable section

open Idealize.ShloMosaic

namespace Cert.Proj

/-- 1024, as the float word that both programs hold. -/
abbrev width : EReal := Ideal.ofBits .f32 0x44800000#32

/-- The small number that keeps the root away from zero, as its float word. -/
abbrev eps : EReal := Ideal.ofBits .f32 897988541#32

/-- The row `x` over its root mean square, times the gain `g`, times the column `w`. -/
def entry (x g w : Fin 1024 → EReal) : EReal :=
  ∑ k, x k * Ideal.rsqrt (Ideal.div (∑ l, x l * x l) width + eps) * g k * w k

/-- Which shard of the weights column `f` lies in. -/
def part (f : Fin 2560) : Fin 4 := ⟨f.val / 640, by omega⟩

/-- Which column of that shard it is. -/
def within (f : Fin 2560) : Fin 640 := ⟨f.val % 640, by omega⟩

end Cert.Proj

end
-- ==== Proof.Proj.Tile.lean ====
/- The tile of the in-projection's call: what one grid point computes, element by element. -/
module

public import proofs.«01_k».proof.Proof.Gen.Kernel6Ideal.Skeleton
public import proofs.«01_k».proof.Proof.Proj.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel6Ideal.Proj
open Cert.Kernel6Ideal Cert.Kernel6Ideal.Gen Cert.Proj

/-- The projected rows. -/
def PROJ (x : FVec Ideal S512x1024 .f32) (g : FVec Ideal S1x1024 .f32) (w : FVec Ideal S1024x2560 .bf16) : FVec Ideal S512x2560 .f32 := k0_pay6 x g w

theorem proj_at (x : FVec Ideal S512x1024 .f32) (g : FVec Ideal S1x1024 .f32) (w : FVec Ideal S1024x2560 .bf16) (r : Fin 512) (f : Fin 2560) :
    PROJ x g w (ix2 r f) = entry (fun k => x (ix2 r k)) (fun k => g (ix2 0 k)) (fun k => w (ix2 k f)) := by
  unfold PROJ entry
  pointwise [k0_pay6]

/-- The recurrence's input. -/
def XR (x : FVec Ideal S512x1024 .f32) (g : FVec Ideal S1x1024 .f32) (w : FVec Ideal S1024x2560 .bf16) : FVec Ideal S512x512 .f32 := k0_pay7 x g w

/-- The gate. -/
def GATE (x : FVec Ideal S512x1024 .f32) (g : FVec Ideal S1x1024 .f32) (w : FVec Ideal S1024x2560 .bf16) : FVec Ideal S512x512 .f32 := k0_pay8 x g w

/-- The queries. -/
def Q (x : FVec Ideal S512x1024 .f32) (g : FVec Ideal S1x1024 .f32) (w : FVec Ideal S1024x2560 .bf16) : FVec Ideal S1x512x512 .bf16 := k0_pay10 x g w

/-- The keys. -/
def K (x : FVec Ideal S512x1024 .f32) (g : FVec Ideal S1x1024 .f32) (w : FVec Ideal S1024x2560 .bf16) : FVec Ideal S1x512x512 .bf16 := k0_pay88 (k0_pay6 x g w)

/-- The values. -/
def V (x : FVec Ideal S512x1024 .f32) (g : FVec Ideal S1x1024 .f32) (w : FVec Ideal S1024x2560 .bf16) : FVec Ideal S1x512x512 .bf16 := k0_pay164 (k0_pay6 x g w)

theorem xr_at (x : FVec Ideal S512x1024 .f32) (g : FVec Ideal S1x1024 .f32) (w : FVec Ideal S1024x2560 .bf16) (r q : Fin 512) :
    XR x g w (ix2 r q) = entry (fun k => x (ix2 r k)) (fun k => g (ix2 0 k)) (fun k => w (ix2 k ⟨q.val, by omega⟩)) := by
  refine Eq.trans ?_ (proj_at x g w r ⟨q.val, by omega⟩)
  unfold XR PROJ
  pointwise [k0_pay7]

theorem gate_at (x : FVec Ideal S512x1024 .f32) (g : FVec Ideal S1x1024 .f32) (w : FVec Ideal S1024x2560 .bf16) (r q : Fin 512) :
    GATE x g w (ix2 r q) = entry (fun k => x (ix2 r k)) (fun k => g (ix2 0 k)) (fun k => w (ix2 k ⟨512 + q.val, by omega⟩)) := by
  refine Eq.trans ?_ (proj_at x g w r ⟨512 + q.val, by omega⟩)
  unfold GATE PROJ
  pointwise [k0_pay8]

theorem q_at (x : FVec Ideal S512x1024 .f32) (g : FVec Ideal S1x1024 .f32) (w : FVec Ideal S1024x2560 .bf16) (r q : Fin 512) :
    Q x g w (ix3 0 r q) = entry (fun k => x (ix2 r k)) (fun k => g (ix2 0 k)) (fun k => w (ix2 k ⟨1024 + q.val, by omega⟩)) := by
  refine Eq.trans ?_ (proj_at x g w r ⟨1024 + q.val, by omega⟩)
  unfold Q PROJ
  pointwise [k0_pay10, k0_pay9]

theorem k_at (x : FVec Ideal S512x1024 .f32) (g : FVec Ideal S1x1024 .f32) (w : FVec Ideal S1024x2560 .bf16) (r q : Fin 512) :
    K x g w (ix3 0 r q) = entry (fun k => x (ix2 r k)) (fun k => g (ix2 0 k)) (fun k => w (ix2 k ⟨1536 + q.val, by omega⟩)) := by
  refine Eq.trans ?_ (proj_at x g w r ⟨1536 + q.val, by omega⟩)
  unfold K PROJ
  pointwise [k0_pay88, k0_pay87]

theorem v_at (x : FVec Ideal S512x1024 .f32) (g : FVec Ideal S1x1024 .f32) (w : FVec Ideal S1024x2560 .bf16) (r q : Fin 512) :
    V x g w (ix3 0 r q) = entry (fun k => x (ix2 r k)) (fun k => g (ix2 0 k)) (fun k => w (ix2 k ⟨2048 + q.val, by omega⟩)) := by
  refine Eq.trans ?_ (proj_at x g w r ⟨2048 + q.val, by omega⟩)
  unfold V PROJ
  pointwise [k0_pay164, k0_pay163]

/-- One shard of the stack of weights, as a block of the joined array. -/
theorem shard_at (v : FVec Ideal S1x1024x640 .bf16) (k : Fin 1024) (q : Fin 640) :
    k0_pay2 v (ix2 k q) = v (ix3 0 k q) ∧ k0_pay3 v (ix2 k q) = v (ix3 0 k q) ∧ k0_pay4 v (ix2 k q) = v (ix3 0 k q) ∧ k0_pay5 v (ix2 k q) = v (ix3 0 k q) := by
  refine ⟨?_, ?_, ?_, ?_⟩
  · pointwise [k0_pay2]
  · pointwise [k0_pay3]
  · pointwise [k0_pay4]
  · pointwise [k0_pay5]

end Cert.Kernel6Ideal.Proj

end
-- ==== Proof.Proj.Point.lean ====
/- The in-projection's call's result arrays: what its grid leaves in each, element by element. -/
module

public import proofs.«01_k».proof.Proof.Gen.Kernel6Ideal.Frame
public import proofs.«01_k».proof.Proof.Proj.Tile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Proj
open Cert.Kernel6Ideal Cert.Kernel6Ideal.Gen Cert.Proj

/-- Element `r`, `f` of the projected rows of the whole call. -/
def elem (x : FVec Ideal S8192x1024 .f32) (g : FVec Ideal S1x1024 .f32) (w : FVec Ideal S4x1024x640 .bf16) (r : Fin 8192) (f : Fin 2560) : EReal :=
  entry (fun k => x (ix2 r k)) (fun k => g (ix2 0 k)) (fun k => w (ix3 (part f) k (within f)))

/-- The shards of the weights side by side. -/
def full (w : FVec Ideal S4x1024x640 .bf16) : FVec Ideal S1024x2560 .bf16 := fun j => w (ix3 (part (j 1)) (j 0) (within (j 1)))

variable (m : (ℓ : Loc nD τ sig) → Buf (Elt Ideal) ℓ) (c : Dev nD)

/-- The same element on the arguments in memory. -/
def E (r : Fin 8192) (f : Fin 2560) : EReal :=
  elem (m ((c : Thread nD τ).loc main_arg0)) (m ((c : Thread nD τ).loc main_arg1)) (m ((c : Thread nD τ).loc main_arg2)) r f

/-- Which block each window is at, at every point. -/
theorem idx : ∀ t : Fin cfg0.N, win0_0.index t = ![t.val, 0] ∧ win0_1.index t = ![0, 0] ∧ win0_2.index t = ![0, 0, 0] ∧ win0_3.index t = ![t.val, 0]
    ∧ win0_4.index t = ![t.val, 0] ∧ win0_5.index t = ![0, t.val, 0] ∧ win0_8.index t = ![0, t.val, 0] ∧ win0_11.index t = ![0, t.val, 0] :=
  (by decide +kernel : ∀ t : Fin grid0.N, _)

theorem lt16 (t : Fin cfg0.N) : t.val < 16 := lt_of_lt_of_eq t.isLt N_0

/-- The joined weights of the arguments in memory. -/
def WF : FVec Ideal S1024x2560 .bf16 := full (m ((c : Thread nD τ).loc main_arg2))

/-- Every point reads the whole stack of weights. -/
theorem full_eq (t : Fin cfg0.N) : full (iblk m c 2 t) = WF m c := by
  funext j
  unfold full WF full
  generalize part (j 1) = p
  generalize within (j 1) = q
  blk_point [iblk, V, idx t]

/-- A point's element is the call's. -/
theorem elem_eq (t : Fin cfg0.N) (r : Fin 512) (f : Fin 2560) :
    entry (fun k => iblk m c 0 t (ix2 r k)) (fun k => iblk m c 1 t (ix2 0 k)) (fun k => WF m c (ix2 k f)) = E m c ⟨512 * t.val + r.val, by have := lt16 t; omega⟩ f := by
  unfold E elem
  refine congrArg₂ (fun a b => entry a b (fun k => WF m c (ix2 k f))) ?_ ?_
  · funext k; blk_point [iblk, V, idx t]
  · funext k; blk_point [iblk, V, idx t]

/-- The same, at indices whose values are the row's and the column's. -/
theorem elem_at (t : Fin cfg0.N) (r : Fin 512) (f f' : Fin 2560) (r' : Fin 8192) (h : r'.val = 512 * t.val + r.val) (hf : f'.val = f.val) :
    entry (fun k => iblk m c 0 t (ix2 r k)) (fun k => iblk m c 1 t (ix2 0 k)) (fun k => WF m c (ix2 k f)) = E m c r' f' := by
  rw [elem_eq]
  exact congrArg₂ (E m c) (Fin.ext h.symm) (Fin.ext hf.symm)

/-- A load through a rectangle, at an index it places. -/
theorem ld_at {S : Shape} {e : EltTy} (w : Vec Ideal S e) (off size : Fin S.rank → Nat) (inb : ∀ a, off a + size a ≤ S.size a) (x : (Rect.unit (s := S) off size inb).shape.Idx) (y : S.Idx)
    (h : ∀ a, (y a : ℕ) = off a + (x a : ℕ)) : View.ld (Val := Elt Ideal) (e' := e) w (Rect.unit (s := S) off size inb) x = w y := by
  show w ((Rect.unit (s := S) off size inb).emb x) = w y
  refine congrArg w (funext fun a => Fin.ext ?_)
  rw [Rect.emb_apply]
  show off a + 1 * (x a : ℕ) = _
  rw [h a, Nat.one_mul]

/-- The four stores that join the shards. -/
def pieces (v : FVec Ideal S4x1024x640 .bf16) : List (View.Piece (Elt Ideal) S1024x2560 .bf16) :=
  [⟨Rect.unit (s := S1024x2560) ![0, 1920] ![1024, 640] inb_S1024x2560_S1024x640_0_1920, k0_pay5 (F := Ideal) (View.ld (Val := Elt Ideal) v (Rect.unit (s := S4x1024x640) ![3, 0, 0] ![1, 1024, 640] inb_S4x1024x640_S1x1024x640_3_0_0))⟩,
   ⟨Rect.unit (s := S1024x2560) ![0, 1280] ![1024, 640] inb_S1024x2560_S1024x640_0_1280, k0_pay4 (F := Ideal) (View.ld (Val := Elt Ideal) v (Rect.unit (s := S4x1024x640) ![2, 0, 0] ![1, 1024, 640] inb_S4x1024x640_S1x1024x640_2_0_0))⟩,
   ⟨Rect.unit (s := S1024x2560) ![0, 640] ![1024, 640] inb_S1024x2560_S1024x640_0_640, k0_pay3 (F := Ideal) (View.ld (Val := Elt Ideal) v (Rect.unit (s := S4x1024x640) ![1, 0, 0] ![1, 1024, 640] inb_S4x1024x640_S1x1024x640_1_0_0))⟩,
   ⟨Rect.unit (s := S1024x2560) ![0, 0] ![1024, 640] inb_S1024x2560_S1024x640_0_0, k0_pay2 (F := Ideal) (View.ld (Val := Elt Ideal) v (Rect.unit (s := S4x1024x640) ![0, 0, 0] ![1, 1024, 640] inb_S4x1024x640_S1x1024x640_0_0_0))⟩]

/-- One shard's element of the joined weights. -/
theorem full_at (v : FVec Ideal S4x1024x640 .bf16) (y : S1024x2560.Idx) (x : S1024x640.Idx) (n : ℕ) (hn : n < 4) (h0 : (y 0 : ℕ) = x 0) (h1 : (y 1 : ℕ) = 640 * n + (x 1 : ℕ))
    (off size : Fin 3 → ℕ) (inb : ∀ a, off a + size a ≤ S4x1024x640.size a) (u : (Rect.unit (s := S4x1024x640) off size inb).shape.Idx)
    (hu0 : off 0 + (u 0 : ℕ) = n) (hu1 : off 1 + (u 1 : ℕ) = x 0) (hu2 : off 2 + (u 2 : ℕ) = x 1) :
    View.ld (Val := Elt Ideal) (e' := .bf16) v (Rect.unit (s := S4x1024x640) off size inb) u = full v y := by
  have hx : (x 1 : ℕ) < 640 := (x 1).isLt
  refine ld_at (e := .bf16) v off size inb u (ix3 (part (y 1)) (y 0) (within (y 1))) fun a => ?_
  match a with
  | 0 => show (y 1 : ℕ) / 640 = _; rw [hu0, h1]; omega
  | 1 => show (y 0 : ℕ) = _; rw [hu1, h0]
  | 2 => show (y 1 : ℕ) % 640 = _; rw [hu2, h1]; omega

/-- Together they store the joined weights. -/
theorem join (v : FVec Ideal S4x1024x640 .bf16) : View.canon (pieces v) = full v := by
  funext y
  unfold pieces
  canon_tiles x h
  · exact (congrArg _ (eq_ix2 x)).trans ((shard_at _ (x 0) (x 1)).2.2.2.trans (full_at v y x 3 (by decide) h0 (by omega) _ _ _ _ rfl (Nat.zero_add _) (Nat.zero_add _)))
  · exact (congrArg _ (eq_ix2 x)).trans ((shard_at _ (x 0) (x 1)).2.2.1.trans (full_at v y x 2 (by decide) h0 (by omega) _ _ _ _ rfl (Nat.zero_add _) (Nat.zero_add _)))
  · exact (congrArg _ (eq_ix2 x)).trans ((shard_at _ (x 0) (x 1)).2.1.trans (full_at v y x 1 (by decide) h0 (by omega) _ _ _ _ rfl (Nat.zero_add _) (Nat.zero_add _)))
  · exact (congrArg _ (eq_ix2 x)).trans ((shard_at _ (x 0) (x 1)).1.trans (full_at v y x 0 (by decide) h0 (by omega) _ _ _ _ rfl (Nat.zero_add _) (Nat.zero_add _)))

/-- A load of the whole array after them reads the joined weights. -/
theorem joined (b : View sig .tc .vmem S1024x2560 .bf16) (v : FVec Ideal S4x1024x640 .bf16) :
    b.readCov (pieces v) (Rect.unit (s := S1024x2560) ![0, 0] ![1024, 2560] inb_S1024x2560_S1024x2560_0_0).toLoadRect = full v := by
  rw [View.readCov_eq_canon', join]
  funext j
  refine congrArg (full v) (funext fun a => Fin.ext ?_)
  match a with
  | 0 => show 0 + 1 * (j 0 : ℕ) = _; omega
  | 1 => show 0 + 1 * (j 1 : ℕ) = _; omega

/-- The scratch array holds the joined weights after every point. -/
theorem scratch : ∀ (n : ℕ) (h : n < cfg0.N), (outsAt0 m c n h).2.2.2.2.2.2.2.2.2.2.2 = WF m c
  | 0, h => by
    rw [outsAt0_A m c ⟨0, h⟩ rfl]; frame_out
    exact (join _).trans (full_eq m c ⟨0, h⟩)
  | n + 1, h => by
    have hn : ¬ (n + 1) % 16 = 0 := by have := lt_of_lt_of_eq h N_0; omega
    rw [outsAt0_B m c ⟨n + 1, h⟩ hn]; frame_out
    exact scratch n _

theorem left3 (t : Fin cfg0.N) : (outsAt0 m c t.val t.isLt).1 = Proj.XR (iblk m c 0 t) (iblk m c 1 t) (WF m c) := by
  by_cases h : t.val % 16 = 0
  · rw [outsAt0_A m c t h]; frame_out
    exact congrArg (Proj.XR (iblk m c 0 t) (iblk m c 1 t)) ((joined _ _).trans (full_eq m c t))
  · rw [outsAt0_B m c t h]; frame_out
    simp only [read_unread_whole, scratch]
    rfl

theorem left4 (t : Fin cfg0.N) : (outsAt0 m c t.val t.isLt).2.1 = Proj.GATE (iblk m c 0 t) (iblk m c 1 t) (WF m c) := by
  by_cases h : t.val % 16 = 0
  · rw [outsAt0_A m c t h]; frame_out
    exact congrArg (Proj.GATE (iblk m c 0 t) (iblk m c 1 t)) ((joined _ _).trans (full_eq m c t))
  · rw [outsAt0_B m c t h]; frame_out
    simp only [read_unread_whole, scratch]
    rfl

theorem left5 (t : Fin cfg0.N) : (outsAt0 m c t.val t.isLt).2.2.1 = Proj.Q (iblk m c 0 t) (iblk m c 1 t) (WF m c) := by
  by_cases h : t.val % 16 = 0
  · rw [outsAt0_A m c t h]; frame_out
    exact congrArg (Proj.Q (iblk m c 0 t) (iblk m c 1 t)) ((joined _ _).trans (full_eq m c t))
  · rw [outsAt0_B m c t h]; frame_out
    simp only [read_unread_whole, scratch]
    rfl

theorem left8 (t : Fin cfg0.N) : (outsAt0 m c t.val t.isLt).2.2.2.2.2.1 = Proj.K (iblk m c 0 t) (iblk m c 1 t) (WF m c) := by
  by_cases h : t.val % 16 = 0
  · rw [outsAt0_A m c t h]; frame_out
    exact congrArg (Proj.K (iblk m c 0 t) (iblk m c 1 t)) ((joined _ _).trans (full_eq m c t))
  · rw [outsAt0_B m c t h]; frame_out
    simp only [read_unread_whole, scratch]
    rfl

theorem left11 (t : Fin cfg0.N) : (outsAt0 m c t.val t.isLt).2.2.2.2.2.2.2.2.1 = Proj.V (iblk m c 0 t) (iblk m c 1 t) (WF m c) := by
  by_cases h : t.val % 16 = 0
  · rw [outsAt0_A m c t h]; frame_out
    exact congrArg (Proj.V (iblk m c 0 t) (iblk m c 1 t)) ((joined _ _).trans (full_eq m c t))
  · rw [outsAt0_B m c t h]; frame_out
    simp only [read_unread_whole, scratch]
    rfl

theorem final3 : (dats m 0 c).arrAt 3 (cfgs 0).N = fun j => E m c (j 0) ⟨(j 1 : Fin 512).val, by omega⟩ := by
  refine (dats m 0 c).arrAt_eq_of_covers 3 _ (by decide +kernel) fun t hf y => ?_
  blk_simp
  rw [after0_3, left3]
  refine (congrArg _ (eq_ix2 y)).trans ((xr_at _ _ _ (y 0) (y 1)).trans (elem_at m c t (y 0) _ _ _ ?_ ?_))
  · blk_simp [idx t]
    rw [mul_comm]
  · blk_simp [idx t]

theorem final4 : (dats m 0 c).arrAt 4 (cfgs 0).N = fun j => E m c (j 0) ⟨512 + (j 1 : Fin 512).val, by omega⟩ := by
  refine (dats m 0 c).arrAt_eq_of_covers 4 _ (by decide +kernel) fun t hf y => ?_
  blk_simp
  rw [after0_4, left4]
  refine (congrArg _ (eq_ix2 y)).trans ((gate_at _ _ _ (y 0) (y 1)).trans (elem_at m c t (y 0) _ _ _ ?_ ?_))
  · blk_simp [idx t]
    rw [mul_comm]
  · blk_simp [idx t]

theorem final5 : (dats m 0 c).arrAt 5 (cfgs 0).N = fun j => E m c (j 1) ⟨1024 + (j 2 : Fin 512).val, by omega⟩ := by
  refine (dats m 0 c).arrAt_eq_of_covers 5 _ (by decide +kernel) fun t hf y => ?_
  blk_simp
  rw [after0_5, left5]
  refine (congrArg _ ((eq_ix3 y).trans (congrArg (fun a : Fin 1 => ix3 a (y 1) (y 2)) (Subsingleton.elim (α := Fin 1) (y 0) 0)))).trans ((q_at _ _ _ (y 1) (y 2)).trans (elem_at m c t (y 1) _ _ _ ?_ ?_))
  · blk_simp [idx t]
    rw [mul_comm]
  · blk_simp [idx t]

theorem final8 : (dats m 0 c).arrAt 8 (cfgs 0).N = fun j => E m c (j 1) ⟨1536 + (j 2 : Fin 512).val, by omega⟩ := by
  refine (dats m 0 c).arrAt_eq_of_covers 8 _ (by decide +kernel) fun t hf y => ?_
  blk_simp
  rw [after0_8, left8]
  refine (congrArg _ ((eq_ix3 y).trans (congrArg (fun a : Fin 1 => ix3 a (y 1) (y 2)) (Subsingleton.elim (α := Fin 1) (y 0) 0)))).trans ((k_at _ _ _ (y 1) (y 2)).trans (elem_at m c t (y 1) _ _ _ ?_ ?_))
  · blk_simp [idx t]
    rw [mul_comm]
  · blk_simp [idx t]

theorem final11 : (dats m 0 c).arrAt 11 (cfgs 0).N = fun j => E m c (j 1) ⟨2048 + (j 2 : Fin 512).val, by omega⟩ := by
  refine (dats m 0 c).arrAt_eq_of_covers 11 _ (by decide +kernel) fun t hf y => ?_
  blk_simp
  rw [after0_11, left11]
  refine (congrArg _ ((eq_ix3 y).trans (congrArg (fun a : Fin 1 => ix3 a (y 1) (y 2)) (Subsingleton.elim (α := Fin 1) (y 0) 0)))).trans ((v_at _ _ _ (y 1) (y 2)).trans (elem_at m c t (y 1) _ _ _ ?_ ?_))
  · blk_simp [idx t]
    rw [mul_comm]
  · blk_simp [idx t]

end Cert.Kernel6Ideal.Proj

end
-- ==== Proof.Proj.Ref.lean ====
/- The reference of the in-projection's call, element by element. -/
module

public import proofs.«01_k».proof.Proof.Proj.Row
public import proofs.«01_k».proof.Proof.Gen.Reference6Ideal
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference6Ideal.Proj
open Cert.Reference6Ideal Cert.Reference6Ideal.Gen Cert.Proj

/-- The normalised rows. -/
def H (x : FVec Ideal S8192x1024 .f32) (g : FVec Ideal S1x1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)) bitsLt_bf16_f32

/-- The shards of the weights side by side. -/
def W (w : FVec Ideal S4x1024x640 .bf16) : FVec Ideal S1024x2560 .bf16 :=
  shapeCast _ (transpose S1024x4x640 [1, 0, 2] w transposes_S4x1024x640_S1024x4x640_1_0_2) shapeCasts_S1024x4x640_S1024x2560

/-- The projected rows. -/
def PROJ (x : FVec Ideal S8192x1024 .f32) (g : FVec Ideal S1x1024 .f32) (w : FVec Ideal S4x1024x640 .bf16) : FVec Ideal S8192x2560 .f32 :=
  Host.dotGeneral dot_S8192x1024_S1024x2560_S8192x2560_1_0_0_1_n_n none (H x g) (W w)

theorem h_at (x : FVec Ideal S8192x1024 .f32) (g : FVec Ideal S1x1024 .f32) (r : Fin 8192) (k : Fin 1024) :
    H x g (ix2 r k) = x (ix2 r k) * Ideal.rsqrt (Ideal.div (∑ l, x (ix2 r l) * x (ix2 r l)) width + eps) * g (ix2 0 k) := by
  unfold H
  pointwise []

theorem w_at (w : FVec Ideal S4x1024x640 .bf16) (k : Fin 1024) (f : Fin 2560) : W w (ix2 k f) = w (ix3 (part f) k (within f)) := by
  unfold W
  pointwise []
  refine congrArg w (funext fun a => Fin.ext ?_)
  match a with
  | 0 => show _ = f.val / 640; first | omega | (simp; omega) | simp
  | 1 => show _ = k.val; first | omega | (simp; omega) | simp
  | 2 => show _ = f.val % 640; first | omega | (simp; omega) | simp

theorem proj_at (x : FVec Ideal S8192x1024 .f32) (g : FVec Ideal S1x1024 .f32) (w : FVec Ideal S4x1024x640 .bf16) (r : Fin 8192) (f : Fin 2560) :
    PROJ x g w (ix2 r f) = entry (fun k => x (ix2 r k)) (fun k => g (ix2 0 k)) (fun k => w (ix3 (part f) k (within f))) := by
  unfold PROJ entry
  pointwise []
  simp only [h_at, w_at]

/-- A block of 512 columns of the projected rows. -/
theorem slice_at (x : FVec Ideal S8192x1024 .f32) (g : FVec Ideal S1x1024 .f32) (w : FVec Ideal S4x1024x640 .bf16) (r : Fin 8192) (q : Fin 512) :
    (extractStridedSlice S8192x512 ![0, 0] (PROJ x g w) slices_S8192x2560_S8192x512_0_0 (ix2 r q) = PROJ x g w (ix2 r ⟨q.val, by omega⟩)
    ∧ extractStridedSlice S8192x512 ![0, 512] (PROJ x g w) slices_S8192x2560_S8192x512_0_512 (ix2 r q) = PROJ x g w (ix2 r ⟨512 + q.val, by omega⟩))
    ∧ broadcastInDim S1x8192x512 ![1, 2] bcast_S8192x512_S1x8192x512_1_2 (truncf .bf16 (extractStridedSlice S8192x512 ![0, 1024] (PROJ x g w) slices_S8192x2560_S8192x512_0_1024) bitsLt_bf16_f32) (ix3 0 r q) = PROJ x g w (ix2 r ⟨1024 + q.val, by omega⟩)
    ∧ broadcastInDim S1x8192x512 ![1, 2] bcast_S8192x512_S1x8192x512_1_2 (truncf .bf16 (extractStridedSlice S8192x512 ![0, 1536] (PROJ x g w) slices_S8192x2560_S8192x512_0_1536) bitsLt_bf16_f32) (ix3 0 r q) = PROJ x g w (ix2 r ⟨1536 + q.val, by omega⟩)
    ∧ broadcastInDim S1x8192x512 ![1, 2] bcast_S8192x512_S1x8192x512_1_2 (truncf .bf16 (extractStridedSlice S8192x512 ![0, 2048] (PROJ x g w) slices_S8192x2560_S8192x512_0_2048) bitsLt_bf16_f32) (ix3 0 r q) = PROJ x g w (ix2 r ⟨2048 + q.val, by omega⟩) := by
  refine ⟨⟨?_, ?_⟩, ?_, ?_, ?_⟩ <;> pointwise []

end Cert.Reference6Ideal.Proj

end
-- ==== Proof.Proj.Value.lean ====
/- The in-projection's call's results are its reference's. -/
module

public import proofs.«01_k».proof.Proof.Proj.Point
public import proofs.«01_k».proof.Proof.Proj.Ref
public import proofs.«01_k».proof.Proof.Gen.Kernel6Ideal.Value
public import proofs.«01_k».proof.Proof.Gen.Reference6Ideal.Run
public import proofs.«01_k».proof.Defs

@[expose] public section

set_option maxRecDepth 16384

noncomputable section

open Idealize.ShloMosaic Idealize.ShloMosaic.TcCoe Idealize.SL.Sem Idealize.ShloMosaic.StableHlo

namespace Cert.Proj
open Cert.Reference6Ideal Cert.Reference6Ideal.Gen Cert.Reference6Ideal.Proj

abbrev KMem := (ℓ : Loc Cert.Kernel6Ideal.nD Cert.Kernel6Ideal.τ Cert.Kernel6Ideal.sig) → Buf (Elt Ideal) ℓ
abbrev RMem := (ℓ : Loc Cert.Reference6Ideal.nD Cert.Reference6Ideal.τ Cert.Reference6Ideal.sig) → Buf (Elt Ideal) ℓ

/-- The two programs' arguments are the same. -/
def Same (m : KMem) (m' : RMem) (c : Dev Cert.Kernel6Ideal.nD) : Prop :=
  m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
  ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
  ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)

variable {m : KMem} {m' : RMem} {c : Dev Cert.Kernel6Ideal.nD}

/-- So are their projected rows. -/
theorem elem_same (h : Same m m' c) (r : Fin 8192) (f : Fin 2560) : (PROJ (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (ix2 r f) = Cert.Kernel6Ideal.Proj.E m c r f := by
  obtain ⟨h0, h1, h2⟩ := h
  refine (proj_at _ _ _ r f).trans ?_
  unfold Cert.Kernel6Ideal.Proj.E Cert.Kernel6Ideal.Proj.elem
  rw [← h0, ← h1, ← h2]

theorem same3 (h : Same m m' c) : extractStridedSlice S8192x512 ![0, 0] (PROJ (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) slices_S8192x2560_S8192x512_0_0 = (Cert.Kernel6Ideal.Gen.dats m 0 c).arrAt 3 (Cert.Kernel6Ideal.cfgs 0).N := by
  rw [Cert.Kernel6Ideal.Proj.final3]
  funext j
  exact (congrArg _ (eq_ix2 j)).trans ((slice_at _ _ _ (j 0) (j 1)).1.1.trans (elem_same h _ _))

theorem same4 (h : Same m m' c) : extractStridedSlice S8192x512 ![0, 512] (PROJ (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) slices_S8192x2560_S8192x512_0_512 = (Cert.Kernel6Ideal.Gen.dats m 0 c).arrAt 4 (Cert.Kernel6Ideal.cfgs 0).N := by
  rw [Cert.Kernel6Ideal.Proj.final4]
  funext j
  exact (congrArg _ (eq_ix2 j)).trans ((slice_at _ _ _ (j 0) (j 1)).1.2.trans (elem_same h _ _))

theorem same5 (h : Same m m' c) : broadcastInDim S1x8192x512 ![1, 2] bcast_S8192x512_S1x8192x512_1_2 (truncf .bf16 (extractStridedSlice S8192x512 ![0, 1024] (PROJ (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) slices_S8192x2560_S8192x512_0_1024) bitsLt_bf16_f32) = (Cert.Kernel6Ideal.Gen.dats m 0 c).arrAt 5 (Cert.Kernel6Ideal.cfgs 0).N := by
  rw [Cert.Kernel6Ideal.Proj.final5]
  funext j
  exact (congrArg _ ((eq_ix3 j).trans (congrArg (fun a : Fin 1 => ix3 a (j 1) (j 2)) (Subsingleton.elim (α := Fin 1) (j 0) 0)))).trans ((slice_at _ _ _ (j 1) (j 2)).2.1.trans (elem_same h _ _))

theorem same8 (h : Same m m' c) : broadcastInDim S1x8192x512 ![1, 2] bcast_S8192x512_S1x8192x512_1_2 (truncf .bf16 (extractStridedSlice S8192x512 ![0, 1536] (PROJ (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) slices_S8192x2560_S8192x512_0_1536) bitsLt_bf16_f32) = (Cert.Kernel6Ideal.Gen.dats m 0 c).arrAt 8 (Cert.Kernel6Ideal.cfgs 0).N := by
  rw [Cert.Kernel6Ideal.Proj.final8]
  funext j
  exact (congrArg _ ((eq_ix3 j).trans (congrArg (fun a : Fin 1 => ix3 a (j 1) (j 2)) (Subsingleton.elim (α := Fin 1) (j 0) 0)))).trans ((slice_at _ _ _ (j 1) (j 2)).2.2.1.trans (elem_same h _ _))

theorem same11 (h : Same m m' c) : broadcastInDim S1x8192x512 ![1, 2] bcast_S8192x512_S1x8192x512_1_2 (truncf .bf16 (extractStridedSlice S8192x512 ![0, 2048] (PROJ (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) slices_S8192x2560_S8192x512_0_2048) bitsLt_bf16_f32) = (Cert.Kernel6Ideal.Gen.dats m 0 c).arrAt 11 (Cert.Kernel6Ideal.cfgs 0).N := by
  rw [Cert.Kernel6Ideal.Proj.final11]
  funext j
  exact (congrArg _ ((eq_ix3 j).trans (congrArg (fun a : Fin 1 => ix3 a (j 1) (j 2)) (Subsingleton.elim (α := Fin 1) (j 0) 0)))).trans ((slice_at _ _ _ (j 1) (j 2)).2.2.2.trans (elem_same h _ _))

/-- The in-projection's call computes its reference. -/
theorem value : Cert.algebraic_Kernel6Ideal_Reference6Ideal := by
  intro m g m' g' _ hm
  refine ⟨fun c => (Cert.Kernel6Ideal.Gen.dats m 0 c).arrAt 3 (Cert.Kernel6Ideal.cfgs 0).N,
    fun c => (Cert.Kernel6Ideal.Gen.dats m 0 c).arrAt 4 (Cert.Kernel6Ideal.cfgs 0).N,
    fun c => (Cert.Kernel6Ideal.Gen.dats m 0 c).arrAt 5 (Cert.Kernel6Ideal.cfgs 0).N,
    fun c => (Cert.Kernel6Ideal.Gen.dats m 0 c).arrAt 8 (Cert.Kernel6Ideal.cfgs 0).N,
    fun c => (Cert.Kernel6Ideal.Gen.dats m 0 c).arrAt 11 (Cert.Kernel6Ideal.cfgs 0).N,
    (θ_run Cert.Kernel6Ideal.defs _ _).mono (fun r h c => ?_) (Cert.Kernel6Ideal.Value.run_blocks (F := Ideal) m g), ?_⟩
  · obtain ⟨h3, h4, h5, h6, h7, h8, h9, h10, h11, h12, h13, ha⟩ := h c
    exact ⟨h3, h4, h5, h8, h11, ha⟩
  · refine (θ_run Cert.Reference6Ideal.defs _ _).mono (fun r h c => ?_) (Cert.Reference6Ideal.Value.run (F := Ideal) m' g')
    obtain ⟨h0, h1, h2, h3, h4, ha⟩ := h c
    have s : Same m m' c := hm c
    exact ⟨h0.trans (same3 s), h1.trans (same4 s), h2.trans (same5 s), h3.trans (same8 s), h4.trans (same11 s), ha⟩

end Cert.Proj

end
-- ==== Proof.Adam.Matrices.lean ====
/- The optimiser's calls on the matrices: each result is AdamW's formula of the arrays, element by element. -/
module

public import proofs.«01_k».proof.Defs
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run

@[expose] public section

noncomputable section

open Idealize.ShloMosaic Idealize.ShloMosaic.TcCoe Idealize.SL.Sem

namespace Cert.Adam

/-- The call on `w_in`: the step, the new mean and the new mean square are the reference's. -/
theorem value8 : Cert.algebraic_Kernel8Ideal_Reference8Ideal := by
  intro m g m' g' _ hm
  refine ⟨_, _, _, Cert.Kernel8Ideal.Value.run (F := Ideal) m g, ?_⟩
  refine (θ_run Cert.Reference8Ideal.defs _ _).mono (fun r h c => ?_) (Cert.Reference8Ideal.Value.run (F := Ideal) m' g')
  obtain ⟨h0, h1, h2, ha⟩ := h c
  obtain ⟨e0, e1, e2, e3⟩ := hm c
  exact ⟨h0.trans (by rw [e0, e1, e2, e3]; rfl), h1.trans (by rw [e1, e2]; rfl), h2.trans (by rw [e1, e3]; rfl), ha⟩

/-- The call on `w_out`: the step, the new mean and the new mean square are the reference's. -/
theorem value9 : Cert.algebraic_Kernel9Ideal_Reference9Ideal := by
  intro m g m' g' _ hm
  refine ⟨_, _, _, Cert.Kernel9Ideal.Value.run (F := Ideal) m g, ?_⟩
  refine (θ_run Cert.Reference9Ideal.defs _ _).mono (fun r h c => ?_) (Cert.Reference9Ideal.Value.run (F := Ideal) m' g')
  obtain ⟨h0, h1, h2, ha⟩ := h c
  obtain ⟨e0, e1, e2, e3⟩ := hm c
  exact ⟨h0.trans (by rw [e0, e1, e2, e3]; rfl), h1.trans (by rw [e1, e2]; rfl), h2.trans (by rw [e1, e3]; rfl), ha⟩

/-- The call on `w_up`: the step, the new mean and the new mean square are the reference's. -/
theorem value10 : Cert.algebraic_Kernel10Ideal_Reference10Ideal := by
  intro m g m' g' _ hm
  refine ⟨_, _, _, Cert.Kernel10Ideal.Value.run (F := Ideal) m g, ?_⟩
  refine (θ_run Cert.Reference10Ideal.defs _ _).mono (fun r h c => ?_) (Cert.Reference10Ideal.Value.run (F := Ideal) m' g')
  obtain ⟨h0, h1, h2, ha⟩ := h c
  obtain ⟨e0, e1, e2, e3⟩ := hm c
  exact ⟨h0.trans (by rw [e0, e1, e2, e3]; rfl), h1.trans (by rw [e1, e2]; rfl), h2.trans (by rw [e1, e3]; rfl), ha⟩

end Cert.Adam

end
-- ==== Proof.Bias.Flip.lean ====
/- The matrix that turns the rows of a tile over, entry by entry. -/
module

public import proofs.«01_k».proof.Kernel17Ideal

@[expose] public section

set_option maxRecDepth 16384

noncomputable section

open Idealize.ShloMosaic Idealize.ShloMosaic.TcCoe Idealize.SL.Sem

namespace Cert.Kernel17Ideal.Bias
open Cert.Kernel17Ideal

/-- Its entry is one where the row and the column add to 127, and zero elsewhere. -/
theorem flip_bits : ∀ i : Fin 16384, lit0 i = if i.val / 128 + i.val % 128 = 127 then 0x3f800000#32 else 0#32 := by decide +kernel

end Cert.Kernel17Ideal.Bias

end
-- ==== Proof.Bias.Value.lean ====
/- The gradient of the attention's bias: the diagonals of the logits' gradients against the bucket tables, in the call and in its reference. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import proofs.«01_k».proof.Defs
public import proofs.«01_k».proof.Proof.Bias.Flip

@[expose] public section

set_option maxRecDepth 16384

noncomputable section

open Idealize.ShloMosaic Idealize.ShloMosaic.TcCoe Idealize.SL.Sem

namespace Cert.Bias

/-- One dilation's gradient at one head and one bucket: the diagonal sums against the bucket's column. -/
def total (x : (⟨3, ![8, 128, 256]⟩ : Shape).Idx → EReal) (b : (⟨2, ![129, 32]⟩ : Shape).Idx → EReal) (h : Fin 8) (n : Fin 32) : EReal :=
  ∑ j : Fin 129, (∑ q : Fin 128, x (ix3 h q ⟨q.val + j.val, by omega⟩)) * b (ix2 j n)

end Cert.Bias

namespace Cert.Reference17Ideal.Bias
open Cert.Reference17Ideal Cert.Reference17Ideal.Gen

/-- The start index a gather of the two coordinates reads. -/
theorem sel_at (h : Fin 8) (q : Fin 128) (j : Fin 129) (k : Fin 2) :
    gather_S8x128x256_S128x129x2_S8x128x129_0_12_n_n_12_2_811.siIdx (ix3 h q j) k = ix3 q j k := by
  funext b
  refine Fin.ext ?_
  match b with
  | 0 => rfl
  | 1 => rfl
  | 2 => rfl

/-- The gather at an index: the operand at the two coordinates, each held inside its axis. -/
theorem gath (x : FVec Ideal S8x128x256 .f32) (i : IVec S128x129x2 32) (h : Fin 8) (q : Fin 128) (j : Fin 129) :
    Host.gather gather_S8x128x256_S128x129x2_S8x128x129_0_12_n_n_12_2_811 x i (ix3 h q j)
      = x (ix3 h ⟨min (i (ix3 q j 0)).toInt.toNat 127, by omega⟩ ⟨min (i (ix3 q j 1)).toInt.toNat 255, by omega⟩) := by
  unfold Host.gather
  congr 1
  funext a
  refine Fin.ext ?_
  show gather_S8x128x256_S128x129x2_S8x128x129_0_12_n_n_12_2_811.start (ix3 h q j) i a + gather_S8x128x256_S128x129x2_S8x128x129_0_12_n_n_12_2_811.batchCoord (ix3 h q j) a
    + gather_S8x128x256_S128x129x2_S8x128x129_0_12_n_n_12_2_811.offCoord (ix3 h q j) a = _
  rw [GatherDims.batchCoord_eq_zero _ _ _ List.not_mem_nil, Nat.add_zero]
  match a with
  | 0 =>
    unfold GatherDims.start
    rw [dif_neg (show (0 : Fin 3) ∉ gather_S8x128x256_S128x129x2_S8x128x129_0_12_n_n_12_2_811.startIndexMap from (by decide : (0 : Fin 3) ∉ ([1, 2] : List (Fin 3)))), Nat.zero_add]
    unfold GatherDims.offCoord
    rw [dif_pos ((GatherDims.mem_sKept _ _).mpr ⟨show (0 : Fin 3) ∉ ([1, 2] : List (Fin 3)) by decide, List.not_mem_nil⟩)]
    rfl
  | 1 =>
    rw [GatherDims.offCoord_eq_zero _ _ _ (fun e => ((GatherDims.mem_sKept _ _).mp e).1 (show (1 : Fin 3) ∈ ([1, 2] : List (Fin 3)) by decide)), Nat.add_zero]
    unfold GatherDims.start
    rw [dif_pos (show (1 : Fin 3) ∈ gather_S8x128x256_S128x129x2_S8x128x129_0_12_n_n_12_2_811.startIndexMap from (by decide : (1 : Fin 3) ∈ ([1, 2] : List (Fin 3))))]
    exact congrArg (fun w => min (i w).toInt.toNat 127) (sel_at h q j 0)
  | 2 =>
    rw [GatherDims.offCoord_eq_zero _ _ _ (fun e => ((GatherDims.mem_sKept _ _).mp e).1 (show (2 : Fin 3) ∈ ([1, 2] : List (Fin 3)) by decide)), Nat.add_zero]
    unfold GatherDims.start
    rw [dif_pos (show (2 : Fin 3) ∈ gather_S8x128x256_S128x129x2_S8x128x129_0_12_n_n_12_2_811.startIndexMap from (by decide : (2 : Fin 3) ∈ ([1, 2] : List (Fin 3))))]
    exact congrArg (fun w => min (i w).toInt.toNat 255) (sel_at h q j 1)

/-- The reference's index array: the query and the query plus the offset. -/
def at_ : IVec S128x129x2 32 := (concatenate S128x129x2 2 [⟨S128x129x1, (broadcastInDim S128x129x1 ![0, 1] bcast_S128x129_S128x129x1_0_1 (broadcastInDim S128x129 ![0, 1] bcast_S128x1_S128x129_0_1 (select (cmpi .slt (broadcastInDim S128x1 ![0] bcast_S128_S128x1_0 (iotaInDim S128 32 0)) (broadcastInDim S128x1 ![] bcast_S_S128x1 (constantI S_ 32 0#32))) (addi (broadcastInDim S128x1 ![0] bcast_S128_S128x1_0 (iotaInDim S128 32 0)) (broadcastInDim S128x1 ![] bcast_S_S128x1 (constantI S_ 32 128#32))) (broadcastInDim S128x1 ![0] bcast_S128_S128x1_0 (iotaInDim S128 32 0)))))⟩, ⟨S128x129x1, (broadcastInDim S128x129x1 ![0, 1] bcast_S128x129_S128x129x1_0_1 (select (cmpi .slt (addi (broadcastInDim S128x129 ![0, 1] bcast_S128x1_S128x129_0_1 (broadcastInDim S128x1 ![0] bcast_S128_S128x1_0 (iotaInDim S128 32 0))) (broadcastInDim S128x129 ![0, 1] bcast_S1x129_S128x129_0_1 (broadcastInDim S1x129 ![1] bcast_S129_S1x129_1 (iotaInDim S129 32 0)))) (broadcastInDim S128x129 ![] bcast_S_S128x129 (constantI S_ 32 0#32))) (addi (addi (broadcastInDim S128x129 ![0, 1] bcast_S128x1_S128x129_0_1 (broadcastInDim S128x1 ![0] bcast_S128_S128x1_0 (iotaInDim S128 32 0))) (broadcastInDim S128x129 ![0, 1] bcast_S1x129_S128x129_0_1 (broadcastInDim S1x129 ![1] bcast_S129_S1x129_1 (iotaInDim S129 32 0)))) (broadcastInDim S128x129 ![] bcast_S_S128x129 (constantI S_ 32 256#32))) (addi (broadcastInDim S128x129 ![0, 1] bcast_S128x1_S128x129_0_1 (broadcastInDim S128x1 ![0] bcast_S128_S128x1_0 (iotaInDim S128 32 0))) (broadcastInDim S128x129 ![0, 1] bcast_S1x129_S128x129_0_1 (broadcastInDim S1x129 ![1] bcast_S129_S1x129_1 (iotaInDim S129 32 0))))))⟩] concatenates_S128x129x1_S128x129x1_S128x129x2_d2)

/-- A small count as a word is not below zero, so the wrap of a negative index leaves it. -/
theorem word (n k : Nat) (h : n < 2 ^ 31) :
    (Scalar.select (Scalar.cmpi .slt (BitVec.ofNat 32 n) 0#32) (Scalar.addi (BitVec.ofNat 32 n) (BitVec.ofNat 32 k)) (BitVec.ofNat 32 n)).toInt.toNat = n := by
  have hn : (BitVec.ofNat 32 n).toInt = n := by
    rw [BitVec.toInt_ofNat']
    exact Int.bmod_eq_of_le (by omega) (by omega)
  have hs : Scalar.cmpi .slt (BitVec.ofNat 32 n) 0#32 = 0#1 := by
    show BitVec.ofBool ((BitVec.ofNat 32 n).slt 0#32) = 0#1
    have : (BitVec.ofNat 32 n).slt 0#32 = false := by
      rw [BitVec.slt, hn]
      simp
    rw [this]; rfl
  rw [hs]
  show (BitVec.ofNat 32 n).toInt.toNat = n
  rw [hn]; rfl

/-- The first coordinate is the query. -/
theorem at_0 (q : Fin 128) (j : Fin 129) : (at_ (ix3 q j 0)).toInt.toNat = q.val := word q.val 128 (by omega)
/-- The second coordinate is the query plus the offset. -/
theorem at_1 (q : Fin 128) (j : Fin 129) : (at_ (ix3 q j 1)).toInt.toNat = q.val + j.val := by
  have : at_ (ix3 q j 1) = Scalar.select (Scalar.cmpi .slt (BitVec.ofNat 32 (q.val + j.val)) 0#32) (Scalar.addi (BitVec.ofNat 32 (q.val + j.val)) (BitVec.ofNat 32 256)) (BitVec.ofNat 32 (q.val + j.val)) := by
    rw [BitVec.ofNat_add]; rfl
  rw [this]
  exact word _ 256 (by omega)

/-- One dilation's part of the reference, at one element. -/
theorem one (x : FVec Ideal S8x128x256 .f32) (b : FVec Ideal S129x32 .f32) (h : Fin 8) (n : Fin 32) :
    Host.dotGeneral dot_S8x129_S129x32_S8x32_1_0_0_1_n_n none (Host.reduceAdd (Host.gather gather_S8x128x256_S128x129x2_S8x128x129_0_12_n_n_12_2_811 x at_) (constant S_ .f32 0x00000000#32) reducesTo_S8x128x129_S8x129_d1 h_S_ : FVec Ideal S8x129 .f32) b (ix2 h n)
      = Cert.Bias.total x b h n := by
  unfold Cert.Bias.total
  have hg : ∀ j : Fin 129, (Host.reduceAdd (Host.gather gather_S8x128x256_S128x129x2_S8x128x129_0_12_n_n_12_2_811 x at_) (constant S_ .f32 0x00000000#32) reducesTo_S8x128x129_S8x129_d1 h_S_ : FVec Ideal S8x129 .f32) (ix2 h j) = ∑ q : Fin 128, x (ix3 h q ⟨q.val + j.val, by omega⟩) := by
    intro j
    generalize hG : Host.gather gather_S8x128x256_S128x129x2_S8x128x129_0_12_n_n_12_2_811 x at_ = G
    pointwise
    refine Finset.sum_congr rfl fun q _ => ?_
    have := congrFun hG (ix3 h q j)
    refine this.symm.trans ?_
    rw [gath]
    refine congrArg x ?_
    funext a
    refine Fin.ext ?_
    match a with
    | 0 => rfl
    | 1 => show min (at_ (ix3 q j 0)).toInt.toNat 127 = q.val; rw [at_0]; omega
    | 2 => show min (at_ (ix3 q j 1)).toInt.toNat 255 = q.val + j.val; rw [at_1]; omega
  generalize (Host.reduceAdd (Host.gather gather_S8x128x256_S128x129x2_S8x128x129_0_12_n_n_12_2_811 x at_) (constant S_ .f32 0x00000000#32) reducesTo_S8x128x129_S8x129_d1 h_S_ : FVec Ideal S8x129 .f32) = S at hg
  pointwise
  exact Finset.sum_congr rfl fun j _ => by rw [← hg]

variable (m : (ℓ : Loc nD τ sig) → Buf (Elt Ideal) ℓ) (c : Dev nD)

/-- The reference's result, at one element. -/
theorem res_at (h : Fin 8) (n : Fin 32) : Cert.Reference17Ideal.Value.res_main_v65 (F := Ideal) m c (ix2 h n)
    = Cert.Bias.total (m ((c.tc : Thread nD τ).loc main_arg0)) (m ((c.tc : Thread nD τ).loc main_arg3)) h n
      + Cert.Bias.total (m ((c.tc : Thread nD τ).loc main_arg1)) (m ((c.tc : Thread nD τ).loc main_arg4)) h n
      + Cert.Bias.total (m ((c.tc : Thread nD τ).loc main_arg2)) (m ((c.tc : Thread nD τ).loc main_arg5)) h n :=
  congrArg₂ (· + ·) (congrArg₂ (· + ·) (one _ _ h n) (one _ _ h n)) (one _ _ h n)

end Cert.Reference17Ideal.Bias

namespace Cert.Kernel17Ideal.Bias
open Cert.Kernel17Ideal Cert.Kernel17Ideal.Gen Cert.Kernel17Ideal.Value

/-- One head's row. -/
theorem row_at (f : FVec Ideal S128x128 .f32) (d : FVec Ideal S1x128x256 .f32) (k : Fin 256) :
    k0_pay3 (F := Ideal) f d (ix2 0 k) = ∑ p : Fin 128, ∑ q : Fin 128, f (ix2 p q) * d (ix3 0 q ⟨(k.val + 256 - p.val % 256) % 256, Nat.mod_lt _ (by decide)⟩) := by
  pointwise [k0_pay3]

/-- What one dilation adds: the eight heads' rows against the table. -/
def step (acc : FVec Ideal S8x32 .f32) (f : FVec Ideal S128x128 .f32) (d : Fin 8 → FVec Ideal S1x128x256 .f32) (w : FVec Ideal S1x256x32 .f32) : FVec Ideal S8x32 .f32 :=
  addf acc (matmul dot_S8x256_S256x32_S8x32_1_0_0_1_n_n (some .fp32) (concatenate S8x256 0 [⟨S1x256, k0_pay3 f (d 0)⟩, ⟨S1x256, k0_pay3 f (d 1)⟩, ⟨S1x256, k0_pay3 f (d 2)⟩, ⟨S1x256, k0_pay3 f (d 3)⟩, ⟨S1x256, k0_pay3 f (d 4)⟩, ⟨S1x256, k0_pay3 f (d 5)⟩, ⟨S1x256, k0_pay3 f (d 6)⟩, ⟨S1x256, k0_pay3 f (d 7)⟩] concatenates_S1x256_S1x256_S1x256_S1x256_S1x256_S1x256_S1x256_S1x256_S8x256_d0) (shapeCast S256x32 w shapeCasts_S1x256x32_S256x32) (constant S8x32 .f32 0x00000000#32))

/-- The rows stacked, at an index. -/
theorem cat_at (r : Fin 8 → FVec Ideal S1x256 .f32) (h : Fin 8) (k : Fin 256) :
    concatenate S8x256 0 [⟨S1x256, r 0⟩, ⟨S1x256, r 1⟩, ⟨S1x256, r 2⟩, ⟨S1x256, r 3⟩, ⟨S1x256, r 4⟩, ⟨S1x256, r 5⟩, ⟨S1x256, r 6⟩, ⟨S1x256, r 7⟩] concatenates_S1x256_S1x256_S1x256_S1x256_S1x256_S1x256_S1x256_S1x256_S8x256_d0 (ix2 h k) = r h (ix2 0 k) := by
  match h with
  | 0 => pointwise
  | 1 => pointwise
  | 2 => pointwise
  | 3 => pointwise
  | 4 => pointwise
  | 5 => pointwise
  | 6 => pointwise
  | 7 => pointwise

/-- One dilation's step at an element. -/
theorem step_at (acc : FVec Ideal S8x32 .f32) (f : FVec Ideal S128x128 .f32) (d : Fin 8 → FVec Ideal S1x128x256 .f32) (w : FVec Ideal S1x256x32 .f32) (h : Fin 8) (n : Fin 32) :
    step acc f d w (ix2 h n) = acc (ix2 h n) + ∑ k : Fin 256, k0_pay3 (F := Ideal) f (d h) (ix2 0 k) * w (ix3 0 k n) := by
  have hc := fun k => cat_at (fun h => k0_pay3 f (d h)) h k
  unfold step
  generalize concatenate S8x256 0 _ _ = C at hc
  pointwise
  refine congrArg _ (Finset.sum_congr rfl fun k _ => ?_)
  rw [← hc]

/-- A load through a rectangle, at an index it places. -/
theorem ld_at {S : Shape} {e : EltTy} (w : Vec Ideal S e) (off size : Fin S.rank → Nat) (inb : ∀ a, off a + size a ≤ S.size a) (x : (Rect.unit (s := S) off size inb).shape.Idx) (y : S.Idx)
    (h : ∀ a, (y a : ℕ) = off a + (x a : ℕ)) : View.ld (Val := Elt Ideal) (e' := e) w (Rect.unit (s := S) off size inb) x = w y := by
  show w ((Rect.unit (s := S) off size inb).emb x) = w y
  refine congrArg w (funext fun a => Fin.ext ?_)
  rw [Rect.emb_apply]
  show off a + 1 * (x a : ℕ) = _
  rw [h a, Nat.one_mul]

/-- The eight heads' loads. -/
def ld8 (x : FVec Ideal S8x128x256 .f32) : Fin 8 → FVec Ideal S1x128x256 .f32 := fun
  | 0 => View.ld (Val := Elt Ideal) (e' := .f32) x r0_1
  | 1 => View.ld (Val := Elt Ideal) (e' := .f32) x r0_2
  | 2 => View.ld (Val := Elt Ideal) (e' := .f32) x r0_3
  | 3 => View.ld (Val := Elt Ideal) (e' := .f32) x r0_4
  | 4 => View.ld (Val := Elt Ideal) (e' := .f32) x r0_5
  | 5 => View.ld (Val := Elt Ideal) (e' := .f32) x r0_6
  | 6 => View.ld (Val := Elt Ideal) (e' := .f32) x r0_7
  | 7 => View.ld (Val := Elt Ideal) (e' := .f32) x r0_8

/-- A head's load is the head. -/
theorem ld8_at (x : FVec Ideal S8x128x256 .f32) (h : Fin 8) (q : Fin 128) (k : Fin 256) : ld8 x h (ix3 0 q k) = x (ix3 h q k) := by
  match h with
  | 0 => exact ld_at (e := .f32) x _ _ _ _ _ fun a => match a with | 0 => rfl | 1 => (Nat.zero_add _).symm | 2 => (Nat.zero_add _).symm
  | 1 => exact ld_at (e := .f32) x _ _ _ _ _ fun a => match a with | 0 => rfl | 1 => (Nat.zero_add _).symm | 2 => (Nat.zero_add _).symm
  | 2 => exact ld_at (e := .f32) x _ _ _ _ _ fun a => match a with | 0 => rfl | 1 => (Nat.zero_add _).symm | 2 => (Nat.zero_add _).symm
  | 3 => exact ld_at (e := .f32) x _ _ _ _ _ fun a => match a with | 0 => rfl | 1 => (Nat.zero_add _).symm | 2 => (Nat.zero_add _).symm
  | 4 => exact ld_at (e := .f32) x _ _ _ _ _ fun a => match a with | 0 => rfl | 1 => (Nat.zero_add _).symm | 2 => (Nat.zero_add _).symm
  | 5 => exact ld_at (e := .f32) x _ _ _ _ _ fun a => match a with | 0 => rfl | 1 => (Nat.zero_add _).symm | 2 => (Nat.zero_add _).symm
  | 6 => exact ld_at (e := .f32) x _ _ _ _ _ fun a => match a with | 0 => rfl | 1 => (Nat.zero_add _).symm | 2 => (Nat.zero_add _).symm
  | 7 => exact ld_at (e := .f32) x _ _ _ _ _ fun a => match a with | 0 => rfl | 1 => (Nat.zero_add _).symm | 2 => (Nat.zero_add _).symm

/-- The load of the table's middle window. -/
def ldT (x : FVec Ideal S3x256x32 .f32) : FVec Ideal S1x256x32 .f32 := View.ld (Val := Elt Ideal) (e' := .f32) x r0_9
/-- The load of the turning matrix. -/
def ldF (x : FVec Ideal S128x128 .f32) : FVec Ideal S128x128 .f32 := View.ld (Val := Elt Ideal) (e' := .f32) x r0_0

/-- The middle window's load, at an index. -/
theorem tab_at (x : FVec Ideal S3x256x32 .f32) (k : Fin 256) (n : Fin 32) : ldT x (ix3 0 k n) = x (ix3 1 k n) :=
  ld_at (e := .f32) x _ _ _ _ _ fun a => match a with | 0 => rfl | 1 => (Nat.zero_add _).symm | 2 => (Nat.zero_add _).symm

/-- The turning matrix's load, at an index. -/
theorem flip_ld (x : FVec Ideal S128x128 .f32) (p q : Fin 128) : ldF x (ix2 p q) = x (ix2 p q) :=
  ld_at (e := .f32) x _ _ _ _ _ fun a => match a with | 0 => (Nat.zero_add _).symm | 1 => (Nat.zero_add _).symm

/-- The body's store is three steps from zero. -/
theorem out_eq (x0 x1 x2 : FVec Ideal S8x128x256 .f32) (x3 x4 x5 : FVec Ideal S3x256x32 .f32) (x6 : FVec Ideal S128x128 .f32) :
    out0_7 (F := Ideal) x0 x1 x2 x3 x4 x5 x6
      = step (step (step (k0_pay2 (F := Ideal)) (ldF x6) (ld8 x0) (ldT x3)) (ldF x6) (ld8 x1) (ldT x4)) (ldF x6) (ld8 x2) (ldT x5) := by
  unfold out0_7
  exact View.canon_unit_zero (by decide : (![0, 0] : Fin 2 → Nat) = fun _ => 0) _ _

/-- The sum over the rows of a head, along the diagonals. -/
def diag (x6 : FVec Ideal S128x128 .f32) (x : FVec Ideal S8x128x256 .f32) (h : Fin 8) (k : Fin 256) : EReal :=
  ∑ p : Fin 128, ∑ q : Fin 128, x6 (ix2 p q) * x (ix3 h q ⟨(k.val + 256 - p.val % 256) % 256, Nat.mod_lt _ (by decide)⟩)

/-- A step over the arrays, at an element. -/
theorem part_at (acc : FVec Ideal S8x32 .f32) (x6 : FVec Ideal S128x128 .f32) (x : FVec Ideal S8x128x256 .f32) (w : FVec Ideal S3x256x32 .f32) (h : Fin 8) (n : Fin 32) :
    step acc (ldF x6) (ld8 x) (ldT w) (ix2 h n) = acc (ix2 h n) + ∑ k : Fin 256, diag x6 x h k * w (ix3 1 k n) := by
  rw [step_at]
  refine congrArg _ (Finset.sum_congr rfl fun k _ => ?_)
  rw [tab_at, row_at]
  refine congrArg (· * _) (Finset.sum_congr rfl fun p _ => Finset.sum_congr rfl fun q _ => ?_)
  rw [flip_ld, ld8_at]

/-- The sum starts from zero. -/
theorem zero_at (j : S8x32.Idx) : k0_pay2 (F := Ideal) j = 0 := by pointwise [k0_pay2]

/-- The body's store, at an element. -/
theorem out_at (x0 x1 x2 : FVec Ideal S8x128x256 .f32) (x3 x4 x5 : FVec Ideal S3x256x32 .f32) (x6 : FVec Ideal S128x128 .f32) (h : Fin 8) (n : Fin 32) :
    out0_7 (F := Ideal) x0 x1 x2 x3 x4 x5 x6 (ix2 h n)
      = (∑ k : Fin 256, diag x6 x0 h k * x3 (ix3 1 k n)) + (∑ k : Fin 256, diag x6 x1 h k * x4 (ix3 1 k n)) + (∑ k : Fin 256, diag x6 x2 h k * x5 (ix3 1 k n)) := by
  rw [out_eq, part_at, part_at, part_at, zero_at, zero_add]

end Cert.Kernel17Ideal.Bias

namespace Cert.Kernel17Ideal.Bias
open Cert.Kernel17Ideal Cert.Kernel17Ideal.Gen Cert.Kernel17Ideal.Value

variable (m : (ℓ : Loc nD τ sig) → Buf (Elt Ideal) ℓ) (c : Dev nD)

/-- The table that the host code makes of the offsets' rows. -/
def tab (b : FVec Ideal S129x32 .f32) : FVec Ideal S3x256x32 .f32 :=
  broadcastInDim S3x256x32 ![1, 2] bcast_S256x32_S3x256x32_1_2 (pad S256x32 ![127, 0] ![0, 0] ![0, 0] b (sitofp .f32 (constantI S_ 32 0#32) : FVec Ideal S_ .f32) pads_S129x32_S256x32_12700_000 h_S_)

/-- The first dilation's table as the call finds it. -/
theorem v1 : V m c main_v1 = tab (m ((c : Thread nD τ).loc main_arg3)) := by
  show StableHlo.after _ _ _ = _
  simp only [List.flatten, List.append]
  after_results
  rfl
/-- The second dilation's table as the call finds it. -/
theorem v3 : V m c main_v3 = tab (m ((c : Thread nD τ).loc main_arg4)) := by
  show StableHlo.after _ _ _ = _
  simp only [List.flatten, List.append]
  after_results
  rfl
/-- The third dilation's table as the call finds it. -/
theorem v5 : V m c main_v5 = tab (m ((c : Thread nD τ).loc main_arg5)) := by
  show StableHlo.after _ _ _ = _
  simp only [List.flatten, List.append]
  after_results
  rfl

/-- The turning matrix. -/
def flip : FVec Ideal S128x128 .f32 := fun i => FloatOps.ofBits .f32 (lit0 (S128x128.rowMajor i))

/-- The turning matrix as the call finds it. -/
theorem cst : V m c main_cst = flip := by
  show StableHlo.after _ _ _ = _
  simp only [List.flatten, List.append]
  after_results
  rfl

/-- The table's first 127 rows are zero. -/
theorem tab_lo (b : FVec Ideal S129x32 .f32) (k : Fin 127) (n : Fin 32) : tab b (ix3 1 (Fin.castAdd 129 k) n) = 0 := by
  pointwise [tab]
  rw [dif_neg (fun e => by have h1 : (Fin.castAdd 129 k).val = k.val := rfl; omega)]
  show (((0#32 : BitVec 32).toInt : ℝ) : EReal) = 0
  simp
/-- The rows after them are the offsets' rows. -/
theorem tab_hi (b : FVec Ideal S129x32 .f32) (k : Fin 129) (n : Fin 32) : tab b (ix3 1 (Fin.natAdd 127 k) n) = b (ix2 k n) := by
  have h1 : (Fin.natAdd 127 k).val = 127 + k.val := rfl
  pointwise [tab]
  rw [dif_pos (by omega)]
  exact congrArg (fun r => b (ix2 r n)) (Fin.ext (by show (Fin.natAdd 127 k).val - 127 = k.val; omega))

/-- The word of one. -/
theorem one_bits : (FloatOps.ofBits .f32 0x3f800000#32 : Ideal .f32) = (1 : EReal) := by pointwise
/-- The word of zero. -/
theorem zero_bits : (FloatOps.ofBits .f32 0#32 : Ideal .f32) = (0 : EReal) := by pointwise

/-- The turning matrix at an index. -/
theorem flip_at (p q : Fin 128) : flip (ix2 p q) = if p.val + q.val = 127 then (1 : EReal) else 0 := by
  have hr : (S128x128.rowMajor (ix2 p q)).val = p.val * 128 + q.val := by
    exact rowMajor_val2 (d := ![128, 128]) (ix2 p q) 128 rfl
  have hb := flip_bits ⟨p.val * 128 + q.val, by omega⟩
  dsimp only at hb
  rw [show (p.val * 128 + q.val) / 128 = p.val by omega, show (p.val * 128 + q.val) % 128 = q.val by omega] at hb
  refine (congrArg (fun i : Fin 16384 => (FloatOps.ofBits .f32 (lit0 i) : Ideal .f32)) (Fin.ext hr : S128x128.rowMajor (ix2 p q) = (⟨p.val * 128 + q.val, by omega⟩ : Fin 16384))).trans ?_
  show (FloatOps.ofBits .f32 (lit0 ⟨p.val * 128 + q.val, _⟩) : Ideal .f32) = _
  rw [hb]
  split
  · exact one_bits
  · exact zero_bits

end Cert.Kernel17Ideal.Bias

namespace Cert.Kernel17Ideal.Bias
open Cert.Kernel17Ideal Cert.Kernel17Ideal.Gen Cert.Kernel17Ideal.Value

/-- A row turned over picks the opposite row. -/
theorem pick (x : FVec Ideal S8x128x256 .f32) (h : Fin 8) (p : Fin 128) (k : Fin 256) :
    (∑ q : Fin 128, flip (ix2 p q) * x (ix3 h q k)) = x (ix3 h (Fin.rev p) k) := by
  rw [Finset.sum_eq_single (Fin.rev p)]
  · rw [flip_at, if_pos (by rw [Fin.val_rev]; omega), one_mul]
  · intro q _ hq
    rw [flip_at, if_neg (fun e => hq (Fin.ext (by rw [Fin.val_rev]; omega))), zero_mul]
  · intro e
    exact absurd (Finset.mem_univ _) e

/-- From the 127th on, the turned and rotated rows add up along the diagonals. -/
theorem diag_hi (x : FVec Ideal S8x128x256 .f32) (h : Fin 8) (j : Fin 129) :
    diag flip x h (Fin.natAdd 127 j) = ∑ q : Fin 128, x (ix3 h q ⟨q.val + j.val, by omega⟩) := by
  unfold diag
  rw [← Equiv.sum_comp Fin.revPerm (fun q : Fin 128 => x (ix3 h q ⟨q.val + j.val, by omega⟩))]
  refine Finset.sum_congr rfl fun p _ => ?_
  rw [pick]
  refine congrArg (fun k => x (ix3 h (Fin.rev p) k)) (Fin.ext ?_)
  show ((127 + j.val) + 256 - p.val % 256) % 256 = (Fin.rev p).val + j.val
  rw [Fin.val_rev]
  omega

/-- Against a padded table only the diagonals count. -/
theorem sums (x : FVec Ideal S8x128x256 .f32) (b : FVec Ideal S129x32 .f32) (h : Fin 8) (n : Fin 32) :
    (∑ k : Fin 256, diag flip x h k * tab b (ix3 1 k n)) = Cert.Bias.total x b h n := by
  refine (Fin.sum_univ_add (a := 127) (b := 129) (fun k : Fin (127 + 129) => diag flip x h k * tab b (ix3 1 k n))).trans ?_
  rw [Finset.sum_eq_zero (fun k _ => by rw [tab_lo, mul_zero]), zero_add]
  exact Finset.sum_congr rfl fun j _ => by rw [tab_hi, diag_hi]

variable (m : (ℓ : Loc nD τ sig) → Buf (Elt Ideal) ℓ) (c : Dev nD)

/-- Which block each window is at, at every point. -/
theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0]
    ∧ win0_5.index t = ![0, 0, 0] ∧ win0_6.index t = ![0, 0] ∧ win0_7.index t = ![0, 0] :=
  (by decide +kernel : ∀ t : Fin grid0.N, _)

/-- Input 0's block is its whole array. -/
theorem blk0 (t : Fin cfg0.N) : iblk m c 0 t = m ((c : Thread nD τ).loc main_arg0) := by
  funext y
  blk_point [iblk, V, idx t]

/-- Input 1's block is its whole array. -/
theorem blk1 (t : Fin cfg0.N) : iblk m c 1 t = m ((c : Thread nD τ).loc main_arg1) := by
  funext y
  blk_point [iblk, V, idx t]

/-- Input 2's block is its whole array. -/
theorem blk2 (t : Fin cfg0.N) : iblk m c 2 t = m ((c : Thread nD τ).loc main_arg2) := by
  funext y
  blk_point [iblk, V, idx t]

/-- Input 3's block is its whole array. -/
theorem blk3 (t : Fin cfg0.N) : iblk m c 3 t = tab (m ((c : Thread nD τ).loc main_arg3)) := by
  unfold iblk
  rw [show V m c (Pipeline.arrRef spec0 3) = tab (m ((c : Thread nD τ).loc main_arg3)) from v1 m c]
  generalize tab (m ((c : Thread nD τ).loc main_arg3)) = T
  funext y
  blk_point [idx t]

/-- Input 4's block is its whole array. -/
theorem blk4 (t : Fin cfg0.N) : iblk m c 4 t = tab (m ((c : Thread nD τ).loc main_arg4)) := by
  unfold iblk
  rw [show V m c (Pipeline.arrRef spec0 4) = tab (m ((c : Thread nD τ).loc main_arg4)) from v3 m c]
  generalize tab (m ((c : Thread nD τ).loc main_arg4)) = T
  funext y
  blk_point [idx t]

/-- Input 5's block is its whole array. -/
theorem blk5 (t : Fin cfg0.N) : iblk m c 5 t = tab (m ((c : Thread nD τ).loc main_arg5)) := by
  unfold iblk
  rw [show V m c (Pipeline.arrRef spec0 5) = tab (m ((c : Thread nD τ).loc main_arg5)) from v5 m c]
  generalize tab (m ((c : Thread nD τ).loc main_arg5)) = T
  funext y
  blk_point [idx t]

/-- Input 6's block is its whole array. -/
theorem blk6 (t : Fin cfg0.N) : iblk m c 6 t = flip := by
  unfold iblk
  rw [show V m c (Pipeline.arrRef spec0 6) = flip from cst m c]
  generalize flip = T
  funext y
  blk_point [idx t]

/-- The result array, element by element. -/
theorem final : (dats m 0 c).arrAt 7 cfg0.N = fun j : S8x32.Idx =>
    Cert.Bias.total (m ((c : Thread nD τ).loc main_arg0)) (m ((c : Thread nD τ).loc main_arg3)) (j 0) (j 1)
      + Cert.Bias.total (m ((c : Thread nD τ).loc main_arg1)) (m ((c : Thread nD τ).loc main_arg4)) (j 0) (j 1)
      + Cert.Bias.total (m ((c : Thread nD τ).loc main_arg2)) (m ((c : Thread nD τ).loc main_arg5)) (j 0) (j 1) := by
  refine (dats m 0 c).arrAt_eq_of_covers 7 _ (by decide +kernel) fun t hf y => ?_
  blk_simp
  rw [after0_7, blk0, blk1, blk2, blk3, blk4, blk5, blk6]
  refine (congrArg _ (eq_ix2 _)).trans ((out_at _ _ _ _ _ _ _ _ _).trans ?_)
  refine (congrArg₂ (· + ·) (congrArg₂ (· + ·) (sums _ _ _ _) (sums _ _ _ _)) (sums _ _ _ _)).trans ?_
  have key : ∀ G : FVec Ideal S8x32 .f32, G (ix2 (y 0) (y 1)) = G ((win0_7.blk t).view.emb y) := fun G => by blk_point [idx t]
  exact key fun j => Cert.Bias.total (m ((c : Thread nD τ).loc main_arg0)) (m ((c : Thread nD τ).loc main_arg3)) (j 0) (j 1)
    + Cert.Bias.total (m ((c : Thread nD τ).loc main_arg1)) (m ((c : Thread nD τ).loc main_arg4)) (j 0) (j 1)
    + Cert.Bias.total (m ((c : Thread nD τ).loc main_arg2)) (m ((c : Thread nD τ).loc main_arg5)) (j 0) (j 1)

end Cert.Kernel17Ideal.Bias

namespace Cert.Bias

/-- The call computes its reference. -/
theorem value : Cert.algebraic_Kernel17Ideal_Reference17Ideal := by
  intro m g m' g' _ hm
  refine ⟨_, Cert.Kernel17Ideal.Value.run_blocks (F := Ideal) m g, ?_⟩
  refine (θ_run Cert.Reference17Ideal.defs _ _).mono (fun r h c => ⟨(h c).1.trans ?_, (h c).2⟩) (Cert.Reference17Ideal.Value.run (F := Ideal) m' g')
  obtain ⟨h0, h1, h2, h3, h4, h5⟩ := hm c
  rw [Cert.Kernel17Ideal.Bias.final m c]
  funext j
  refine (congrArg _ (eq_ix2 j)).trans ((Cert.Reference17Ideal.Bias.res_at m' c (j 0) (j 1)).trans ?_)
  rw [h0, h1, h2, h3, h4, h5]

end Cert.Bias

end
-- ==== Proof.Sum.Chips.lean ====
/- The sums over the chips and over the devices: each result is the sum of the parts, element by element. -/
module

public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Sum

/-- A load through a rectangle, at an index it places. -/
theorem ld_at {S : Shape} {e : EltTy} (w : Vec Ideal S e) (off size : Fin S.rank → Nat) (inb : ∀ a, off a + size a ≤ S.size a) (x : (Rect.unit (s := S) off size inb).shape.Idx) (y : S.Idx)
    (h : ∀ a, (y a : ℕ) = off a + (x a : ℕ)) : View.ld (Val := Elt Ideal) (e' := e) w (Rect.unit (s := S) off size inb) x = w y := by
  show w ((Rect.unit (s := S) off size inb).emb x) = w y
  refine congrArg w (funext fun a => Fin.ext ?_)
  rw [Rect.emb_apply]
  show off a + 1 * (x a : ℕ) = _
  rw [h a, Nat.one_mul]

end Cert.Sum

/-! ## The four chips' parts of the gradient of `w_in` -/

namespace Cert.Kernel13Ideal.Sum
open Cert.Kernel13Ideal Cert.Kernel13Ideal.Gen Cert.Kernel13Ideal.Value Cert.Sum

/-- The parts' sum at one element, in the order of the parts. -/
def total (x : FVec Ideal S4x512x640 .bf16) (r : Fin 512) (f : Fin 640) : EReal := x (ix3 0 r f) + x (ix3 1 r f) + x (ix3 2 r f) + x (ix3 3 r f)

/-- What the body stores, at one element of the tile. -/
theorem tile (x : FVec Ideal S4x256x640 .bf16) (y : S256x640.Idx) : out0_1 (F := Ideal) x y = x (ix3 0 (y 0) (y 1)) + x (ix3 1 (y 0) (y 1)) + x (ix3 2 (y 0) (y 1)) + x (ix3 3 (y 0) (y 1)) := by
  unfold out0_1
  rw [canon1_eq]
  have h0 : View.ld (Val := Elt Ideal) (e' := .bf16) x r0_0 (ix1_0 y) = x (ix3 0 (y 0) (y 1)) :=
    ld_at (e := .bf16) x _ _ _ _ _ fun a => match a with | 0 => rfl | 1 => (Nat.zero_add _).symm | 2 => (Nat.zero_add _).symm
  have h1 : View.ld (Val := Elt Ideal) (e' := .bf16) x r0_1 (ix1_1 y) = x (ix3 1 (y 0) (y 1)) :=
    ld_at (e := .bf16) x _ _ _ _ _ fun a => match a with | 0 => rfl | 1 => (Nat.zero_add _).symm | 2 => (Nat.zero_add _).symm
  have h2 : View.ld (Val := Elt Ideal) (e' := .bf16) x r0_2 (ix1_2 y) = x (ix3 2 (y 0) (y 1)) :=
    ld_at (e := .bf16) x _ _ _ _ _ fun a => match a with | 0 => rfl | 1 => (Nat.zero_add _).symm | 2 => (Nat.zero_add _).symm
  have h3 : View.ld (Val := Elt Ideal) (e' := .bf16) x r0_3 (ix1_3 y) = x (ix3 3 (y 0) (y 1)) :=
    ld_at (e := .bf16) x _ _ _ _ _ fun a => match a with | 0 => rfl | 1 => (Nat.zero_add _).symm | 2 => (Nat.zero_add _).symm
  exact congrArg₂ (· + ·) (congrArg₂ (· + ·) (congrArg₂ (· + ·) h0 h1) h2) h3

variable (m : (ℓ : Loc nD τ sig) → Buf (Elt Ideal) ℓ) (c : Dev nD)

/-- Which block each window is at, at every point. -/
theorem idx : ∀ t : Fin cfg0.N, win0_0.index t = ![0, t.val, 0] ∧ win0_1.index t = ![t.val, 0] :=
  (by decide +kernel : ∀ t : Fin grid0.N, _)

/-- The result array after the grid. -/
theorem final : (dats m 0 c).arrAt 1 (cfgs 0).N = fun j => total (m ((c : Thread nD τ).loc main_arg0)) (j 0) (j 1) := by
  refine (dats m 0 c).arrAt_eq_of_covers 1 _ (by decide +kernel) fun t hf y => ?_
  blk_simp
  rw [after0_1, tile]
  unfold total
  blk_point [iblk, V, idx t]

end Cert.Kernel13Ideal.Sum

namespace Cert.Reference13Ideal.Sum
open Cert.Reference13Ideal Cert.Reference13Ideal.Gen

/-- The reference's sum over the parts, at one element. -/
theorem total_eq (x : FVec Ideal S4x512x640 .bf16) (r : Fin 512) (f : Fin 640) :
    Host.reduceAdd (extf .f32 x bitsLt_bf16_f32 : FVec Ideal S4x512x640 .f32) (constant S_ .f32 0x00000000#32) reducesTo_S4x512x640_S512x640_d0 h_S_ (ix2 r f) = Cert.Kernel13Ideal.Sum.total x r f := by
  pointwise
  simp only [Fin.sum_univ_succ, Fin.sum_univ_zero]
  unfold Cert.Kernel13Ideal.Sum.total
  simp only [add_assoc, add_zero, zero_add]
  rfl

end Cert.Reference13Ideal.Sum

namespace Cert.Sum

/-- The call computes its reference. -/
theorem value13 : Cert.algebraic_Kernel13Ideal_Reference13Ideal := by
  intro m g m' g' _ hm
  refine ⟨_, Cert.Kernel13Ideal.Value.run_blocks (F := Ideal) m g, ?_⟩
  refine (θ_run Cert.Reference13Ideal.defs _ _).mono (fun r h c => ⟨(h c).1.trans ?_, (h c).2⟩) (Cert.Reference13Ideal.Value.run (F := Ideal) m' g')
  rw [hm c, Cert.Kernel13Ideal.Sum.final m c]
  funext j
  exact (congrArg _ (eq_ix2 j)).trans (Cert.Reference13Ideal.Sum.total_eq _ (j 0) (j 1))

end Cert.Sum

/-! ## Of `w_out` -/

namespace Cert.Kernel14Ideal.Sum
open Cert.Kernel14Ideal Cert.Kernel14Ideal.Gen Cert.Kernel14Ideal.Value Cert.Sum

/-- The parts' sum at one element, in the order of the parts. -/
def total (x : FVec Ideal S4x128x1024 .bf16) (r : Fin 128) (f : Fin 1024) : EReal := x (ix3 0 r f) + x (ix3 1 r f) + x (ix3 2 r f) + x (ix3 3 r f)

/-- What the body stores, at one element of the tile. -/
theorem tile (x : FVec Ideal S4x128x1024 .bf16) (y : S128x1024.Idx) : out0_1 (F := Ideal) x y = x (ix3 0 (y 0) (y 1)) + x (ix3 1 (y 0) (y 1)) + x (ix3 2 (y 0) (y 1)) + x (ix3 3 (y 0) (y 1)) := by
  unfold out0_1
  rw [canon1_eq]
  have h0 : View.ld (Val := Elt Ideal) (e' := .bf16) x r0_0 (ix1_0 y) = x (ix3 0 (y 0) (y 1)) :=
    ld_at (e := .bf16) x _ _ _ _ _ fun a => match a with | 0 => rfl | 1 => (Nat.zero_add _).symm | 2 => (Nat.zero_add _).symm
  have h1 : View.ld (Val := Elt Ideal) (e' := .bf16) x r0_1 (ix1_1 y) = x (ix3 1 (y 0) (y 1)) :=
    ld_at (e := .bf16) x _ _ _ _ _ fun a => match a with | 0 => rfl | 1 => (Nat.zero_add _).symm | 2 => (Nat.zero_add _).symm
  have h2 : View.ld (Val := Elt Ideal) (e' := .bf16) x r0_2 (ix1_2 y) = x (ix3 2 (y 0) (y 1)) :=
    ld_at (e := .bf16) x _ _ _ _ _ fun a => match a with | 0 => rfl | 1 => (Nat.zero_add _).symm | 2 => (Nat.zero_add _).symm
  have h3 : View.ld (Val := Elt Ideal) (e' := .bf16) x r0_3 (ix1_3 y) = x (ix3 3 (y 0) (y 1)) :=
    ld_at (e := .bf16) x _ _ _ _ _ fun a => match a with | 0 => rfl | 1 => (Nat.zero_add _).symm | 2 => (Nat.zero_add _).symm
  exact congrArg₂ (· + ·) (congrArg₂ (· + ·) (congrArg₂ (· + ·) h0 h1) h2) h3

variable (m : (ℓ : Loc nD τ sig) → Buf (Elt Ideal) ℓ) (c : Dev nD)

/-- The one stored tile is the sum. -/
theorem whole (x : FVec Ideal S4x128x1024 .bf16) : G1 (F := Ideal) x = fun j => total x (j 0) (j 1) := by
  rw [← out1_eq]
  funext j
  exact tile x j

end Cert.Kernel14Ideal.Sum

namespace Cert.Reference14Ideal.Sum
open Cert.Reference14Ideal Cert.Reference14Ideal.Gen

/-- The reference's sum over the parts, at one element. -/
theorem total_eq (x : FVec Ideal S4x128x1024 .bf16) (r : Fin 128) (f : Fin 1024) :
    Host.reduceAdd (extf .f32 x bitsLt_bf16_f32 : FVec Ideal S4x128x1024 .f32) (constant S_ .f32 0x00000000#32) reducesTo_S4x128x1024_S128x1024_d0 h_S_ (ix2 r f) = Cert.Kernel14Ideal.Sum.total x r f := by
  pointwise
  simp only [Fin.sum_univ_succ, Fin.sum_univ_zero]
  unfold Cert.Kernel14Ideal.Sum.total
  simp only [add_assoc, add_zero, zero_add]
  rfl

end Cert.Reference14Ideal.Sum

namespace Cert.Sum

/-- The call computes its reference. -/
theorem value14 : Cert.algebraic_Kernel14Ideal_Reference14Ideal := by
  intro m g m' g' _ hm
  refine ⟨_, Cert.Kernel14Ideal.Value.run (F := Ideal) m g, ?_⟩
  refine (θ_run Cert.Reference14Ideal.defs _ _).mono (fun r h c => ⟨(h c).1.trans ?_, (h c).2⟩) (Cert.Reference14Ideal.Value.run (F := Ideal) m' g')
  rw [hm c, Cert.Kernel14Ideal.Sum.whole]
  funext j
  exact (congrArg _ (eq_ix2 j)).trans (Cert.Reference14Ideal.Sum.total_eq _ (j 0) (j 1))

end Cert.Sum

/-! ## Of `w_up` -/

namespace Cert.Kernel15Ideal.Sum
open Cert.Kernel15Ideal Cert.Kernel15Ideal.Gen Cert.Kernel15Ideal.Value Cert.Sum

/-- The parts' sum at one element, in the order of the parts. -/
def total (x : FVec Ideal S4x512x1024 .bf16) (r : Fin 512) (f : Fin 1024) : EReal := x (ix3 0 r f) + x (ix3 1 r f) + x (ix3 2 r f) + x (ix3 3 r f)

/-- What the body stores, at one element of the tile. -/
theorem tile (x : FVec Ideal S4x256x1024 .bf16) (y : S256x1024.Idx) : out0_1 (F := Ideal) x y = x (ix3 0 (y 0) (y 1)) + x (ix3 1 (y 0) (y 1)) + x (ix3 2 (y 0) (y 1)) + x (ix3 3 (y 0) (y 1)) := by
  unfold out0_1
  rw [canon1_eq]
  have h0 : View.ld (Val := Elt Ideal) (e' := .bf16) x r0_0 (ix1_0 y) = x (ix3 0 (y 0) (y 1)) :=
    ld_at (e := .bf16) x _ _ _ _ _ fun a => match a with | 0 => rfl | 1 => (Nat.zero_add _).symm | 2 => (Nat.zero_add _).symm
  have h1 : View.ld (Val := Elt Ideal) (e' := .bf16) x r0_1 (ix1_1 y) = x (ix3 1 (y 0) (y 1)) :=
    ld_at (e := .bf16) x _ _ _ _ _ fun a => match a with | 0 => rfl | 1 => (Nat.zero_add _).symm | 2 => (Nat.zero_add _).symm
  have h2 : View.ld (Val := Elt Ideal) (e' := .bf16) x r0_2 (ix1_2 y) = x (ix3 2 (y 0) (y 1)) :=
    ld_at (e := .bf16) x _ _ _ _ _ fun a => match a with | 0 => rfl | 1 => (Nat.zero_add _).symm | 2 => (Nat.zero_add _).symm
  have h3 : View.ld (Val := Elt Ideal) (e' := .bf16) x r0_3 (ix1_3 y) = x (ix3 3 (y 0) (y 1)) :=
    ld_at (e := .bf16) x _ _ _ _ _ fun a => match a with | 0 => rfl | 1 => (Nat.zero_add _).symm | 2 => (Nat.zero_add _).symm
  exact congrArg₂ (· + ·) (congrArg₂ (· + ·) (congrArg₂ (· + ·) h0 h1) h2) h3

variable (m : (ℓ : Loc nD τ sig) → Buf (Elt Ideal) ℓ) (c : Dev nD)

/-- Which block each window is at, at every point. -/
theorem idx : ∀ t : Fin cfg0.N, win0_0.index t = ![0, t.val, 0] ∧ win0_1.index t = ![t.val, 0] :=
  (by decide +kernel : ∀ t : Fin grid0.N, _)

/-- The result array after the grid. -/
theorem final : (dats m 0 c).arrAt 1 (cfgs 0).N = fun j => total (m ((c : Thread nD τ).loc main_arg0)) (j 0) (j 1) := by
  refine (dats m 0 c).arrAt_eq_of_covers 1 _ (by decide +kernel) fun t hf y => ?_
  blk_simp
  rw [after0_1, tile]
  unfold total
  blk_point [iblk, V, idx t]

end Cert.Kernel15Ideal.Sum

namespace Cert.Reference15Ideal.Sum
open Cert.Reference15Ideal Cert.Reference15Ideal.Gen

/-- The reference's sum over the parts, at one element. -/
theorem total_eq (x : FVec Ideal S4x512x1024 .bf16) (r : Fin 512) (f : Fin 1024) :
    Host.reduceAdd (extf .f32 x bitsLt_bf16_f32 : FVec Ideal S4x512x1024 .f32) (constant S_ .f32 0x00000000#32) reducesTo_S4x512x1024_S512x1024_d0 h_S_ (ix2 r f) = Cert.Kernel15Ideal.Sum.total x r f := by
  pointwise
  simp only [Fin.sum_univ_succ, Fin.sum_univ_zero]
  unfold Cert.Kernel15Ideal.Sum.total
  simp only [add_assoc, add_zero, zero_add]
  rfl

end Cert.Reference15Ideal.Sum

namespace Cert.Sum

/-- The call computes its reference. -/
theorem value15 : Cert.algebraic_Kernel15Ideal_Reference15Ideal := by
  intro m g m' g' _ hm
  refine ⟨_, Cert.Kernel15Ideal.Value.run_blocks (F := Ideal) m g, ?_⟩
  refine (θ_run Cert.Reference15Ideal.defs _ _).mono (fun r h c => ⟨(h c).1.trans ?_, (h c).2⟩) (Cert.Reference15Ideal.Value.run (F := Ideal) m' g')
  rw [hm c, Cert.Kernel15Ideal.Sum.final m c]
  funext j
  exact (congrArg _ (eq_ix2 j)).trans (Cert.Reference15Ideal.Sum.total_eq _ (j 0) (j 1))

end Cert.Sum

/-! ## The eight devices' rows of the packed small gradients -/

namespace Cert.Kernel16Ideal.Sum
open Cert.Kernel16Ideal Cert.Kernel16Ideal.Gen Cert.Kernel16Ideal.Value Cert.Sum

/-- The parts' sum at one element, in the order of the parts. -/
def total (x : FVec Ideal S8x552x128 .f32) (r : Fin 552) (f : Fin 128) : EReal := x (ix3 0 r f) + x (ix3 1 r f) + x (ix3 2 r f) + x (ix3 3 r f) + x (ix3 4 r f) + x (ix3 5 r f) + x (ix3 6 r f) + x (ix3 7 r f)

/-- What the body stores, at one element of the tile. -/
theorem tile (x : FVec Ideal S8x552x128 .f32) (y : S552x128.Idx) : out0_1 (F := Ideal) x y = x (ix3 0 (y 0) (y 1)) + x (ix3 1 (y 0) (y 1)) + x (ix3 2 (y 0) (y 1)) + x (ix3 3 (y 0) (y 1)) + x (ix3 4 (y 0) (y 1)) + x (ix3 5 (y 0) (y 1)) + x (ix3 6 (y 0) (y 1)) + x (ix3 7 (y 0) (y 1)) := by
  unfold out0_1
  rw [canon1_eq]
  have h0 : View.ld (Val := Elt Ideal) (e' := .f32) x r0_0 (ix1_0 y) = x (ix3 0 (y 0) (y 1)) :=
    ld_at (e := .f32) x _ _ _ _ _ fun a => match a with | 0 => rfl | 1 => (Nat.zero_add _).symm | 2 => (Nat.zero_add _).symm
  have h1 : View.ld (Val := Elt Ideal) (e' := .f32) x r0_1 (ix1_1 y) = x (ix3 1 (y 0) (y 1)) :=
    ld_at (e := .f32) x _ _ _ _ _ fun a => match a with | 0 => rfl | 1 => (Nat.zero_add _).symm | 2 => (Nat.zero_add _).symm
  have h2 : View.ld (Val := Elt Ideal) (e' := .f32) x r0_2 (ix1_2 y) = x (ix3 2 (y 0) (y 1)) :=
    ld_at (e := .f32) x _ _ _ _ _ fun a => match a with | 0 => rfl | 1 => (Nat.zero_add _).symm | 2 => (Nat.zero_add _).symm
  have h3 : View.ld (Val := Elt Ideal) (e' := .f32) x r0_3 (ix1_3 y) = x (ix3 3 (y 0) (y 1)) :=
    ld_at (e := .f32) x _ _ _ _ _ fun a => match a with | 0 => rfl | 1 => (Nat.zero_add _).symm | 2 => (Nat.zero_add _).symm
  have h4 : View.ld (Val := Elt Ideal) (e' := .f32) x r0_4 (ix1_4 y) = x (ix3 4 (y 0) (y 1)) :=
    ld_at (e := .f32) x _ _ _ _ _ fun a => match a with | 0 => rfl | 1 => (Nat.zero_add _).symm | 2 => (Nat.zero_add _).symm
  have h5 : View.ld (Val := Elt Ideal) (e' := .f32) x r0_5 (ix1_5 y) = x (ix3 5 (y 0) (y 1)) :=
    ld_at (e := .f32) x _ _ _ _ _ fun a => match a with | 0 => rfl | 1 => (Nat.zero_add _).symm | 2 => (Nat.zero_add _).symm
  have h6 : View.ld (Val := Elt Ideal) (e' := .f32) x r0_6 (ix1_6 y) = x (ix3 6 (y 0) (y 1)) :=
    ld_at (e := .f32) x _ _ _ _ _ fun a => match a with | 0 => rfl | 1 => (Nat.zero_add _).symm | 2 => (Nat.zero_add _).symm
  have h7 : View.ld (Val := Elt Ideal) (e' := .f32) x r0_7 (ix1_7 y) = x (ix3 7 (y 0) (y 1)) :=
    ld_at (e := .f32) x _ _ _ _ _ fun a => match a with | 0 => rfl | 1 => (Nat.zero_add _).symm | 2 => (Nat.zero_add _).symm
  exact congrArg₂ (· + ·) (congrArg₂ (· + ·) (congrArg₂ (· + ·) (congrArg₂ (· + ·) (congrArg₂ (· + ·) (congrArg₂ (· + ·) (congrArg₂ (· + ·) h0 h1) h2) h3) h4) h5) h6) h7

variable (m : (ℓ : Loc nD τ sig) → Buf (Elt Ideal) ℓ) (c : Dev nD)

/-- The one stored tile is the sum. -/
theorem whole (x : FVec Ideal S8x552x128 .f32) : G1 (F := Ideal) x = fun j => total x (j 0) (j 1) := by
  rw [← out1_eq]
  funext j
  exact tile x j

end Cert.Kernel16Ideal.Sum

namespace Cert.Reference16Ideal.Sum
open Cert.Reference16Ideal Cert.Reference16Ideal.Gen

/-- The reference's sum over the parts, at one element. -/
theorem total_eq (x : FVec Ideal S8x552x128 .f32) (r : Fin 552) (f : Fin 128) :
    Host.reduceAdd (x : FVec Ideal S8x552x128 .f32) (constant S_ .f32 0x00000000#32) reducesTo_S8x552x128_S552x128_d0 h_S_ (ix2 r f) = Cert.Kernel16Ideal.Sum.total x r f := by
  pointwise
  simp only [Fin.sum_univ_succ, Fin.sum_univ_zero]
  unfold Cert.Kernel16Ideal.Sum.total
  simp only [add_assoc, add_zero, zero_add]
  rfl

end Cert.Reference16Ideal.Sum

namespace Cert.Sum

/-- The call computes its reference. -/
theorem value16 : Cert.algebraic_Kernel16Ideal_Reference16Ideal := by
  intro m g m' g' _ hm
  refine ⟨_, Cert.Kernel16Ideal.Value.run (F := Ideal) m g, ?_⟩
  refine (θ_run Cert.Reference16Ideal.defs _ _).mono (fun r h c => ⟨(h c).1.trans ?_, (h c).2⟩) (Cert.Reference16Ideal.Value.run (F := Ideal) m' g')
  rw [hm c, Cert.Kernel16Ideal.Sum.whole]
  funext j
  exact (congrArg _ (eq_ix2 j)).trans (Cert.Reference16Ideal.Sum.total_eq _ (j 0) (j 1))

end Cert.Sum

end
-- ==== Proof.Adam.Small7.lean ====
/- The optimiser's call on three vectors of the recurrent half: each result is AdamW's formula of the arrays, element by element. -/
module

public import proofs.«01_k».proof.Defs
public import proofs.«01_k».proof.Proof.Gen.Kernel7Ideal.Value
public import proofs.«01_k».proof.Proof.Gen.Reference7Ideal.Run

@[expose] public section

noncomputable section

open Idealize.ShloMosaic Idealize.ShloMosaic.TcCoe Idealize.SL.Sem

namespace Cert.Adam

/-- The call on three vectors of the recurrent half: the steps, the new means and the new mean squares are the reference's. -/
theorem value7 : Cert.algebraic_Kernel7Ideal_Reference7Ideal := by
  intro m g m' g' _ hm
  refine ⟨_, _, _, _, _, _, _, _, _, Cert.Kernel7Ideal.Value.run (F := Ideal) m g, ?_⟩
  refine (θ_run Cert.Reference7Ideal.defs _ _).mono (fun r h c => ?_) (Cert.Reference7Ideal.Value.run (F := Ideal) m' g')
  obtain ⟨h0, h1, h2, h3, h4, h5, h6, h7, h8, ha⟩ := h c
  obtain ⟨e0, e1, e2, e3, e4, e5, e6, e7, e8, e9, e10, e11⟩ := hm c
  exact ⟨h0.trans (by rw [e0, e3, e6, e9]; rfl),
    h1.trans (by rw [e1, e4, e7, e10]; rfl),
    h2.trans (by rw [e2, e5, e8, e11]; rfl),
    h3.trans (by rw [e3, e6]; rfl),
    h4.trans (by rw [e4, e7]; rfl),
    h5.trans (by rw [e5, e8]; rfl),
    h6.trans (by rw [e3, e9]; rfl),
    h7.trans (by rw [e4, e10]; rfl),
    h8.trans (by rw [e5, e11]; rfl), ha⟩

end Cert.Adam

end
-- ==== Proof.Adam.Small11.lean ====
/- The optimiser's call on two of the recurrence's matrices and a gain of the stream: each result is AdamW's formula of the arrays, element by element. -/
module

public import proofs.«01_k».proof.Defs
public import proofs.«01_k».proof.Proof.Gen.Kernel11Ideal.Value
public import proofs.«01_k».proof.Proof.Gen.Reference11Ideal.Run

@[expose] public section

noncomputable section

open Idealize.ShloMosaic Idealize.ShloMosaic.TcCoe Idealize.SL.Sem

namespace Cert.Adam

/-- The call on two of the recurrence's matrices and a gain of the stream: the steps, the new means and the new mean squares are the reference's. -/
theorem value11 : Cert.algebraic_Kernel11Ideal_Reference11Ideal := by
  intro m g m' g' _ hm
  refine ⟨_, _, _, _, _, _, _, _, _, Cert.Kernel11Ideal.Value.run (F := Ideal) m g, ?_⟩
  refine (θ_run Cert.Reference11Ideal.defs _ _).mono (fun r h c => ?_) (Cert.Reference11Ideal.Value.run (F := Ideal) m' g')
  obtain ⟨h0, h1, h2, h3, h4, h5, h6, h7, h8, ha⟩ := h c
  obtain ⟨e0, e1, e2, e3, e4, e5, e6, e7, e8, e9, e10, e11⟩ := hm c
  exact ⟨h0.trans (by rw [e0, e3, e6, e9]; rfl),
    h1.trans (by rw [e1, e4, e7, e10]; rfl),
    h2.trans (by rw [e2, e5, e8, e11]; rfl),
    h3.trans (by rw [e3, e6]; rfl),
    h4.trans (by rw [e4, e7]; rfl),
    h5.trans (by rw [e5, e8]; rfl),
    h6.trans (by rw [e3, e9]; rfl),
    h7.trans (by rw [e4, e10]; rfl),
    h8.trans (by rw [e5, e11]; rfl), ha⟩

end Cert.Adam

end
-- ==== Proof.Adam.Small12.lean ====
/- The optimiser's call on the convolution, the position bias and the last gain: each result is AdamW's formula of the arrays, element by element. -/
module

public import proofs.«01_k».proof.Defs
public import proofs.«01_k».proof.Proof.Gen.Kernel12Ideal.Value
public import proofs.«01_k».proof.Proof.Gen.Reference12Ideal.Run

@[expose] public section

noncomputable section

open Idealize.ShloMosaic Idealize.ShloMosaic.TcCoe Idealize.SL.Sem

namespace Cert.Adam

/-- The call on the convolution, the position bias and the last gain: the steps, the new means and the new mean squares are the reference's. -/
theorem value12 : Cert.algebraic_Kernel12Ideal_Reference12Ideal := by
  intro m g m' g' _ hm
  refine ⟨_, _, _, _, _, _, _, _, _, Cert.Kernel12Ideal.Value.run (F := Ideal) m g, ?_⟩
  refine (θ_run Cert.Reference12Ideal.defs _ _).mono (fun r h c => ?_) (Cert.Reference12Ideal.Value.run (F := Ideal) m' g')
  obtain ⟨h0, h1, h2, h3, h4, h5, h6, h7, h8, ha⟩ := h c
  obtain ⟨e0, e1, e2, e3, e4, e5, e6, e7, e8, e9, e10, e11⟩ := hm c
  exact ⟨h0.trans (by rw [e0, e3, e6, e9]; rfl),
    h1.trans (by rw [e1, e4, e7, e10]; rfl),
    h2.trans (by rw [e2, e5, e8, e11]; rfl),
    h3.trans (by rw [e3, e6]; rfl),
    h4.trans (by rw [e4, e7]; rfl),
    h5.trans (by rw [e5, e8]; rfl),
    h6.trans (by rw [e3, e9]; rfl),
    h7.trans (by rw [e4, e10]; rfl),
    h8.trans (by rw [e5, e11]; rfl), ha⟩

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Rnn.Frame
public import proofs.«01_k».proof.Proof.RnnBits.Frame
public import proofs.«01_k».proof.Proof.Mlp.Value
public import proofs.«01_k».proof.Proof.Weights.Up
public import proofs.«01_k».proof.Proof.Weights.Down
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Mix.Value
public import proofs.«01_k».proof.Proof.Proj.Value
public import proofs.«01_k».proof.Proof.Adam.Matrices
public import proofs.«01_k».proof.Proof.Bias.Value
public import proofs.«01_k».proof.Proof.Sum.Chips
public import proofs.«01_k».proof.Proof.Adam.Small7
public import proofs.«01_k».proof.Proof.Adam.Small11
public import proofs.«01_k».proof.Proof.Adam.Small12
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import Idealize.ShloMosaic.Adequacy
public import Idealize.ShloMosaic.Init

@[expose] public section

noncomputable section

namespace Cert.Proof

open Idealize.ShloMosaic Idealize.SL.Sem Cert.Kernel

/-! ## The frames -/

theorem frame_kernel : Cert.quiescent_Kernel :=
  fun m ρ _ => Cert.Kernel.Rnn.frame (F := Bits) m ρ

theorem frame_kernelIdeal : Cert.quiescent_KernelIdeal :=
  fun m ρ _ => Cert.KernelIdeal.Rnn.frame (F := Ideal) m ρ

/-- The reference has no semaphore. -/
theorem frame_reference : Cert.quiescent_ReferenceIdeal :=
  fun m ρ _ => (θ_run Cert.ReferenceIdeal.defs _ _).mono
    (fun _ h => ⟨fun c => (h c).2.2.2.2.2.2, sem_eq_zero_of_no_sems (by decide) _⟩) (Cert.ReferenceIdeal.Value.run (F := Ideal) m ρ)

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal :=
  fun m ρ _ => (θ_run Cert.Reference2Ideal.defs _ _).mono
    (fun _ h => ⟨fun c => (h c).2.2.2.2.2.2.2.2, sem_eq_zero_of_no_sems (by decide) _⟩) (Cert.Reference2Ideal.Value.run (F := Ideal) m ρ)

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3 : Cert.quiescent_Reference3Ideal :=
  fun m ρ _ => (θ_run Cert.Reference3Ideal.defs _ _).mono
    (fun _ h => ⟨fun c => (h c).2, sem_eq_zero_of_no_sems (by decide) _⟩) (Cert.Reference3Ideal.Value.run (F := Ideal) m ρ)

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4 : Cert.quiescent_Reference4Ideal :=
  fun m ρ _ => (θ_run Cert.Reference4Ideal.defs _ _).mono
    (fun _ h => ⟨fun c => (h c).2, sem_eq_zero_of_no_sems (by decide) _⟩) (Cert.Reference4Ideal.Value.run (F := Ideal) m ρ)

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5 : Cert.quiescent_Reference5Ideal :=
  fun m ρ _ => (θ_run Cert.Reference5Ideal.defs _ _).mono
    (fun _ h => ⟨fun c => (h c).2.2.2.2.2, sem_eq_zero_of_no_sems (by decide) _⟩) (Cert.Reference5Ideal.Value.run (F := Ideal) m ρ)

theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8 : Cert.quiescent_Reference8Ideal :=
  fun m ρ _ => (θ_run Cert.Reference8Ideal.defs _ _).mono
    (fun _ h => ⟨fun c => (h c).2.2.2, sem_eq_zero_of_no_sems (by decide) _⟩) (Cert.Reference8Ideal.Value.run (F := Ideal) m ρ)

theorem frame_kernel9 : Cert.quiescent_Kernel9 := fun m ρ _ => Cert.Kernel9.Gen.frame m ρ

theorem frame_kernel9Ideal : Cert.quiescent_Kernel9Ideal := fun m ρ _ => Cert.Kernel9Ideal.Gen.frame m ρ

theorem frame_reference9 : Cert.quiescent_Reference9Ideal :=
  fun m ρ _ => (θ_run Cert.Reference9Ideal.defs _ _).mono
    (fun _ h => ⟨fun c => (h c).2.2.2, sem_eq_zero_of_no_sems (by decide) _⟩) (Cert.Reference9Ideal.Value.run (F := Ideal) m ρ)

theorem frame_kernel10 : Cert.quiescent_Kernel10 := fun m ρ _ => Cert.Kernel10.Gen.frame m ρ

theorem frame_kernel10Ideal : Cert.quiescent_Kernel10Ideal := fun m ρ _ => Cert.Kernel10Ideal.Gen.frame m ρ

theorem frame_reference10 : Cert.quiescent_Reference10Ideal :=
  fun m ρ _ => (θ_run Cert.Reference10Ideal.defs _ _).mono
    (fun _ h => ⟨fun c => (h c).2.2.2, sem_eq_zero_of_no_sems (by decide) _⟩) (Cert.Reference10Ideal.Value.run (F := Ideal) m ρ)

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6 : Cert.quiescent_Reference6Ideal :=
  fun m ρ _ => (θ_run Cert.Reference6Ideal.defs _ _).mono
    (fun _ h => ⟨fun c => (h c).2.2.2.2.2, sem_eq_zero_of_no_sems (by decide) _⟩) (Cert.Reference6Ideal.Value.run (F := Ideal) m ρ)

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7 : Cert.quiescent_Reference7Ideal :=
  fun m ρ _ => (θ_run Cert.Reference7Ideal.defs _ _).mono
    (fun _ h => ⟨fun c => (h c).2.2.2.2.2.2.2.2.2, sem_eq_zero_of_no_sems (by decide) _⟩) (Cert.Reference7Ideal.Value.run (F := Ideal) m ρ)

theorem frame_kernel11 : Cert.quiescent_Kernel11 := fun m ρ _ => Cert.Kernel11.Gen.frame m ρ

theorem frame_kernel11Ideal : Cert.quiescent_Kernel11Ideal := fun m ρ _ => Cert.Kernel11Ideal.Gen.frame m ρ

theorem frame_reference11 : Cert.quiescent_Reference11Ideal :=
  fun m ρ _ => (θ_run Cert.Reference11Ideal.defs _ _).mono
    (fun _ h => ⟨fun c => (h c).2.2.2.2.2.2.2.2.2, sem_eq_zero_of_no_sems (by decide) _⟩) (Cert.Reference11Ideal.Value.run (F := Ideal) m ρ)

theorem frame_kernel12 : Cert.quiescent_Kernel12 := fun m ρ _ => Cert.Kernel12.Gen.frame m ρ

theorem frame_kernel12Ideal : Cert.quiescent_Kernel12Ideal := fun m ρ _ => Cert.Kernel12Ideal.Gen.frame m ρ

theorem frame_reference12 : Cert.quiescent_Reference12Ideal :=
  fun m ρ _ => (θ_run Cert.Reference12Ideal.defs _ _).mono
    (fun _ h => ⟨fun c => (h c).2.2.2.2.2.2.2.2.2, sem_eq_zero_of_no_sems (by decide) _⟩) (Cert.Reference12Ideal.Value.run (F := Ideal) m ρ)

theorem frame_kernel13 : Cert.quiescent_Kernel13 := fun m ρ _ => Cert.Kernel13.Gen.frame m ρ

theorem frame_kernel13Ideal : Cert.quiescent_Kernel13Ideal := fun m ρ _ => Cert.Kernel13Ideal.Gen.frame m ρ

theorem frame_reference13 : Cert.quiescent_Reference13Ideal :=
  fun m ρ _ => (θ_run Cert.Reference13Ideal.defs _ _).mono
    (fun _ h => ⟨fun c => (h c).2, sem_eq_zero_of_no_sems (by decide) _⟩) (Cert.Reference13Ideal.Value.run (F := Ideal) m ρ)

theorem frame_kernel14 : Cert.quiescent_Kernel14 := fun m ρ _ => Cert.Kernel14.Gen.frame m ρ

theorem frame_kernel14Ideal : Cert.quiescent_Kernel14Ideal := fun m ρ _ => Cert.Kernel14Ideal.Gen.frame m ρ

theorem frame_reference14 : Cert.quiescent_Reference14Ideal :=
  fun m ρ _ => (θ_run Cert.Reference14Ideal.defs _ _).mono
    (fun _ h => ⟨fun c => (h c).2, sem_eq_zero_of_no_sems (by decide) _⟩) (Cert.Reference14Ideal.Value.run (F := Ideal) m ρ)

theorem frame_kernel15 : Cert.quiescent_Kernel15 := fun m ρ _ => Cert.Kernel15.Gen.frame m ρ

theorem frame_kernel15Ideal : Cert.quiescent_Kernel15Ideal := fun m ρ _ => Cert.Kernel15Ideal.Gen.frame m ρ

theorem frame_reference15 : Cert.quiescent_Reference15Ideal :=
  fun m ρ _ => (θ_run Cert.Reference15Ideal.defs _ _).mono
    (fun _ h => ⟨fun c => (h c).2, sem_eq_zero_of_no_sems (by decide) _⟩) (Cert.Reference15Ideal.Value.run (F := Ideal) m ρ)

theorem frame_kernel16 : Cert.quiescent_Kernel16 := fun m ρ _ => Cert.Kernel16.Gen.frame m ρ

theorem frame_kernel16Ideal : Cert.quiescent_Kernel16Ideal := fun m ρ _ => Cert.Kernel16Ideal.Gen.frame m ρ

theorem frame_reference16 : Cert.quiescent_Reference16Ideal :=
  fun m ρ _ => (θ_run Cert.Reference16Ideal.defs _ _).mono
    (fun _ h => ⟨fun c => (h c).2, sem_eq_zero_of_no_sems (by decide) _⟩) (Cert.Reference16Ideal.Value.run (F := Ideal) m ρ)

theorem frame_kernel17 : Cert.quiescent_Kernel17 := fun m ρ _ => Cert.Kernel17.Gen.frame m ρ

theorem frame_kernel17Ideal : Cert.quiescent_Kernel17Ideal := fun m ρ _ => Cert.Kernel17Ideal.Gen.frame m ρ

theorem frame_reference17 : Cert.quiescent_Reference17Ideal :=
  fun m ρ _ => (θ_run Cert.Reference17Ideal.defs _ _).mono
    (fun _ h => ⟨fun c => (h c).2, sem_eq_zero_of_no_sems (by decide) _⟩) (Cert.Reference17Ideal.Value.run (F := Ideal) m ρ)

/-! ## The values -/

/-- The MLP call: every row's results are the reference's, and the sums over the tiles are its sums over all rows. -/
theorem value2 : Cert.algebraic_Kernel2Ideal_Reference2Ideal := Cert.Mlp.value

/-- The gradient of `w_up`: the accumulated blocks are the reference's sum over all rows. -/
theorem value3 : Cert.algebraic_Kernel3Ideal_Reference3Ideal := by
  intro m g m' g' _ hm
  refine ⟨_, Cert.Kernel3Ideal.Value.run_blocks (F := Ideal) m g, ?_⟩
  refine (θ_run Cert.Reference3Ideal.defs _ _).mono (fun r h c => ⟨(h c).1.trans ?_, (h c).2⟩)
    (Cert.Reference3Ideal.Value.run (F := Ideal) m' g')
  rw [(hm c).1, (hm c).2]
  exact (Cert.Kernel3Ideal.Sum.final m c).symm

/-- The gradient of `w_down`: the accumulated blocks are the reference's sum over all rows. -/
theorem value4 : Cert.algebraic_Kernel4Ideal_Reference4Ideal := by
  intro m g m' g' _ hm
  refine ⟨_, Cert.Kernel4Ideal.Value.run_blocks (F := Ideal) m g, ?_⟩
  refine (θ_run Cert.Reference4Ideal.defs _ _).mono (fun r h c => ⟨(h c).1.trans ?_, (h c).2⟩)
    (Cert.Reference4Ideal.Value.run (F := Ideal) m' g')
  rw [(hm c).1, (hm c).2]
  exact (Cert.Kernel4Ideal.Sum.final m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts,
    frame_kernel, frame_kernelIdeal, frame_reference, frame_kernel2, frame_kernel2Ideal, frame_reference2,
    frame_kernel3, frame_kernel3Ideal, frame_reference3, frame_kernel4, frame_kernel4Ideal, frame_reference4,
    frame_kernel5, frame_kernel5Ideal, frame_reference5,
    frame_kernel8, frame_kernel8Ideal, frame_reference8,
    frame_kernel9, frame_kernel9Ideal, frame_reference9,
    frame_kernel10, frame_kernel10Ideal, frame_reference10,
    frame_kernel6, frame_kernel6Ideal, frame_reference6,
    frame_kernel7, frame_kernel7Ideal, frame_reference7,
    frame_kernel11, frame_kernel11Ideal, frame_reference11,
    frame_kernel12, frame_kernel12Ideal, frame_reference12,
    frame_kernel13, frame_kernel13Ideal, frame_reference13,
    frame_kernel14, frame_kernel14Ideal, frame_reference14,
    frame_kernel15, frame_kernel15Ideal, frame_reference15,
    frame_kernel16, frame_kernel16Ideal, frame_reference16,
    frame_kernel17, frame_kernel17Ideal, frame_reference17,
    trivial, trivial, value2, trivial, value3, trivial, value4,
    trivial, Cert.Mix.value,
    trivial, Cert.Adam.value8,
    trivial, Cert.Adam.value9,
    trivial, Cert.Adam.value10,
    trivial, Cert.Proj.value,
    trivial, Cert.Adam.value7,
    trivial, Cert.Adam.value11,
    trivial, Cert.Adam.value12,
    trivial, Cert.Sum.value13,
    trivial, Cert.Sum.value14,
    trivial, Cert.Sum.value15,
    trivial, Cert.Sum.value16,
    trivial, Cert.Bias.value⟩

end Cert.Proof

end
